-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x16384x1024 : Shape := ⟨3, ![2, 16384, 1024]⟩
abbrev S2x3x1024 : Shape := ⟨3, ![2, 3, 1024]⟩
abbrev S1024x3072 : Shape := ⟨2, ![1024, 3072]⟩
abbrev S3072 : Shape := ⟨1, ![3072]⟩
abbrev S3x1536 : Shape := ⟨2, ![3, 1536]⟩
abbrev S1536 : Shape := ⟨1, ![1536]⟩
abbrev S4x128x128 : Shape := ⟨3, ![4, 128, 128]⟩
abbrev S512 : Shape := ⟨1, ![512]⟩
abbrev S_ : Shape := ⟨0, ![]⟩

class Facts : Prop where
  bcast_S_S2x16384x1024 : S_.BroadcastsInDim S2x16384x1024 (![] : Fin 0 → Fin S2x16384x1024.rank)
  bcast_S_S2x3x1024 : S_.BroadcastsInDim S2x3x1024 (![] : Fin 0 → Fin S2x3x1024.rank)
  bcast_S_S1024x3072 : S_.BroadcastsInDim S1024x3072 (![] : Fin 0 → Fin S1024x3072.rank)
  bcast_S_S3072 : S_.BroadcastsInDim S3072 (![] : Fin 0 → Fin S3072.rank)
  bcast_S_S3x1536 : S_.BroadcastsInDim S3x1536 (![] : Fin 0 → Fin S3x1536.rank)
  bcast_S_S1536 : S_.BroadcastsInDim S1536 (![] : Fin 0 → Fin S1536.rank)
  bcast_S_S4x128x128 : S_.BroadcastsInDim S4x128x128 (![] : Fin 0 → Fin S4x128x128.rank)
  bcast_S_S512 : S_.BroadcastsInDim S512 (![] : Fin 0 → Fin S512.rank)

variable [Facts]

def fn_part1 {F : FTy → Type} [FloatOps F] (main_arg6 : FVec F S4x128x128 .f32) (main_arg7 : FVec F S512 .f32) (main_v2 : IVec S2x16384x1024 1) (main_v5 : IVec S2x3x1024 1) (main_v8 : IVec S1024x3072 1) (main_v11 : IVec S3072 1) (main_v14 : IVec S3x1536 1) (main_v17 : IVec S1536 1) : IVec S2x16384x1024 1 × IVec S2x3x1024 1 × IVec S1024x3072 1 × IVec S3072 1 × IVec S3x1536 1 × IVec S1536 1 × IVec S4x128x128 1 × IVec S512 1 :=
  let main_v18 : FVec F S4x128x128 .f32 := Host.absf main_arg6
  let main_cst_5 : FVec F S_ .f32 := constant S_ .f32 0x7F800000#32
  let main_v19 : FVec F S4x128x128 .f32 := broadcastInDim S4x128x128 ![] bcast_S_S4x128x128 main_cst_5
  let main_v20 : IVec S4x128x128 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  (main_v2, main_v5, main_v8, main_v11, main_v14, main_v17, main_v20, main_v23)

def fn {F : FTy → Type} [FloatOps F] (main_arg0 : FVec F S2x16384x1024 .f32) (main_arg1 : FVec F S2x3x1024 .f32) (main_arg2 : FVec F S1024x3072 .f32) (main_arg3 : FVec F S3072 .f32) (main_arg4 : FVec F S3x1536 .f32) (main_arg5 : FVec F S1536 .f32) (main_arg6 : FVec F S4x128x128 .f32) (main_arg7 : FVec F S512 .f32) : IVec S2x16384x1024 1 × IVec S2x3x1024 1 × IVec S1024x3072 1 × IVec S3072 1 × IVec S3x1536 1 × IVec S1536 1 × IVec S4x128x128 1 × IVec S512 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : FVec F S2x3x1024 .f32 := Host.absf main_arg1
  let main_cst_0 : FVec F S_ .f32 := constant S_ .f32 0x7F800000#32
  let main_v4 : FVec F S2x3x1024 .f32 := broadcastInDim S2x3x1024 ![] bcast_S_S2x3x1024 main_cst_0
  let main_v5 : IVec S2x3x1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S3072 .f32 := Host.absf main_arg3
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_v12 : FVec F S3x1536 .f32 := Host.absf main_arg4
  let main_cst_3 : FVec F S_ .f32 := constant S_ .f32 0x7F800000#32
  let main_v13 : FVec F S3x1536 .f32 := broadcastInDim S3x1536 ![] bcast_S_S3x1536 main_cst_3
  let main_v14 : IVec S3x1536 1 := cmpf .olt main_v12 main_v13
  let main_v15 : FVec F S1536 .f32 := Host.absf main_arg5
  let main_cst_4 : FVec F S_ .f32 := constant S_ .f32 0x7F800000#32
  let main_v16 : FVec F S1536 .f32 := broadcastInDim S1536 ![] bcast_S_S1536 main_cst_4
  let main_v17 : IVec S1536 1 := cmpf .olt main_v15 main_v16
  fn_part1 (F := F) main_arg6 main_arg7 main_v2 main_v5 main_v8 main_v11 main_v14 main_v17
-- ==== Kernel.lean ====
abbrev S2x16384x1024 : Shape := ⟨3, ![2, 16384, 1024]⟩
abbrev S2x3x1024 : Shape := ⟨3, ![2, 3, 1024]⟩
abbrev S1024x3072 : Shape := ⟨2, ![1024, 3072]⟩
abbrev S3072 : Shape := ⟨1, ![3072]⟩
abbrev S3x1536 : Shape := ⟨2, ![3, 1536]⟩
abbrev S1536 : Shape := ⟨1, ![1536]⟩
abbrev S4x128x128 : Shape := ⟨3, ![4, 128, 128]⟩
abbrev S512 : Shape := ⟨1, ![512]⟩
abbrev S2 : Shape := ⟨1, ![2]⟩
abbrev S4 : Shape := ⟨1, ![4]⟩
abbrev S4x2x128x256 : Shape := ⟨4, ![4, 2, 128, 256]⟩
abbrev S1x2x1x1 : Shape := ⟨4, ![1, 2, 1, 1]⟩
abbrev S4x1x1x1 : Shape := ⟨4, ![4, 1, 1, 1]⟩
abbrev S_ : Shape := ⟨0, ![]⟩
abbrev S1x3072 : Shape := ⟨2, ![1, 3072]⟩
abbrev S1x1536 : Shape := ⟨2, ![1, 1536]⟩
abbrev S1x512 : Shape := ⟨2, ![1, 512]⟩
abbrev S2x16x4x1024x128 : Shape := ⟨5, ![2, 16, 4, 1024, 128]⟩
abbrev S2x16384x512 : Shape := ⟨3, ![2, 16384, 512]⟩
abbrev S1x16x1024 : Shape := ⟨3, ![1, 16, 1024]⟩
abbrev S1x1024x1024 : Shape := ⟨3, ![1, 1024, 1024]⟩
abbrev S1x3x1024 : Shape := ⟨3, ![1, 3, 1024]⟩
abbrev S1x1x4x1024x128 : Shape := ⟨5, ![1, 1, 4, 1024, 128]⟩
abbrev S1x1024x512 : Shape := ⟨3, ![1, 1024, 512]⟩
abbrev S1056x512 : Shape := ⟨2, ![1056, 512]⟩
abbrev S1x1x1024 : Shape := ⟨3, ![1, 1, 1024]⟩
abbrev S1x1024 : Shape := ⟨2, ![1, 1024]⟩
abbrev S16x1024 : Shape := ⟨2, ![16, 1024]⟩
abbrev S1024x1024 : Shape := ⟨2, ![1024, 1024]⟩
abbrev S1056x1024 : Shape := ⟨2, ![1056, 1024]⟩
abbrev S1024x512 : Shape := ⟨2, ![1024, 512]⟩
abbrev S128x128 : Shape := ⟨2, ![128, 128]⟩
abbrev S1x1x1x128x128 : Shape := ⟨5, ![1, 1, 1, 128, 128]⟩
abbrev S16x512 : Shape := ⟨2, ![16, 512]⟩
abbrev S1024x1 : Shape := ⟨2, ![1024, 1]⟩
abbrev S1x1x128x256 : Shape := ⟨4, ![1, 1, 128, 256]⟩
abbrev S128x256 : Shape := ⟨2, ![128, 256]⟩
abbrev S256x128 : Shape := ⟨2, ![256, 128]⟩
abbrev S1024x128 : Shape := ⟨2, ![1024, 128]⟩
abbrev S1x128x128 : Shape := ⟨3, ![1, 128, 128]⟩

abbrev nBuf : Space → Nat
  | .hbm => 36
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S2x3x1024, .f32⟩
  | .hbm, ⟨2, _⟩ => ⟨S1024x3072, .f32⟩
  | .hbm, ⟨3, _⟩ => ⟨S3072, .f32⟩
  | .hbm, ⟨4, _⟩ => ⟨S3x1536, .f32⟩
  | .hbm, ⟨5, _⟩ => ⟨S1536, .f32⟩
  | .hbm, ⟨6, _⟩ => ⟨S4x128x128, .f32⟩
  | .hbm, ⟨7, _⟩ => ⟨S512, .f32⟩
  | .hbm, ⟨8, _⟩ => ⟨S2, .i32⟩
  | .hbm, ⟨9, _⟩ => ⟨S4, .i32⟩
  | .hbm, ⟨10, _⟩ => ⟨S4x2x128x256, .i32⟩
  | .hbm, ⟨11, _⟩ => ⟨S4x2x128x256, .i32⟩
  | .hbm, ⟨12, _⟩ => ⟨S1x2x1x1, .i32⟩
  | .hbm, ⟨13, _⟩ => ⟨S4x2x128x256, .i32⟩
  | .hbm, ⟨14, _⟩ => ⟨S4x2x128x256, .i32⟩
  | .hbm, ⟨15, _⟩ => ⟨S4x2x128x256, .i32⟩
  | .hbm, ⟨16, _⟩ => ⟨S4x1x1x1, .i32⟩
  | .hbm, ⟨17, _⟩ => ⟨S4x1x1x1, .i32⟩
  | .hbm, ⟨18, _⟩ => ⟨S4x2x128x256, .i32⟩
  | .hbm, ⟨19, _⟩ => ⟨S4x2x128x256, .i1⟩
  | .hbm, ⟨20, _⟩ => ⟨S4x2x128x256, .i32⟩
  | .hbm, ⟨21, _⟩ => ⟨S4x2x128x256, .i1⟩
  | .hbm, ⟨22, _⟩ => ⟨S4x2x128x256, .i1⟩
  | .hbm, ⟨23, _⟩ => ⟨S_, .bf16⟩
  | .hbm, ⟨24, _⟩ => ⟨S4x2x128x256, .bf16⟩
  | .hbm, ⟨25, _⟩ => ⟨S_, .bf16⟩
  | .hbm, ⟨26, _⟩ => ⟨S4x2x128x256, .bf16⟩
  | .hbm, ⟨27, _⟩ => ⟨S4x2x128x256, .bf16⟩
  | .hbm, ⟨28, _⟩ => ⟨S1x3072, .f32⟩
  | .hbm, ⟨29, _⟩ => ⟨S1x1536, .f32⟩
  | .hbm, ⟨30, _⟩ => ⟨S4x128x128, .bf16⟩
  | .hbm, ⟨31, _⟩ => ⟨S1x512, .f32⟩
  | .hbm, ⟨32, _⟩ => ⟨S2x16x4x1024x128, .f32⟩
  | .hbm, ⟨33, _⟩ => ⟨S2x16x4x1024x128, .f32⟩
  | .hbm, ⟨34, _⟩ => ⟨S2x16x4x1024x128, .f32⟩
  | .hbm, ⟨35, _⟩ => ⟨S2x16384x512, .bf16⟩
  | .local _ .vmem, ⟨0, _⟩ => ⟨S1x16x1024, .f32⟩
  | .local _ .vmem, ⟨1, _⟩ => ⟨S1x16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x3x1024, .f32⟩
  | .local _ .vmem, ⟨7, _⟩ => ⟨S1x3x1024, .f32⟩
  | .local _ .vmem, ⟨8, _⟩ => ⟨S1024x3072, .f32⟩
  | .local _ .vmem, ⟨9, _⟩ => ⟨S1x3072, .f32⟩
  | .local _ .vmem, ⟨10, _⟩ => ⟨S3x1536, .f32⟩
  | .local _ .vmem, ⟨11, _⟩ => ⟨S1x1536, .f32⟩
  | .local _ .vmem, ⟨12, _⟩ => ⟨S4x128x128, .bf16⟩
  | .local _ .vmem, ⟨13, _⟩ => ⟨S1x512, .f32⟩
  | .local _ .vmem, ⟨14, _⟩ => ⟨S4x2x128x256, .bf16⟩
  | .local _ .vmem, ⟨15, _⟩ => ⟨S1x1x4x1024x128, .f32⟩
  | .local _ .vmem, ⟨16, _⟩ => ⟨S1x1x4x1024x128, .f32⟩
  | .local _ .vmem, ⟨17, _⟩ => ⟨S1x1x4x1024x128, .f32⟩
  | .local _ .vmem, ⟨18, _⟩ => ⟨S1x1x4x1024x128, .f32⟩
  | .local _ .vmem, ⟨19, _⟩ => ⟨S1x1x4x1024x128, .f32⟩
  | .local _ .vmem, ⟨20, _⟩ => ⟨S1x1x4x1024x128, .f32⟩
  | .local _ .vmem, ⟨21, _⟩ => ⟨S1x1024x512, .bf16⟩
  | .local _ .vmem, ⟨22, _⟩ => ⟨S1x1024x512, .bf16⟩
  | .local _ .vmem, ⟨23, _⟩ => ⟨S1056x512, .f32⟩
  | .local _ .vmem, ⟨24, _⟩ => ⟨S1056x512, .bf16⟩
  | .local _ .vmem, ⟨25, _⟩ => ⟨S1024x3072, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x2x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x4x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2x16384x1024 : Shape := ⟨3, ![2, 16384, 1024]⟩
abbrev S2x3x1024 : Shape := ⟨3, ![2, 3, 1024]⟩
abbrev S1024x3072 : Shape := ⟨2, ![1024, 3072]⟩
abbrev S3072 : Shape := ⟨1, ![3072]⟩
abbrev S3x1536 : Shape := ⟨2, ![3, 1536]⟩
abbrev S1536 : Shape := ⟨1, ![1536]⟩
abbrev S4x128x128 : Shape := ⟨3, ![4, 128, 128]⟩
abbrev S512 : Shape := ⟨1, ![512]⟩
abbrev S2x1x1024 : Shape := ⟨3, ![2, 1, 1024]⟩
abbrev S2x1024 : Shape := ⟨2, ![2, 1024]⟩
abbrev S_ : Shape := ⟨0, ![]⟩
abbrev S2x16384x3072 : Shape := ⟨3, ![2, 16384, 3072]⟩
abbrev S1x1x3072 : Shape := ⟨3, ![1, 1, 3072]⟩
abbrev S2x16384x512 : Shape := ⟨3, ![2, 16384, 512]⟩
abbrev S3x512 : Shape := ⟨2, ![3, 512]⟩
abbrev S2x16386x512 : Shape := ⟨3, ![2, 16386, 512]⟩
abbrev S1x512 : Shape := ⟨2, ![1, 512]⟩
abbrev S1x1x512 : Shape := ⟨3, ![1, 1, 512]⟩
abbrev S2x16384x128 : Shape := ⟨3, ![2, 16384, 128]⟩
abbrev S16384 : Shape := ⟨1, ![16384]⟩
abbrev S1x16384x1 : Shape := ⟨3, ![1, 16384, 1]⟩
abbrev S1x128x128 : Shape := ⟨3, ![1, 128, 128]⟩
abbrev S128x128 : Shape := ⟨2, ![128, 128]⟩
abbrev S2x16x8x128x4x128 : Shape := ⟨6, ![2, 16, 8, 128, 4, 128]⟩
abbrev S2x16x4x128x8x128 : Shape := ⟨6, ![2, 16, 4, 128, 8, 128]⟩
abbrev S2x16x4x1024x128 : Shape := ⟨5, ![2, 16, 4, 1024, 128]⟩

abbrev nBuf : Space → Nat
  | .hbm => 197
  | .vmem => 0
  | .smem => 0
  | _ => 0

abbrev hbmTy0_0 (i : Nat) : BufTy := match i % 128 with
  | 0 => ⟨S2x16384x1024, .f32⟩
  | 1 => ⟨S2x3x1024, .f32⟩
  | 2 => ⟨S1024x3072, .f32⟩
  | 3 => ⟨S3072, .f32⟩
  | 4 => ⟨S3x1536, .f32⟩
  | 5 => ⟨S1536, .f32⟩
  | 6 => ⟨S4x128x128, .f32⟩
  | 7 => ⟨S512, .f32⟩
  | 8 => ⟨S2x1x1024, .f32⟩
  | 9 => ⟨S2x1024, .f32⟩
  | 10 => ⟨S2x1x1024, .f32⟩
  | 11 => ⟨S2x1024, .f32⟩
  | 12 => ⟨S2x1x1024, .f32⟩
  | 13 => ⟨S_, .f32⟩
  | 14 => ⟨S2x1x1024, .f32⟩
  | 15 => ⟨S2x1x1024, .f32⟩
  | 16 => ⟨S2x16384x1024, .f32⟩
  | 17 => ⟨S2x16384x1024, .f32⟩
  | 18 => ⟨S2x1x1024, .f32⟩
  | 19 => ⟨S2x16384x1024, .f32⟩
  | 20 => ⟨S2x16384x1024, .f32⟩
  | 21 => ⟨S2x16384x3072, .f32⟩
  | 22 => ⟨S1x1x3072, .f32⟩
  | 23 => ⟨S2x16384x3072, .f32⟩
  | 24 => ⟨S2x16384x3072, .f32⟩
  | 25 => ⟨S2x16384x512, .f32⟩
  | 26 => ⟨S2x16384x512, .f32⟩
  | 27 => ⟨S2x16384x512, .f32⟩
  | 28 => ⟨S2x16384x512, .f32⟩
  | 29 => ⟨S2x16384x512, .f32⟩
  | 30 => ⟨S2x16384x512, .f32⟩
  | 31 => ⟨S3x512, .f32⟩
  | 32 => ⟨S512, .f32⟩
  | 33 => ⟨S_, .i32⟩
  | 34 => ⟨S_, .f32⟩
  | 35 => ⟨S2x16386x512, .f32⟩
  | 36 => ⟨S2x16384x512, .f32⟩
  | 37 => ⟨S1x512, .f32⟩
  | 38 => ⟨S512, .f32⟩
  | 39 => ⟨S1x1x512, .f32⟩
  | 40 => ⟨S2x16384x512, .f32⟩
  | 41 => ⟨S2x16384x512, .f32⟩
  | 42 => ⟨S1x1x512, .f32⟩
  | 43 => ⟨S2x16384x512, .f32⟩
  | 44 => ⟨S2x16384x512, .f32⟩
  | 45 => ⟨S2x16384x512, .f32⟩
  | 46 => ⟨S1x512, .f32⟩
  | 47 => ⟨S512, .f32⟩
  | 48 => ⟨S1x1x512, .f32⟩
  | 49 => ⟨S2x16384x512, .f32⟩
  | 50 => ⟨S2x16384x512, .f32⟩
  | 51 => ⟨S2x16384x512, .f32⟩
  | 52 => ⟨S2x16384x512, .f32⟩
  | 53 => ⟨S1x512, .f32⟩
  | 54 => ⟨S512, .f32⟩
  | 55 => ⟨S1x1x512, .f32⟩
  | 56 => ⟨S2x16384x512, .f32⟩
  | 57 => ⟨S2x16384x512, .f32⟩
  | 58 => ⟨S2x16384x512, .f32⟩
  | 59 => ⟨S2x16384x512, .f32⟩
  | 60 => ⟨S2x16384x512, .f32⟩
  | 61 => ⟨S_, .f32⟩
  | 62 => ⟨S2x16384x512, .f32⟩
  | 63 => ⟨S2x16384x512, .f32⟩
  | 64 => ⟨S_, .f32⟩
  | 65 => ⟨S2x16384x512, .f32⟩
  | 66 => ⟨S2x16384x512, .f32⟩
  | 67 => ⟨S2x16384x512, .f32⟩
  | 68 => ⟨S2x16384x512, .f32⟩
  | 69 => ⟨S2x16384x128, .f32⟩
  | 70 => ⟨S_, .f32⟩
  | 71 => ⟨S_, .f32⟩
  | 72 => ⟨S2x16384x128, .f32⟩
  | 73 => ⟨S16384, .i32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i32⟩
  | 86 => ⟨S16384, .i32⟩
  | 87 => ⟨S16384, .f32⟩
  | 88 => ⟨S1x16384x1, .f32⟩
  | 89 => ⟨S2x16384x128, .f32⟩
  | 90 => ⟨S2x16384x128, .f32⟩
  | 91 => ⟨S2x16384x128, .f32⟩
  | 92 => ⟨S1x128x128, .f32⟩
  | 93 => ⟨S128x128, .f32⟩
  | 94 => ⟨S2x16384x128, .f32⟩
  | 95 => ⟨S2x16384x128, .f32⟩
  | 96 => ⟨S_, .f32⟩
  | 97 => ⟨S_, .f32⟩
  | 98 => ⟨S2x16384x128, .f32⟩
  | 99 => ⟨S16384, .i32⟩
  | 100 => ⟨S_, .i32⟩
  | 101 => ⟨S16384, .i32⟩
  | 102 => ⟨S16384, .i32⟩
  | 103 => ⟨S_, .i32⟩
  | 104 => ⟨S16384, .i32⟩
  | 105 => ⟨S16384, .i32⟩
  | 106 => ⟨S_, .i32⟩
  | 107 => ⟨S16384, .i32⟩
  | 108 => ⟨S16384, .i32⟩
  | 109 => ⟨S_, .i32⟩
  | 110 => ⟨S16384, .i32⟩
  | 111 => ⟨S16384, .i32⟩
  | 112 => ⟨S16384, .i32⟩
  | 113 => ⟨S16384, .f32⟩
  | 114 => ⟨S1x16384x1, .f32⟩
  | 115 => ⟨S2x16384x128, .f32⟩
  | 116 => ⟨S2x16384x128, .f32⟩
  | 117 => ⟨S2x16384x128, .f32⟩
  | 118 => ⟨S1x128x128, .f32⟩
  | 119 => ⟨S128x128, .f32⟩
  | 120 => ⟨S2x16384x128, .f32⟩
  | 121 => ⟨S2x16384x128, .f32⟩
  | 122 => ⟨S_, .f32⟩
  | 123 => ⟨S_, .f32⟩
  | 124 => ⟨S2x16384x128, .f32⟩
  | 125 => ⟨S16384, .i32⟩
  | 126 => ⟨S_, .i32⟩
  | 127 => ⟨S16384, .i32⟩
  | _ => ⟨S2x16384x1024, .f32⟩

abbrev hbmTy0_1 (i : Nat) : BufTy := match i % 128 with
  | 0 => ⟨S16384, .i32⟩
  | 1 => ⟨S_, .i32⟩
  | 2 => ⟨S16384, .i32⟩
  | 3 => ⟨S16384, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i32⟩
  | 10 => ⟨S16384, .i32⟩
  | 11 => ⟨S16384, .f32⟩
  | 12 => ⟨S1x16384x1, .f32⟩
  | 13 => ⟨S2x16384x128, .f32⟩
  | 14 => ⟨S2x16384x128, .f32⟩
  | 15 => ⟨S2x16384x128, .f32⟩
  | 16 => ⟨S1x128x128, .f32⟩
  | 17 => ⟨S128x128, .f32⟩
  | 18 => ⟨S2x16384x128, .f32⟩
  | 19 => ⟨S2x16384x128, .f32⟩
  | 20 => ⟨S_, .f32⟩
  | 21 => ⟨S_, .f32⟩
  | 22 => ⟨S2x16384x128, .f32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i32⟩
  | 36 => ⟨S16384, .i32⟩
  | 37 => ⟨S16384, .f32⟩
  | 38 => ⟨S1x16384x1, .f32⟩
  | 39 => ⟨S2x16384x128, .f32⟩
  | 40 => ⟨S2x16384x128, .f32⟩
  | 41 => ⟨S2x16384x128, .f32⟩
  | 42 => ⟨S1x128x128, .f32⟩
  | 43 => ⟨S128x128, .f32⟩
  | 44 => ⟨S2x16384x128, .f32⟩
  | 45 => ⟨S2x16384x512, .f32⟩
  | 46 => ⟨S1x1x512, .f32⟩
  | 47 => ⟨S2x16384x512, .f32⟩
  | 48 => ⟨S2x16384x512, .f32⟩
  | 49 => ⟨S2x16384x512, .f32⟩
  | 50 => ⟨S2x16384x512, .f32⟩
  | 51 => ⟨S_, .f32⟩
  | 52 => ⟨S2x16384x512, .f32⟩
  | 53 => ⟨S2x16384x512, .f32⟩
  | 54 => ⟨S_, .f32⟩
  | 55 => ⟨S2x16384x512, .f32⟩
  | 56 => ⟨S2x16384x512, .f32⟩
  | 57 => ⟨S2x16384x512, .f32⟩
  | 58 => ⟨S2x16384x512, .f32⟩
  | 59 => ⟨S2x16x8x128x4x128, .f32⟩
  | 60 => ⟨S2x16x4x128x8x128, .f32⟩
  | 61 => ⟨S2x16x4x1024x128, .f32⟩
  | 62 => ⟨S2x16x8x128x4x128, .f32⟩
  | 63 => ⟨S2x16x4x128x8x128, .f32⟩
  | 64 => ⟨S2x16x4x1024x128, .f32⟩
  | 65 => ⟨S2x16x8x128x4x128, .f32⟩
  | 66 => ⟨S2x16x4x128x8x128, .f32⟩
  | 67 => ⟨S2x16x4x1024x128, .f32⟩
  | 68 => ⟨S2x16384x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_cst_1 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_3 : Ref sig .tc := ⟨.hbm, 74, rfl⟩
abbrev main_v60 : Ref sig .tc := ⟨.hbm, 75, rfl⟩
abbrev main_v61 : Ref sig .tc := ⟨.hbm, 76, rfl⟩
abbrev main_c_4 : Ref sig .tc := ⟨.hbm, 77, rfl⟩
abbrev main_v62 : Ref sig .tc := ⟨.hbm, 78, rfl⟩
abbrev main_v63 : Ref sig .tc := ⟨.hbm, 79, rfl⟩
abbrev main_c_5 : Ref sig .tc := ⟨.hbm, 80, rfl⟩
abbrev main_v64 : Ref sig .tc := ⟨.hbm, 81, rfl⟩
abbrev main_v65 : Ref sig .tc := ⟨.hbm, 82, rfl⟩
abbrev main_c_6 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_c_8 : Ref sig .tc := ⟨.hbm, 100, rfl⟩
abbrev main_v81 : Ref sig .tc := ⟨.hbm, 101, rfl⟩
abbrev main_v82 : Ref sig .tc := ⟨.hbm, 102, rfl⟩
abbrev main_c_9 : Ref sig .tc := ⟨.hbm, 103, rfl⟩
abbrev main_v83 : Ref sig .tc := ⟨.hbm, 104, rfl⟩
abbrev main_v84 : Ref sig .tc := ⟨.hbm, 105, rfl⟩
abbrev main_c_10 : Ref sig .tc := ⟨.hbm, 106, rfl⟩
abbrev main_v85 : Ref sig .tc := ⟨.hbm, 107, rfl⟩
abbrev main_v86 : Ref sig .tc := ⟨.hbm, 108, rfl⟩
abbrev main_c_11 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_12 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_c_13 : Ref sig .tc := ⟨.hbm, 126, rfl⟩
abbrev main_v102 : Ref sig .tc := ⟨.hbm, 127, rfl⟩
abbrev main_v103 : Ref sig .tc := ⟨.hbm, 128, rfl⟩
abbrev main_c_14 : Ref sig .tc := ⟨.hbm, 129, rfl⟩
abbrev main_v104 : Ref sig .tc := ⟨.hbm, 130, rfl⟩
abbrev main_v105 : Ref sig .tc := ⟨.hbm, 131, rfl⟩
abbrev main_c_15 : Ref sig .tc := ⟨.hbm, 132, rfl⟩
abbrev main_v106 : Ref sig .tc := ⟨.hbm, 133, rfl⟩
abbrev main_v107 : Ref sig .tc := ⟨.hbm, 134, rfl⟩
abbrev main_c_16 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_17 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_c_18 : Ref sig .tc := ⟨.hbm, 152, rfl⟩
abbrev main_v123 : Ref sig .tc := ⟨.hbm, 153, rfl⟩
abbrev main_v124 : Ref sig .tc := ⟨.hbm, 154, rfl⟩
abbrev main_c_19 : Ref sig .tc := ⟨.hbm, 155, rfl⟩
abbrev main_v125 : Ref sig .tc := ⟨.hbm, 156, rfl⟩
abbrev main_v126 : Ref sig .tc := ⟨.hbm, 157, rfl⟩
abbrev main_c_20 : Ref sig .tc := ⟨.hbm, 158, rfl⟩
abbrev main_v127 : Ref sig .tc := ⟨.hbm, 159, rfl⟩
abbrev main_v128 : Ref sig .tc := ⟨.hbm, 160, rfl⟩
abbrev main_c_21 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_22 : Ref sig .tc := ⟨.hbm, 179, rfl⟩
abbrev main_v146 : Ref sig .tc := ⟨.hbm, 180, rfl⟩
abbrev main_v147 : Ref sig .tc := ⟨.hbm, 181, rfl⟩
abbrev main_cst_23 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16x4x1024x128 : Shape := ⟨5, ![2, 16, 4, 1024, 128]⟩
abbrev S2x16384x512 : Shape := ⟨3, ![2, 16384, 512]⟩
abbrev S2x3x1024 : Shape := ⟨3, ![2, 3, 1024]⟩
abbrev S1024x1024 : Shape := ⟨2, ![1024, 1024]⟩
abbrev S1024 : Shape := ⟨1, ![1024]⟩
abbrev S1x1024 : Shape := ⟨2, ![1, 1024]⟩
abbrev S1x1024x512 : Shape := ⟨3, ![1, 1024, 512]⟩
abbrev S1x3x1024 : Shape := ⟨3, ![1, 3, 1024]⟩
abbrev S1x1024x1024 : Shape := ⟨3, ![1, 1024, 1024]⟩
abbrev S3x1024x1024 : Shape := ⟨3, ![3, 1024, 1024]⟩
abbrev S3x4x1024x128 : Shape := ⟨4, ![3, 4, 1024, 128]⟩
abbrev S2x3 : Shape := ⟨2, ![2, 3]⟩
abbrev S1x1 : Shape := ⟨2, ![1, 1]⟩
abbrev S_ : Shape := ⟨0, ![]⟩
abbrev S1x4x1024x128 : Shape := ⟨4, ![1, 4, 1024, 128]⟩
abbrev S4x1024x128 : Shape := ⟨3, ![4, 1024, 128]⟩
abbrev S1x1x4x1024x128 : Shape := ⟨5, ![1, 1, 4, 1024, 128]⟩
abbrev S1x128x128 : Shape := ⟨3, ![1, 128, 128]⟩
abbrev S128x128 : Shape := ⟨2, ![128, 128]⟩
abbrev S128x512 : Shape := ⟨2, ![128, 512]⟩
abbrev S1024x512 : Shape := ⟨2, ![1024, 512]⟩
abbrev S1x1x1024 : Shape := ⟨3, ![1, 1, 1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x16x4x1024x128, .f32⟩
  | .hbm, ⟨2, _⟩ => ⟨S2x16384x512, .bf16⟩
  | .hbm, ⟨3, _⟩ => ⟨S2x3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2x16384x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x3x1024, .f32⟩
  | .local _ .vmem, ⟨3, _⟩ => ⟨S1x3x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S3x1024x1024, .f32⟩
  | .local _ .vmem, ⟨11, _⟩ => ⟨S3x4x1024x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_off1 (i : grid0.Coords) : Fin 2 → Nat :=
  let c0_i32_301 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_266 : BitVec 32 := 3#32
  let v292 : BitVec 32 := Scalar.addi v1 c3_i32_266
  let c1_i32_267 : BitVec 32 := 1#32
  let v293 : BitVec 32 := Scalar.subi v292 c1_i32_267
  let c3_i32_268 : BitVec 32 := 3#32
  let c0_i32_269 : BitVec 32 := 0#32
  let v294 : BitVec 1 := Scalar.cmpi .eq c3_i32_268 c0_i32_269
  let c1_i32_270 : BitVec 32 := 1#32
  let v295 : BitVec 32 := Scalar.select v294 c1_i32_270 c3_i32_268
  let v296 : BitVec 32 := Scalar.remsi v293 v295
  let c0_i32_272 : BitVec 32 := 0#32
  let v298 : BitVec 1 := Scalar.cmpi .slt v296 c0_i32_272
  let c0_i32_273 : BitVec 32 := 0#32
  let v299 : BitVec 1 := Scalar.cmpi .slt v295 c0_i32_273
  let v300 : BitVec 1 := Scalar.xori v298 v299
  let c0_i32_271 : BitVec 32 := 0#32
  let v297 : BitVec 1 := Scalar.cmpi .ne v296 c0_i32_271
  let v301 : BitVec 1 := Scalar.andi v300 v297
  let v302 : BitVec 32 := Scalar.addi v296 v295
  let v303 : BitVec 32 := Scalar.select v301 v302 v296
  ![0, v303.toNat]
def k0_off2 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_266 : BitVec 32 := 3#32
  let v292 : BitVec 32 := Scalar.addi v1 c3_i32_266
  let c1_i32_267 : BitVec 32 := 1#32
  let v293 : BitVec 32 := Scalar.subi v292 c1_i32_267
  let c3_i32_268 : BitVec 32 := 3#32
  let c0_i32_269 : BitVec 32 := 0#32
  let v294 : BitVec 1 := Scalar.cmpi .eq c3_i32_268 c0_i32_269
  let c1_i32_270 : BitVec 32 := 1#32
  let v295 : BitVec 32 := Scalar.select v294 c1_i32_270 c3_i32_268
  let v296 : BitVec 32 := Scalar.remsi v293 v295
  let c0_i32_272 : BitVec 32 := 0#32
  let v298 : BitVec 1 := Scalar.cmpi .slt v296 c0_i32_272
  let c0_i32_273 : BitVec 32 := 0#32
  let v299 : BitVec 1 := Scalar.cmpi .slt v295 c0_i32_273
  let v300 : BitVec 1 := Scalar.xori v298 v299
  let c0_i32_271 : BitVec 32 := 0#32
  let v297 : BitVec 1 := Scalar.cmpi .ne v296 c0_i32_271
  let v301 : BitVec 1 := Scalar.andi v300 v297
  let v302 : BitVec 32 := Scalar.addi v296 v295
  let v303 : BitVec 32 := Scalar.select v301 v302 v296
  let c0_i32_302 : BitVec 32 := 0#32
  let c0_i32_303 : BitVec 32 := 0#32
  ![v303.toNat, 0, 0]
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_266 : BitVec 32 := 3#32
  let v292 : BitVec 32 := Scalar.addi v1 c3_i32_266
  let c1_i32_267 : BitVec 32 := 1#32
  let v293 : BitVec 32 := Scalar.subi v292 c1_i32_267
  let c0_i32_275 : BitVec 32 := 0#32
  let v305 : BitVec 1 := Scalar.cmpi .sgt v293 c0_i32_275
  let v306 : BitVec 32 := Scalar.extui v305
  let c0_i32_276 : BitVec 32 := 0#32
  let v307 : BitVec 1 := Scalar.cmpi .slt v293 c0_i32_276
  let v308 : BitVec 32 := Scalar.extui v307
  let v309 : BitVec 32 := Scalar.subi v306 v308
  let c16_i32_274 : BitVec 32 := 16#32
  let c0_i32_277 : BitVec 32 := 0#32
  let v310 : BitVec 1 := Scalar.cmpi .sgt c16_i32_274 c0_i32_277
  let v311 : BitVec 32 := Scalar.extui v310
  let c0_i32_278 : BitVec 32 := 0#32
  let v312 : BitVec 1 := Scalar.cmpi .slt c16_i32_274 c0_i32_278
  let v313 : BitVec 32 := Scalar.extui v312
  let v314 : BitVec 32 := Scalar.subi v311 v313
  let v315 : BitVec 1 := Scalar.cmpi .ne v309 v314
  let v316 : BitVec 32 := Scalar.remsi v293 c16_i32_274
  let c0_i32_279 : BitVec 32 := 0#32
  let v317 : BitVec 1 := Scalar.cmpi .ne v316 c0_i32_279
  let v318 : BitVec 1 := Scalar.andi v315 v317
  let v304 : BitVec 32 := Scalar.divsi v293 c16_i32_274
  let c1_i32_280 : BitVec 32 := 1#32
  let v319 : BitVec 32 := Scalar.subi v304 c1_i32_280
  let v320 : BitVec 32 := Scalar.select v318 v319 v304
  let c16_i32_281 : BitVec 32 := 16#32
  let c0_i32_282 : BitVec 32 := 0#32
  let v321 : BitVec 1 := Scalar.cmpi .eq c16_i32_281 c0_i32_282
  let c1_i32_283 : BitVec 32 := 1#32
  let v322 : BitVec 32 := Scalar.select v321 c1_i32_283 c16_i32_281
  let v323 : BitVec 32 := Scalar.remsi v293 v322
  let c0_i32_285 : BitVec 32 := 0#32
  let v325 : BitVec 1 := Scalar.cmpi .slt v323 c0_i32_285
  let c0_i32_286 : BitVec 32 := 0#32
  let v326 : BitVec 1 := Scalar.cmpi .slt v322 c0_i32_286
  let v327 : BitVec 1 := Scalar.xori v325 v326
  let c0_i32_284 : BitVec 32 := 0#32
  let v324 : BitVec 1 := Scalar.cmpi .ne v323 c0_i32_284
  let v328 : BitVec 1 := Scalar.andi v327 v324
  let v329 : BitVec 32 := Scalar.addi v323 v322
  let v330 : BitVec 32 := Scalar.select v328 v329 v323
  let c1024_i32_287 : BitVec 32 := 1024#32
  let v331 : BitVec 32 := Scalar.muli v330 c1024_i32_287
  let c0_i32_304 : BitVec 32 := 0#32
  ![v320.toNat, v331.toNat, 0]
def k0_off4 (i : grid0.Coords) : Fin 2 → Nat :=
  let c1_i32_305 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_266 : BitVec 32 := 3#32
  let v292 : BitVec 32 := Scalar.addi v1 c3_i32_266
  let c1_i32_267 : BitVec 32 := 1#32
  let v293 : BitVec 32 := Scalar.subi v292 c1_i32_267
  let c3_i32_268 : BitVec 32 := 3#32
  let c0_i32_269 : BitVec 32 := 0#32
  let v294 : BitVec 1 := Scalar.cmpi .eq c3_i32_268 c0_i32_269
  let c1_i32_270 : BitVec 32 := 1#32
  let v295 : BitVec 32 := Scalar.select v294 c1_i32_270 c3_i32_268
  let v296 : BitVec 32 := Scalar.remsi v293 v295
  let c0_i32_272 : BitVec 32 := 0#32
  let v298 : BitVec 1 := Scalar.cmpi .slt v296 c0_i32_272
  let c0_i32_273 : BitVec 32 := 0#32
  let v299 : BitVec 1 := Scalar.cmpi .slt v295 c0_i32_273
  let v300 : BitVec 1 := Scalar.xori v298 v299
  let c0_i32_271 : BitVec 32 := 0#32
  let v297 : BitVec 1 := Scalar.cmpi .ne v296 c0_i32_271
  let v301 : BitVec 1 := Scalar.andi v300 v297
  let v302 : BitVec 32 := Scalar.addi v296 v295
  let v303 : BitVec 32 := Scalar.select v301 v302 v296
  ![1, v303.toNat]
def k0_off5 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_266 : BitVec 32 := 3#32
  let v292 : BitVec 32 := Scalar.addi v1 c3_i32_266
  let c1_i32_267 : BitVec 32 := 1#32
  let v293 : BitVec 32 := Scalar.subi v292 c1_i32_267
  let c3_i32_268 : BitVec 32 := 3#32
  let c0_i32_269 : BitVec 32 := 0#32
  let v294 : BitVec 1 := Scalar.cmpi .eq c3_i32_268 c0_i32_269
  let c1_i32_270 : BitVec 32 := 1#32
  let v295 : BitVec 32 := Scalar.select v294 c1_i32_270 c3_i32_268
  let v296 : BitVec 32 := Scalar.remsi v293 v295
  let c0_i32_272 : BitVec 32 := 0#32
  let v298 : BitVec 1 := Scalar.cmpi .slt v296 c0_i32_272
  let c0_i32_273 : BitVec 32 := 0#32
  let v299 : BitVec 1 := Scalar.cmpi .slt v295 c0_i32_273
  let v300 : BitVec 1 := Scalar.xori v298 v299
  let c0_i32_271 : BitVec 32 := 0#32
  let v297 : BitVec 1 := Scalar.cmpi .ne v296 c0_i32_271
  let v301 : BitVec 1 := Scalar.andi v300 v297
  let v302 : BitVec 32 := Scalar.addi v296 v295
  let v303 : BitVec 32 := Scalar.select v301 v302 v296
  let c0_i32_306 : BitVec 32 := 0#32
  let c0_i32_307 : BitVec 32 := 0#32
  let c0_i32_308 : BitVec 32 := 0#32
  ![v303.toNat, 0, 0, 0]
def k0_off6 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_266 : BitVec 32 := 3#32
  let v292 : BitVec 32 := Scalar.addi v1 c3_i32_266
  let c1_i32_267 : BitVec 32 := 1#32
  let v293 : BitVec 32 := Scalar.subi v292 c1_i32_267
  let c0_i32_289 : BitVec 32 := 0#32
  let v333 : BitVec 1 := Scalar.cmpi .sgt v293 c0_i32_289
  let v334 : BitVec 32 := Scalar.extui v333
  let c0_i32_290 : BitVec 32 := 0#32
  let v335 : BitVec 1 := Scalar.cmpi .slt v293 c0_i32_290
  let v336 : BitVec 32 := Scalar.extui v335
  let v337 : BitVec 32 := Scalar.subi v334 v336
  let c16_i32_288 : BitVec 32 := 16#32
  let c0_i32_291 : BitVec 32 := 0#32
  let v338 : BitVec 1 := Scalar.cmpi .sgt c16_i32_288 c0_i32_291
  let v339 : BitVec 32 := Scalar.extui v338
  let c0_i32_292 : BitVec 32 := 0#32
  let v340 : BitVec 1 := Scalar.cmpi .slt c16_i32_288 c0_i32_292
  let v341 : BitVec 32 := Scalar.extui v340
  let v342 : BitVec 32 := Scalar.subi v339 v341
  let v343 : BitVec 1 := Scalar.cmpi .ne v337 v342
  let v344 : BitVec 32 := Scalar.remsi v293 c16_i32_288
  let c0_i32_293 : BitVec 32 := 0#32
  let v345 : BitVec 1 := Scalar.cmpi .ne v344 c0_i32_293
  let v346 : BitVec 1 := Scalar.andi v343 v345
  let v332 : BitVec 32 := Scalar.divsi v293 c16_i32_288
  let c1_i32_294 : BitVec 32 := 1#32
  let v347 : BitVec 32 := Scalar.subi v332 c1_i32_294
  let v348 : BitVec 32 := Scalar.select v346 v347 v332
  let c16_i32_295 : BitVec 32 := 16#32
  let c0_i32_296 : BitVec 32 := 0#32
  let v349 : BitVec 1 := Scalar.cmpi .eq c16_i32_295 c0_i32_296
  let c1_i32_297 : BitVec 32 := 1#32
  let v350 : BitVec 32 := Scalar.select v349 c1_i32_297 c16_i32_295
  let v351 : BitVec 32 := Scalar.remsi v293 v350
  let c0_i32_299 : BitVec 32 := 0#32
  let v353 : BitVec 1 := Scalar.cmpi .slt v351 c0_i32_299
  let c0_i32_300 : BitVec 32 := 0#32
  let v354 : BitVec 1 := Scalar.cmpi .slt v350 c0_i32_300
  let v355 : BitVec 1 := Scalar.xori v353 v354
  let c0_i32_298 : BitVec 32 := 0#32
  let v352 : BitVec 1 := Scalar.cmpi .ne v351 c0_i32_298
  let v356 : BitVec 1 := Scalar.andi v355 v352
  let v357 : BitVec 32 := Scalar.addi v351 v350
  let v358 : BitVec 32 := Scalar.select v356 v357 v351
  let c0_i32_309 : BitVec 32 := 0#32
  let c0_i32_310 : BitVec 32 := 0#32
  let c0_i32_311 : BitVec 32 := 0#32
  ![v348.toNat, v358.toNat, 0, 0, 0]
def k0_off7 (i : grid0.Coords) : Fin 2 → Nat :=
  let c0_i32_34 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![0, v19.toNat]
def k0_off8 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_35 : BitVec 32 := 0#32
  let c0_i32_36 : BitVec 32 := 0#32
  ![v19.toNat, 0, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9 : BitVec 32 := 0#32
  let v21 : BitVec 1 := Scalar.cmpi .sgt v1 c0_i32_9
  let v22 : BitVec 32 := Scalar.extui v21
  let c0_i32_10 : BitVec 32 := 0#32
  let v23 : BitVec 1 := Scalar.cmpi .slt v1 c0_i32_10
  let v24 : BitVec 32 := Scalar.extui v23
  let v25 : BitVec 32 := Scalar.subi v22 v24
  let c16_i32_8 : BitVec 32 := 16#32
  let c0_i32_11 : BitVec 32 := 0#32
  let v26 : BitVec 1 := Scalar.cmpi .sgt c16_i32_8 c0_i32_11
  let v27 : BitVec 32 := Scalar.extui v26
  let c0_i32_12 : BitVec 32 := 0#32
  let v28 : BitVec 1 := Scalar.cmpi .slt c16_i32_8 c0_i32_12
  let v29 : BitVec 32 := Scalar.extui v28
  let v30 : BitVec 32 := Scalar.subi v27 v29
  let v31 : BitVec 1 := Scalar.cmpi .ne v25 v30
  let v32 : BitVec 32 := Scalar.remsi v1 c16_i32_8
  let c0_i32_13 : BitVec 32 := 0#32
  let v33 : BitVec 1 := Scalar.cmpi .ne v32 c0_i32_13
  let v34 : BitVec 1 := Scalar.andi v31 v33
  let v20 : BitVec 32 := Scalar.divsi v1 c16_i32_8
  let c1_i32_14 : BitVec 32 := 1#32
  let v35 : BitVec 32 := Scalar.subi v20 c1_i32_14
  let v36 : BitVec 32 := Scalar.select v34 v35 v20
  let c16_i32_15 : BitVec 32 := 16#32
  let c0_i32_16 : BitVec 32 := 0#32
  let v37 : BitVec 1 := Scalar.cmpi .eq c16_i32_15 c0_i32_16
  let c1_i32_17 : BitVec 32 := 1#32
  let v38 : BitVec 32 := Scalar.select v37 c1_i32_17 c16_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c1024_i32 : BitVec 32 := 1024#32
  let v47 : BitVec 32 := Scalar.muli v46 c1024_i32
  let c0_i32_37 : BitVec 32 := 0#32
  ![v36.toNat, v47.toNat, 0]
def k0_off10 (i : grid0.Coords) : Fin 2 → Nat :=
  let c1_i32_38 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![1, v19.toNat]
def k0_off11 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_39 : BitVec 32 := 0#32
  let c0_i32_40 : BitVec 32 := 0#32
  let c0_i32_41 : BitVec 32 := 0#32
  ![v19.toNat, 0, 0, 0]
def k0_off12 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_22 : BitVec 32 := 0#32
  let v49 : BitVec 1 := Scalar.cmpi .sgt v1 c0_i32_22
  let v50 : BitVec 32 := Scalar.extui v49
  let c0_i32_23 : BitVec 32 := 0#32
  let v51 : BitVec 1 := Scalar.cmpi .slt v1 c0_i32_23
  let v52 : BitVec 32 := Scalar.extui v51
  let v53 : BitVec 32 := Scalar.subi v50 v52
  let c16_i32_21 : BitVec 32 := 16#32
  let c0_i32_24 : BitVec 32 := 0#32
  let v54 : BitVec 1 := Scalar.cmpi .sgt c16_i32_21 c0_i32_24
  let v55 : BitVec 32 := Scalar.extui v54
  let c0_i32_25 : BitVec 32 := 0#32
  let v56 : BitVec 1 := Scalar.cmpi .slt c16_i32_21 c0_i32_25
  let v57 : BitVec 32 := Scalar.extui v56
  let v58 : BitVec 32 := Scalar.subi v55 v57
  let v59 : BitVec 1 := Scalar.cmpi .ne v53 v58
  let v60 : BitVec 32 := Scalar.remsi v1 c16_i32_21
  let c0_i32_26 : BitVec 32 := 0#32
  let v61 : BitVec 1 := Scalar.cmpi .ne v60 c0_i32_26
  let v62 : BitVec 1 := Scalar.andi v59 v61
  let v48 : BitVec 32 := Scalar.divsi v1 c16_i32_21
  let c1_i32_27 : BitVec 32 := 1#32
  let v63 : BitVec 32 := Scalar.subi v48 c1_i32_27
  let v64 : BitVec 32 := Scalar.select v62 v63 v48
  let c16_i32_28 : BitVec 32 := 16#32
  let c0_i32_29 : BitVec 32 := 0#32
  let v65 : BitVec 1 := Scalar.cmpi .eq c16_i32_28 c0_i32_29
  let c1_i32_30 : BitVec 32 := 1#32
  let v66 : BitVec 32 := Scalar.select v65 c1_i32_30 c16_i32_28
  let v67 : BitVec 32 := Scalar.remsi v1 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c0_i32_42 : BitVec 32 := 0#32
  let c0_i32_43 : BitVec 32 := 0#32
  let c0_i32_44 : BitVec 32 := 0#32
  ![v64.toNat, v74.toNat, 0, 0, 0]
def k0_off13 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_45 : BitVec 32 := 3#32
  let c0_i32_46 : BitVec 32 := 0#32
  let v87 : BitVec 1 := Scalar.cmpi .eq c3_i32_45 c0_i32_46
  let c1_i32_47 : BitVec 32 := 1#32
  let v88 : BitVec 32 := Scalar.select v87 c1_i32_47 c3_i32_45
  let v89 : BitVec 32 := Scalar.remsi v1 v88
  let c0_i32_49 : BitVec 32 := 0#32
  let v91 : BitVec 1 := Scalar.cmpi .slt v89 c0_i32_49
  let c0_i32_50 : BitVec 32 := 0#32
  let v92 : BitVec 1 := Scalar.cmpi .slt v88 c0_i32_50
  let v93 : BitVec 1 := Scalar.xori v91 v92
  let c0_i32_48 : BitVec 32 := 0#32
  let v90 : BitVec 1 := Scalar.cmpi .ne v89 c0_i32_48
  let v94 : BitVec 1 := Scalar.andi v93 v90
  let v95 : BitVec 32 := Scalar.addi v89 v88
  let v96 : BitVec 32 := Scalar.select v94 v95 v89
  let v251 : Index := Scalar.indexCast v96
  let c0_246 : Index := 0#32
  let c0_247 : Index := 0#32
  ![v251.toNat, 0, 0]
def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x16384x1024 : Shape := ⟨3, ![2, 16384, 1024]⟩
abbrev S2x16x4x1024x128 : Shape := ⟨5, ![2, 16, 4, 1024, 128]⟩
abbrev S2x16384x512 : Shape := ⟨3, ![2, 16384, 512]⟩
abbrev S2x3x1024 : Shape := ⟨3, ![2, 3, 1024]⟩
abbrev S1024x1024 : Shape := ⟨2, ![1024, 1024]⟩
abbrev S1024 : Shape := ⟨1, ![1024]⟩
abbrev S2x1x1024 : Shape := ⟨3, ![2, 1, 1024]⟩
abbrev S2x1024 : Shape := ⟨2, ![2, 1024]⟩
abbrev S2x16x4x128x8x128 : Shape := ⟨6, ![2, 16, 4, 128, 8, 128]⟩
abbrev S2x16x8x128x4x128 : Shape := ⟨6, ![2, 16, 8, 128, 4, 128]⟩
abbrev S1x1x1024 : Shape := ⟨3, ![1, 1, 1024]⟩
abbrev S_ : Shape := ⟨0, ![]⟩
abbrev S2x16384 : Shape := ⟨2, ![2, 16384]⟩
abbrev S2x16384x1 : Shape := ⟨3, ![2, 16384, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16x4x1024x128, .f32⟩
  | .hbm, ⟨2, _⟩ => ⟨S2x16384x512, .bf16⟩
  | .hbm, ⟨3, _⟩ => ⟨S2x3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S2x1x1024, .f32⟩
  | .hbm, ⟨9, _⟩ => ⟨S2x1024, .f32⟩
  | .hbm, ⟨10, _⟩ => ⟨S2x16x4x128x8x128, .f32⟩
  | .hbm, ⟨11, _⟩ => ⟨S2x16x8x128x4x128, .f32⟩
  | .hbm, ⟨12, _⟩ => ⟨S2x16384x512, .f32⟩
  | .hbm, ⟨13, _⟩ => ⟨S2x16384x512, .f32⟩
  | .hbm, ⟨14, _⟩ => ⟨S2x16384x1024, .f32⟩
  | .hbm, ⟨15, _⟩ => ⟨S2x1x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x1024, .f32⟩
  | .hbm, ⟨42, _⟩ => ⟨S2x16384x1024, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x1024, .f32⟩
  | .hbm, ⟨48, _⟩ => ⟨S2x16384x1024, .f32⟩
  | .hbm, ⟨49, _⟩ => ⟨S1x1x1024, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Setup.lean ====
/-
The input projection kernel's launch, set up for its frame: the condition of the one branch, the staging
memref of each window at a grid point, and the scratch operands owned at some contents.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The branch is taken when both grid coordinates are zero. -/
abbrev isFirst (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- So it is taken at the first point only. -/
theorem isFirst_iff (t : Fin grid0.N) : isFirst (grid0.coords t) ↔ t.val = 0 := by
  have ht : t.val < 32 := Nat.lt_of_lt_of_eq t.isLt N_0
  have e0 : (grid0.coords t 0).val = t.val / 16 % 2 := Pipeline.Grid.coords_val t 0 (by decide) rfl
  have e1 : (grid0.coords t 1).val = t.val / 1 % 16 := Pipeline.Grid.coords_val t 1 (by decide) rfl
  have h : isFirst (grid0.coords t) ↔ t.val % 32 = 0 := by
    simp only [isFirst, e0, e1]
    word_cmp
  rw [h, Nat.mod_eq_of_lt ht]

/-- Window 0's staging memref at a point. -/
abbrev stg0 (t : Fin cfg0.N) : Memref sig .tc .vmem S1x16x1024 .f32 := win0_0.stage (cfg0.slots t 0)
abbrev stg0_whole (t : Fin cfg0.N) : (stg0 t).IsWhole := hstage0_0 ((cfg0.slots t 0).cast nbuf0_0)
/-- Window 1's staging memref at a point. -/
abbrev stg1 (t : Fin cfg0.N) : Memref sig .tc .vmem S1x1024x1024 .f32 := win0_1.stage (cfg0.slots t 1)
abbrev stg1_whole (t : Fin cfg0.N) : (stg1 t).IsWhole := hstage0_1 ((cfg0.slots t 1).cast nbuf0_1)
/-- Window 2's staging memref at a point. -/
abbrev stg2 (t : Fin cfg0.N) : Memref sig .tc .vmem S1x16x1024 .f32 := win0_2.stage (cfg0.slots t 2)
abbrev stg2_whole (t : Fin cfg0.N) : (stg2 t).IsWhole := hstage0_2 ((cfg0.slots t 2).cast nbuf0_2)
/-- Window 3's staging memref at a point. -/
abbrev stg3 (t : Fin cfg0.N) : Memref sig .tc .vmem S1x3x1024 .f32 := win0_3.stage (cfg0.slots t 3)
abbrev stg3_whole (t : Fin cfg0.N) : (stg3 t).IsWhole := hstage0_3 ((cfg0.slots t 3).cast nbuf0_3)
/-- Window 4's staging memref at a point. -/
abbrev stg4 (t : Fin cfg0.N) : Memref sig .tc .vmem S1024x3072 .f32 := win0_4.stage (cfg0.slots t 4)
abbrev stg4_whole (t : Fin cfg0.N) : (stg4 t).IsWhole := hstage0_4 ((cfg0.slots t 4).cast nbuf0_4)
/-- Window 5's staging memref at a point. -/
abbrev stg5 (t : Fin cfg0.N) : Memref sig .tc .vmem S1x3072 .f32 := win0_5.stage (cfg0.slots t 5)
abbrev stg5_whole (t : Fin cfg0.N) : (stg5 t).IsWhole := hstage0_5 ((cfg0.slots t 5).cast nbuf0_5)
/-- Window 6's staging memref at a point. -/
abbrev stg6 (t : Fin cfg0.N) : Memref sig .tc .vmem S3x1536 .f32 := win0_6.stage (cfg0.slots t 6)
abbrev stg6_whole (t : Fin cfg0.N) : (stg6 t).IsWhole := hstage0_6 ((cfg0.slots t 6).cast nbuf0_6)
/-- Window 7's staging memref at a point. -/
abbrev stg7 (t : Fin cfg0.N) : Memref sig .tc .vmem S1x1536 .f32 := win0_7.stage (cfg0.slots t 7)
abbrev stg7_whole (t : Fin cfg0.N) : (stg7 t).IsWhole := hstage0_7 ((cfg0.slots t 7).cast nbuf0_7)
/-- Window 8's staging memref at a point. -/
abbrev stg8 (t : Fin cfg0.N) : Memref sig .tc .vmem S4x128x128 .bf16 := win0_8.stage (cfg0.slots t 8)
abbrev stg8_whole (t : Fin cfg0.N) : (stg8 t).IsWhole := hstage0_8 ((cfg0.slots t 8).cast nbuf0_8)
/-- Window 9's staging memref at a point. -/
abbrev stg9 (t : Fin cfg0.N) : Memref sig .tc .vmem S1x512 .f32 := win0_9.stage (cfg0.slots t 9)
abbrev stg9_whole (t : Fin cfg0.N) : (stg9 t).IsWhole := hstage0_9 ((cfg0.slots t 9).cast nbuf0_9)
/-- Window 10's staging memref at a point. -/
abbrev stg10 (t : Fin cfg0.N) : Memref sig .tc .vmem S4x2x128x256 .bf16 := win0_10.stage (cfg0.slots t 10)
abbrev stg10_whole (t : Fin cfg0.N) : (stg10 t).IsWhole := hstage0_10 ((cfg0.slots t 10).cast nbuf0_10)
/-- Window 11's staging memref at a point. -/
abbrev stg11 (t : Fin cfg0.N) : Memref sig .tc .vmem S1x1x4x1024x128 .f32 := win0_11.stage (cfg0.slots t 11)
abbrev stg11_whole (t : Fin cfg0.N) : (stg11 t).IsWhole := hstage0_11 ((cfg0.slots t 11).cast nbuf0_11)
/-- Window 12's staging memref at a point. -/
abbrev stg12 (t : Fin cfg0.N) : Memref sig .tc .vmem S1x1x4x1024x128 .f32 := win0_12.stage (cfg0.slots t 12)
abbrev stg12_whole (t : Fin cfg0.N) : (stg12 t).IsWhole := hstage0_12 ((cfg0.slots t 12).cast nbuf0_12)
/-- Window 13's staging memref at a point. -/
abbrev stg13 (t : Fin cfg0.N) : Memref sig .tc .vmem S1x1x4x1024x128 .f32 := win0_13.stage (cfg0.slots t 13)
abbrev stg13_whole (t : Fin cfg0.N) : (stg13 t).IsWhole := hstage0_13 ((cfg0.slots t 13).cast nbuf0_13)
/-- Window 14's staging memref at a point. -/
abbrev stg14 (t : Fin cfg0.N) : Memref sig .tc .vmem S1x1024x512 .bf16 := win0_14.stage (cfg0.slots t 14)
abbrev stg14_whole (t : Fin cfg0.N) : (stg14 t).IsWhole := hstage0_14 ((cfg0.slots t 14).cast nbuf0_14)

/-- The scratch operands: the projected rows in f32, in bf16, and the weights cast once. -/
abbrev rowsScr : Memref sig .tc .vmem S1056x512 .f32 := Memref.whole cc0_scratch0
abbrev rows16Scr : Memref sig .tc .vmem S1056x512 .bf16 := Memref.whole cc0_scratch1
abbrev wScr : Memref sig .tc .vmem S1024x3072 .bf16 := Memref.whole cc0_scratch2

/-- What the launch hands over beside the windows: the three scratch buffers at some contents, and the
    random generator's state. -/
theorem scratch_owned (c : Dev nD) :
    (Pipeline.ΦA spec0 c : sProp 𝕄)
      = iprop(iprop((∃ d, owns (c : Thread nD τ) rowsScr fullShare d) ∗ (∃ d, owns (c : Thread nD τ) rows16Scr fullShare d)
          ∗ (∃ d, owns (c : Thread nD τ) wScr fullShare d)) ∗ (∃ r, prngReg c r)) := by
  unfold Pipeline.ΦA; rw [scopedRest0_eq]; simp only [rowsScr, rows16Scr, wScr, owns_whole]; try rfl

end Cert.KernelIdeal.Hand

end
-- ==== Proof.Body.lean ====
/-
One pass of the input projection kernel's body, on any staging memrefs.
-/
module

public import proofs.«01_k».proof.Proof.Setup
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1872000 in
/-- What one pass leaves in each buffer it stores into, as pieces (last first), with the proof that it does:
    from the inputs' contents `x·` and the cast weights `w` — already in the scratch, or cast by this pass from
    `x4` when it is the first —, the inputs are as they were, the cast weights are in the scratch, and each
    output and each of the two other scratch buffers holds its pieces written over something. -/
def bodyRun (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x3x1024 .f32) (harg5 : arg5.IsWhole) (arg6 : Memref sig .tc .vmem S1024x3072 .f32) (harg6 : arg6.IsWhole) (arg7 : Memref sig .tc .vmem S1x3072 .f32) (harg7 : arg7.IsWhole) (arg8 : Memref sig .tc .vmem S3x1536 .f32) (harg8 : arg8.IsWhole) (arg9 : Memref sig .tc .vmem S1x1536 .f32) (harg9 : arg9.IsWhole) (arg10 : Memref sig .tc .vmem S4x128x128 .bf16) (harg10 : arg10.IsWhole) (arg11 : Memref sig .tc .vmem S1x512 .f32) (harg11 : arg11.IsWhole) (arg12 : Memref sig .tc .vmem S4x2x128x256 .bf16) (harg12 : arg12.IsWhole) (arg13 : Memref sig .tc .vmem S1x1x4x1024x128 .f32) (harg13 : arg13.IsWhole) (arg14 : Memref sig .tc .vmem S1x1x4x1024x128 .f32) (harg14 : arg14.IsWhole) (arg15 : Memref sig .tc .vmem S1x1x4x1024x128 .f32) (harg15 : arg15.IsWhole) (arg16 : Memref sig .tc .vmem S1x1024x512 .bf16) (harg16 : arg16.IsWhole) (arg17 : Memref sig .tc .vmem S1056x512 .f32) (harg17 : arg17.IsWhole) (arg18 : Memref sig .tc .vmem S1056x512 .bf16) (harg18 : arg18.IsWhole) (arg19 : Memref sig .tc .vmem S1024x3072 .bf16) (harg19 : arg19.IsWhole)
    (x0 : Vec F S1x16x1024 .f32) (x1 : Vec F S1x1024x1024 .f32) (x2 : Vec F S1x16x1024 .f32) (x3 : Vec F S1x3x1024 .f32) (x4 : Vec F S1024x3072 .f32) (x5 : Vec F S1x3072 .f32) (x6 : Vec F S3x1536 .f32) (x7 : Vec F S1x1536 .f32) (x8 : Vec F S4x128x128 .bf16) (x9 : Vec F S1x512 .f32) (x10 : Vec F S4x2x128x256 .bf16) (w d : Vec F S1024x3072 .bf16)
    (hfirst : isFirst i → w = k0_pay1 x4) (hlater : ¬ isFirst i → d = w) :
    Σ' (L13 L14 L15 : List (View.Piece (Elt F) S1x1x4x1024x128 .f32)), Σ' (L16 : List (View.Piece (Elt F) S1x1024x512 .bf16)),
      Σ' (L17 : List (View.Piece (Elt F) S1056x512 .f32)), { L18 : List (View.Piece (Elt F) S1056x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ owns (c : Thread nD τ) arg19 fullShare w) -∗ K ⟨⟩))
          ⊢ wp frame (wpE (defs₀ (F := F)) Variants.none c none) E (cc0_in_proj_conv_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_in_proj_conv_pool_eq_skeleton]; unfold cc0_in_proj_conv_pool_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    by_cases hc : isFirst i
    · unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fw, %hfw, HW⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
      set_option sl_exec.maxSteps 7 in sl_exec (disch := first | sl_exact hc)
      rw [View.readAt_full, harg6.read_unread, ← hfirst hc, harg19.eq_unread (View.read_writes_full _ _ _ w [])]
      sl_exec (disch := first | sl_exact hc)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      iexists _; isplitr; · ipureintro; exact harg19.read_unread _
      iexact HW
    · unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fw, %hfw, HW⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
      obtain rfl := harg19.eq_unread (hfw.trans (hlater hc))
      sl_exec (disch := first | sl_exact hc)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      iexists _; isplitr; · ipureintro; exact harg19.read_unread _
      iexact HW

end Cert.KernelIdeal.Hand

end
-- ==== Proof.Stages.lean ====
/-
What one pass of the input projection kernel's body computes, as functions of what it loads: each output block
and each scratch buffer, over any float values.
-/
module

public import proofs.«01_k».proof.Proof.Setup
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What loads of an array read, rectangle by rectangle. -/
abbrev Loader (F : FTy → Type) (s : Shape) (e : EltTy) := (r : LoadRect s) → r.shape.Idx → Elt F e

/-- The loads of an array's own contents. -/
abbrev loads {s : Shape} {e : EltTy} (x : Vec F s e) : Loader F s e := fun r y => x (r.idx y)

theorem readAt_unread {sp : Space} {s : Shape} {e : EltTy} {a : Memref sig .tc sp s e} (h : a.IsWhole) (x : Vec F s e) :
    (fun r : LoadRect s => View.readAt (Elt F) a.view r (h.unread x)) = loads x :=
  funext fun r => funext fun y => congrFun (h.read_unread x) _

/-- Loads from a buffer whose last store covered it whole read that store's payload. -/
theorem readCov_whole {sp : Space} {s : Shape} {e : EltTy} (v : View sig .tc sp s e) {off : Fin s.rank → ℕ}
    (inb : ∀ a, off a + s.size a ≤ s.size a) (p : (Rect.unit off s.size inb).shape.Idx → Elt F e)
    (L : List (View.Piece (Elt F) s e)) :
    (fun r : LoadRect s => v.readCov (⟨Rect.unit off s.size inb, p⟩ :: L) r) = loads (F := F) p :=
  funext fun r => funext fun y => congrFun (View.read_writes_full v v.junk inb p L) _

/-! ## The permuted stores -/

/-- Rows `128 j …` and columns `128 cb …` of a tile. -/
theorem slices_block (cb : Fin 4) (j : Fin 8) : S1024x512.Slices ![128 * j.val, 128 * cb.val] S128x128 := by
  revert cb j; decide

theorem inb_block (cb : Fin 4) (j : Fin 8) : ∀ a : Fin 5, (![1, 1, 1, 128, 128] : Fin 5 → ℕ) a = 0 ∨
    (![0, 0, cb.val, j.val, 0] : Fin 5 → ℕ) a + (![1, 1, 1, 8, 1] : Fin 5 → ℕ) a * ((![1, 1, 1, 128, 128] : Fin 5 → ℕ) a - 1)
      < S1x1x4x1024x128.size a := by
  revert cb j; decide

/-- One permuted store: rows `128 j …`, columns `128 cb …` of the tile go to every eighth row from `j` of plane `cb`. -/
def blockAt (p : FVec F S1024x512 .f32) (cb : Fin 4) (j : Fin 8) : View.Piece (Elt F) S1x1x4x1024x128 .f32 :=
  ⟨⟨⟨![0, 0, cb.val, j.val, 0], S1x1x1x128x128.size, ![1, 1, 1, 8, 1], inb_block cb j⟩, spos_1_1_1_8_1⟩,
    shapeCast S1x1x1x128x128 (extractStridedSlice S128x128 ![128 * j.val, 128 * cb.val] p (slices_block cb j))
      shapeCasts_S128x128_S1x1x1x128x128⟩

/-- The thirty-two permuted stores of a tile, last first. -/
def blocks (p : FVec F S1024x512 .f32) : List (View.Piece (Elt F) S1x1x4x1024x128 .f32) :=
  [blockAt p 3 7, blockAt p 3 6, blockAt p 3 5, blockAt p 3 4, blockAt p 3 3, blockAt p 3 2, blockAt p 3 1, blockAt p 3 0, blockAt p 2 7, blockAt p 2 6, blockAt p 2 5, blockAt p 2 4, blockAt p 2 3, blockAt p 2 2, blockAt p 2 1, blockAt p 2 0, blockAt p 1 7, blockAt p 1 6, blockAt p 1 5, blockAt p 1 4, blockAt p 1 3, blockAt p 1 2, blockAt p 1 1, blockAt p 1 0, blockAt p 0 7, blockAt p 0 6, blockAt p 0 5, blockAt p 0 4, blockAt p 0 3, blockAt p 0 2, blockAt p 0 1, blockAt p 0 0]

/-! ## The stages -/

variable (i : grid0.Coords) (l2 : Loader F S1x16x1024 .f32) (l3 : Loader F S1x1024x1024 .f32) (l4 : Loader F S1x16x1024 .f32)
  (l5 : Loader F S1x3x1024 .f32) (l7 : Loader F S1x3072 .f32) (l8 : Loader F S3x1536 .f32) (l9 : Loader F S1x1536 .f32)
  (l10 : Loader F S4x128x128 .bf16) (l11 : Loader F S1x512 .f32) (l12 : Loader F S4x2x128x256 .bf16)
  (l17 : Loader F S1056x512 .f32) (l18 : Loader F S1056x512 .bf16) (l19 : Loader F S1024x3072 .bf16)

/-- The modulated tokens of the tile and of the sixteen on either side. -/
def tokens : FVec F S1056x1024 .bf16 :=
  k0_pay2 (l5 (Rect.unit (s := S1x3x1024) ![0, 0, 0] S1x1x1024.size inb_S1x3x1024_S1x1x1024_0_0_0).toLoadRect)
    (l5 (Rect.unit (s := S1x3x1024) ![0, 1, 0] S1x1x1024.size inb_S1x3x1024_S1x1x1024_0_1_0).toLoadRect)
    (l2 (Rect.unit (s := S1x16x1024) ![0, 0, 0] S1x16x1024.size inb_S1x16x1024_S1x16x1024_0_0_0).toLoadRect)
    (l3 (Rect.unit (s := S1x1024x1024) ![0, 0, 0] S1x1024x1024.size inb_S1x1024x1024_S1x1024x1024_0_0_0).toLoadRect)
    (l4 (Rect.unit (s := S1x16x1024) ![0, 0, 0] S1x16x1024.size inb_S1x16x1024_S1x16x1024_0_0_0).toLoadRect)

/-- The tile's own. -/
def tileTokens : FVec F S1024x1024 .bf16 :=
  extractStridedSlice S1024x1024 ![16, 0] (tokens l2 l3 l4 l5) slices_S1056x1024_o16_0_S1024x1024

/-- The projection's first 512 columns. -/
def tileV : FVec F S1024x512 .f32 :=
  k0_pay43 (tileTokens l2 l3 l4 l5) (l19 (Rect.unit (s := S1024x3072) ![0, 0] S1024x512.size inb_S1024x3072_S1024x512_0_0).toLoadRect)
    (l7 (Rect.unit (s := S1x3072) ![0, 0] S1x512.size inb_S1x3072_S1x512_0_0).toLoadRect)

/-- Its second. -/
def tileX1 : FVec F S1024x512 .f32 :=
  k0_pay43 (tileTokens l2 l3 l4 l5) (l19 (Rect.unit (s := S1024x3072) ![0, 512] S1024x512.size inb_S1024x3072_S1024x512_0_512).toLoadRect)
    (l7 (Rect.unit (s := S1x3072) ![0, 512] S1x512.size inb_S1x3072_S1x512_0_512).toLoadRect)

/-- Its third, with the neighbours, zero outside the sequence. -/
def convRows : FVec F S1056x512 .f32 :=
  k0_pay82 (BitVec.ofNat 32 (i 1).val) (k0_pay81 (tokens l2 l3 l4 l5)
    (l19 (Rect.unit (s := S1024x3072) ![0, 1024] S1024x512.size inb_S1024x3072_S1024x512_0_1024).toLoadRect)
    (l7 (Rect.unit (s := S1x3072) ![0, 1024] S1x512.size inb_S1x3072_S1x512_0_1024).toLoadRect)) 0#32

/-- The third stream: the short convolution of those rows, gated by the fourth 512 columns. -/
def tileX2 : FVec F S1024x512 .f32 :=
  k0_pay85 (k0_pay83 (tileTokens l2 l3 l4 l5) (l19 (Rect.unit (s := S1024x3072) ![0, 1536] S1024x512.size inb_S1024x3072_S1024x512_0_1536).toLoadRect)
      (l7 (Rect.unit (s := S1x3072) ![0, 1536] S1x512.size inb_S1x3072_S1x512_0_1536).toLoadRect))
    (k0_pay84 (l9 (Rect.unit (s := S1x1536) ![0, 1024] S1x512.size inb_S1x1536_S1x512_0_1024).toLoadRect)
      (l8 (Rect.unit (s := S3x1536) ![0, 1024] S1x512.size inb_S3x1536_S1x512_0_1024).toLoadRect)
      (l17 (Rect.unit (s := S1056x512) ![15, 0] S1024x512.size inb_S1056x512_S1024x512_15_0).toLoadRect)
      (l8 (Rect.unit (s := S3x1536) ![1, 1024] S1x512.size inb_S3x1536_S1x512_1_1024).toLoadRect)
      (l17 (Rect.unit (s := S1056x512) ![16, 0] S1024x512.size inb_S1056x512_S1024x512_16_0).toLoadRect))
    (l8 (Rect.unit (s := S3x1536) ![2, 1024] S1x512.size inb_S3x1536_S1x512_2_1024).toLoadRect)
    (l17 (Rect.unit (s := S1056x512) ![17, 0] S1024x512.size inb_S1056x512_S1024x512_17_0).toLoadRect)

/-- The fifth 512 columns with the neighbours, zero outside the sequence: what is pooled. -/
def poolRows : FVec F S1056x512 .f32 :=
  k0_pay123 (BitVec.ofNat 32 (i 1).val) (tokens l2 l3 l4 l5)
    (l19 (Rect.unit (s := S1024x3072) ![0, 2048] S1024x512.size inb_S1024x3072_S1024x512_0_2048).toLoadRect)
    (l7 (Rect.unit (s := S1x3072) ![0, 2048] S1x512.size inb_S1x3072_S1x512_0_2048).toLoadRect)

/-- The same as the first scratch buffer takes it. -/
def poolRowsKept : FVec F S1056x512 .f32 :=
  shapeCast S1056x512 (poolRows i l2 l3 l4 l5 l7 l19) shapeCasts_S1056x512_S1056x512

/-- The same in bf16, as the second takes it. -/
def poolRows16 : FVec F S1056x512 .bf16 :=
  k0_pay124 (BitVec.ofNat 32 (i 1).val) (tokens l2 l3 l4 l5)
    (l19 (Rect.unit (s := S1024x3072) ![0, 2048] S1024x512.size inb_S1024x3072_S1024x512_0_2048).toLoadRect)
    (l7 (Rect.unit (s := S1x3072) ![0, 2048] S1x512.size inb_S1x3072_S1x512_0_2048).toLoadRect)

/-- One band of 128 tokens: its indicator matrix times the rows that it can reach. -/
def bandProduct (b : Vec F S1x1x128x256 .bf16) (rows : Vec F S256x128 .bf16) : FVec F S128x128 .f32 :=
  matmul dot_S128x256_S256x128_S128x128_1_0_0_1_n_n none (shapeCast S128x256 b shapeCasts_S1x1x128x256_S128x256) rows
    (constant S128x128 .f32 0x00000000#32)

/-- One group of channels, from the window sums of its eight bands: the means less the tokens, mixed. -/
def poolGroup (half : BitVec 32) (pos : IVec S1024x1 32) (s : Fin 8 → FVec F S128x128 .f32) (tok : Vec F S1024x128 .f32)
    (mix : Vec F S1x128x128 .bf16) : FVec F S1024x128 .f32 :=
  matmul dot_S1024x128_S128x128_S1024x128_1_0_0_1_n_n none
    (truncf .bf16 (subf (divf
        (concatenate S1024x128 0 [⟨S128x128, s 0⟩, ⟨S128x128, s 1⟩, ⟨S128x128, s 2⟩, ⟨S128x128, s 3⟩, ⟨S128x128, s 4⟩,
          ⟨S128x128, s 5⟩, ⟨S128x128, s 6⟩, ⟨S128x128, s 7⟩]
          concatenates_S128x128_S128x128_S128x128_S128x128_S128x128_S128x128_S128x128_S128x128_S1024x128_d0)
        (broadcastTo S1024x128 (sitofp .f32 (subi (minsi (addi pos (broadcast S1024x1 half)) (broadcast S1024x1 16384#32))
          (maxsi (subi pos (broadcast S1024x1 half)) (broadcast S1024x1 0#32)))) broadcasts_S1024x1_S1024x128)) tok) bitsLt_bf16_f32)
    (shapeCast S128x128 mix shapeCasts_S1x128x128_S128x128) (constant S1024x128 .f32 0x00000000#32)

/-- The channels of pooling group 0, of window 2. -/
def group0 : FVec F S1024x128 .f32 :=
  poolGroup 1#32 (k0_pay126 (BitVec.ofNat 32 (i 1).val))
    ![bandProduct (l12 (Rect.unit (s := S4x2x128x256) ![0, 0, 0, 0] S1x1x128x256.size inb_S4x2x128x256_S1x1x128x256_0_0_0_0).toLoadRect) (l18 (Rect.unit (s := S1056x512) ![0, 0] S256x128.size inb_S1056x512_S256x128_0_0).toLoadRect),
      bandProduct (l12 (Rect.unit (s := S4x2x128x256) ![0, 0, 0, 0] S1x1x128x256.size inb_S4x2x128x256_S1x1x128x256_0_0_0_0).toLoadRect) (l18 (Rect.unit (s := S1056x512) ![128, 0] S256x128.size inb_S1056x512_S256x128_128_0).toLoadRect),
      bandProduct (l12 (Rect.unit (s := S4x2x128x256) ![0, 0, 0, 0] S1x1x128x256.size inb_S4x2x128x256_S1x1x128x256_0_0_0_0).toLoadRect) (l18 (Rect.unit (s := S1056x512) ![256, 0] S256x128.size inb_S1056x512_S256x128_256_0).toLoadRect),
      bandProduct (l12 (Rect.unit (s := S4x2x128x256) ![0, 0, 0, 0] S1x1x128x256.size inb_S4x2x128x256_S1x1x128x256_0_0_0_0).toLoadRect) (l18 (Rect.unit (s := S1056x512) ![384, 0] S256x128.size inb_S1056x512_S256x128_384_0).toLoadRect),
      bandProduct (l12 (Rect.unit (s := S4x2x128x256) ![0, 0, 0, 0] S1x1x128x256.size inb_S4x2x128x256_S1x1x128x256_0_0_0_0).toLoadRect) (l18 (Rect.unit (s := S1056x512) ![512, 0] S256x128.size inb_S1056x512_S256x128_512_0).toLoadRect),
      bandProduct (l12 (Rect.unit (s := S4x2x128x256) ![0, 0, 0, 0] S1x1x128x256.size inb_S4x2x128x256_S1x1x128x256_0_0_0_0).toLoadRect) (l18 (Rect.unit (s := S1056x512) ![640, 0] S256x128.size inb_S1056x512_S256x128_640_0).toLoadRect),
      bandProduct (l12 (Rect.unit (s := S4x2x128x256) ![0, 0, 0, 0] S1x1x128x256.size inb_S4x2x128x256_S1x1x128x256_0_0_0_0).toLoadRect) (l18 (Rect.unit (s := S1056x512) ![768, 0] S256x128.size inb_S1056x512_S256x128_768_0).toLoadRect),
      bandProduct (l12 (Rect.unit (s := S4x2x128x256) ![0, 1, 0, 0] S1x1x128x256.size inb_S4x2x128x256_S1x1x128x256_0_1_0_0).toLoadRect) (l18 (Rect.unit (s := S1056x512) ![800, 0] S256x128.size inb_S1056x512_S256x128_800_0).toLoadRect)]
    (l17 (Rect.unit (s := S1056x512) ![16, 0] S1024x128.size inb_S1056x512_S1024x128_16_0).toLoadRect)
    (l10 (Rect.unit (s := S4x128x128) ![0, 0, 0] S1x128x128.size inb_S4x128x128_S1x128x128_0_0_0).toLoadRect)

/-- The channels of pooling group 1, of window 4. -/
def group1 : FVec F S1024x128 .f32 :=
  poolGroup 2#32 (k0_pay126 (BitVec.ofNat 32 (i 1).val))
    ![bandProduct (l12 (Rect.unit (s := S4x2x128x256) ![1, 0, 0, 0] S1x1x128x256.size inb_S4x2x128x256_S1x1x128x256_1_0_0_0).toLoadRect) (l18 (Rect.unit (s := S1056x512) ![0, 128] S256x128.size inb_S1056x512_S256x128_0_128).toLoadRect),
      bandProduct (l12 (Rect.unit (s := S4x2x128x256) ![1, 0, 0, 0] S1x1x128x256.size inb_S4x2x128x256_S1x1x128x256_1_0_0_0).toLoadRect) (l18 (Rect.unit (s := S1056x512) ![128, 128] S256x128.size inb_S1056x512_S256x128_128_128).toLoadRect),
      bandProduct (l12 (Rect.unit (s := S4x2x128x256) ![1, 0, 0, 0] S1x1x128x256.size inb_S4x2x128x256_S1x1x128x256_1_0_0_0).toLoadRect) (l18 (Rect.unit (s := S1056x512) ![256, 128] S256x128.size inb_S1056x512_S256x128_256_128).toLoadRect),
      bandProduct (l12 (Rect.unit (s := S4x2x128x256) ![1, 0, 0, 0] S1x1x128x256.size inb_S4x2x128x256_S1x1x128x256_1_0_0_0).toLoadRect) (l18 (Rect.unit (s := S1056x512) ![384, 128] S256x128.size inb_S1056x512_S256x128_384_128).toLoadRect),
      bandProduct (l12 (Rect.unit (s := S4x2x128x256) ![1, 0, 0, 0] S1x1x128x256.size inb_S4x2x128x256_S1x1x128x256_1_0_0_0).toLoadRect) (l18 (Rect.unit (s := S1056x512) ![512, 128] S256x128.size inb_S1056x512_S256x128_512_128).toLoadRect),
      bandProduct (l12 (Rect.unit (s := S4x2x128x256) ![1, 0, 0, 0] S1x1x128x256.size inb_S4x2x128x256_S1x1x128x256_1_0_0_0).toLoadRect) (l18 (Rect.unit (s := S1056x512) ![640, 128] S256x128.size inb_S1056x512_S256x128_640_128).toLoadRect),
      bandProduct (l12 (Rect.unit (s := S4x2x128x256) ![1, 0, 0, 0] S1x1x128x256.size inb_S4x2x128x256_S1x1x128x256_1_0_0_0).toLoadRect) (l18 (Rect.unit (s := S1056x512) ![768, 128] S256x128.size inb_S1056x512_S256x128_768_128).toLoadRect),
      bandProduct (l12 (Rect.unit (s := S4x2x128x256) ![1, 1, 0, 0] S1x1x128x256.size inb_S4x2x128x256_S1x1x128x256_1_1_0_0).toLoadRect) (l18 (Rect.unit (s := S1056x512) ![800, 128] S256x128.size inb_S1056x512_S256x128_800_128).toLoadRect)]
    (l17 (Rect.unit (s := S1056x512) ![16, 128] S1024x128.size inb_S1056x512_S1024x128_16_128).toLoadRect)
    (l10 (Rect.unit (s := S4x128x128) ![1, 0, 0] S1x128x128.size inb_S4x128x128_S1x128x128_1_0_0).toLoadRect)

/-- The channels of pooling group 2, of window 8. -/
def group2 : FVec F S1024x128 .f32 :=
  poolGroup 4#32 (k0_pay126 (BitVec.ofNat 32 (i 1).val))
    ![bandProduct (l12 (Rect.unit (s := S4x2x128x256) ![2, 0, 0, 0] S1x1x128x256.size inb_S4x2x128x256_S1x1x128x256_2_0_0_0).toLoadRect) (l18 (Rect.unit (s := S1056x512) ![0, 256] S256x128.size inb_S1056x512_S256x128_0_256).toLoadRect),
      bandProduct (l12 (Rect.unit (s := S4x2x128x256) ![2, 0, 0, 0] S1x1x128x256.size inb_S4x2x128x256_S1x1x128x256_2_0_0_0).toLoadRect) (l18 (Rect.unit (s := S1056x512) ![128, 256] S256x128.size inb_S1056x512_S256x128_128_256).toLoadRect),
      bandProduct (l12 (Rect.unit (s := S4x2x128x256) ![2, 0, 0, 0] S1x1x128x256.size inb_S4x2x128x256_S1x1x128x256_2_0_0_0).toLoadRect) (l18 (Rect.unit (s := S1056x512) ![256, 256] S256x128.size inb_S1056x512_S256x128_256_256).toLoadRect),
      bandProduct (l12 (Rect.unit (s := S4x2x128x256) ![2, 0, 0, 0] S1x1x128x256.size inb_S4x2x128x256_S1x1x128x256_2_0_0_0).toLoadRect) (l18 (Rect.unit (s := S1056x512) ![384, 256] S256x128.size inb_S1056x512_S256x128_384_256).toLoadRect),
      bandProduct (l12 (Rect.unit (s := S4x2x128x256) ![2, 0, 0, 0] S1x1x128x256.size inb_S4x2x128x256_S1x1x128x256_2_0_0_0).toLoadRect) (l18 (Rect.unit (s := S1056x512) ![512, 256] S256x128.size inb_S1056x512_S256x128_512_256).toLoadRect),
      bandProduct (l12 (Rect.unit (s := S4x2x128x256) ![2, 0, 0, 0] S1x1x128x256.size inb_S4x2x128x256_S1x1x128x256_2_0_0_0).toLoadRect) (l18 (Rect.unit (s := S1056x512) ![640, 256] S256x128.size inb_S1056x512_S256x128_640_256).toLoadRect),
      bandProduct (l12 (Rect.unit (s := S4x2x128x256) ![2, 0, 0, 0] S1x1x128x256.size inb_S4x2x128x256_S1x1x128x256_2_0_0_0).toLoadRect) (l18 (Rect.unit (s := S1056x512) ![768, 256] S256x128.size inb_S1056x512_S256x128_768_256).toLoadRect),
      bandProduct (l12 (Rect.unit (s := S4x2x128x256) ![2, 1, 0, 0] S1x1x128x256.size inb_S4x2x128x256_S1x1x128x256_2_1_0_0).toLoadRect) (l18 (Rect.unit (s := S1056x512) ![800, 256] S256x128.size inb_S1056x512_S256x128_800_256).toLoadRect)]
    (l17 (Rect.unit (s := S1056x512) ![16, 256] S1024x128.size inb_S1056x512_S1024x128_16_256).toLoadRect)
    (l10 (Rect.unit (s := S4x128x128) ![2, 0, 0] S1x128x128.size inb_S4x128x128_S1x128x128_2_0_0).toLoadRect)

/-- The channels of pooling group 3, of window 16. -/
def group3 : FVec F S1024x128 .f32 :=
  poolGroup 8#32 (k0_pay126 (BitVec.ofNat 32 (i 1).val))
    ![bandProduct (l12 (Rect.unit (s := S4x2x128x256) ![3, 0, 0, 0] S1x1x128x256.size inb_S4x2x128x256_S1x1x128x256_3_0_0_0).toLoadRect) (l18 (Rect.unit (s := S1056x512) ![0, 384] S256x128.size inb_S1056x512_S256x128_0_384).toLoadRect),
      bandProduct (l12 (Rect.unit (s := S4x2x128x256) ![3, 0, 0, 0] S1x1x128x256.size inb_S4x2x128x256_S1x1x128x256_3_0_0_0).toLoadRect) (l18 (Rect.unit (s := S1056x512) ![128, 384] S256x128.size inb_S1056x512_S256x128_128_384).toLoadRect),
      bandProduct (l12 (Rect.unit (s := S4x2x128x256) ![3, 0, 0, 0] S1x1x128x256.size inb_S4x2x128x256_S1x1x128x256_3_0_0_0).toLoadRect) (l18 (Rect.unit (s := S1056x512) ![256, 384] S256x128.size inb_S1056x512_S256x128_256_384).toLoadRect),
      bandProduct (l12 (Rect.unit (s := S4x2x128x256) ![3, 0, 0, 0] S1x1x128x256.size inb_S4x2x128x256_S1x1x128x256_3_0_0_0).toLoadRect) (l18 (Rect.unit (s := S1056x512) ![384, 384] S256x128.size inb_S1056x512_S256x128_384_384).toLoadRect),
      bandProduct (l12 (Rect.unit (s := S4x2x128x256) ![3, 0, 0, 0] S1x1x128x256.size inb_S4x2x128x256_S1x1x128x256_3_0_0_0).toLoadRect) (l18 (Rect.unit (s := S1056x512) ![512, 384] S256x128.size inb_S1056x512_S256x128_512_384).toLoadRect),
      bandProduct (l12 (Rect.unit (s := S4x2x128x256) ![3, 0, 0, 0] S1x1x128x256.size inb_S4x2x128x256_S1x1x128x256_3_0_0_0).toLoadRect) (l18 (Rect.unit (s := S1056x512) ![640, 384] S256x128.size inb_S1056x512_S256x128_640_384).toLoadRect),
      bandProduct (l12 (Rect.unit (s := S4x2x128x256) ![3, 0, 0, 0] S1x1x128x256.size inb_S4x2x128x256_S1x1x128x256_3_0_0_0).toLoadRect) (l18 (Rect.unit (s := S1056x512) ![768, 384] S256x128.size inb_S1056x512_S256x128_768_384).toLoadRect),
      bandProduct (l12 (Rect.unit (s := S4x2x128x256) ![3, 1, 0, 0] S1x1x128x256.size inb_S4x2x128x256_S1x1x128x256_3_1_0_0).toLoadRect) (l18 (Rect.unit (s := S1056x512) ![800, 384] S256x128.size inb_S1056x512_S256x128_800_384).toLoadRect)]
    (l17 (Rect.unit (s := S1056x512) ![16, 384] S1024x128.size inb_S1056x512_S1024x128_16_384).toLoadRect)
    (l10 (Rect.unit (s := S4x128x128) ![3, 0, 0] S1x128x128.size inb_S4x128x128_S1x128x128_3_0_0).toLoadRect)

/-- The pooling mixer's output: the groups side by side, scaled, and gated by the sixth 512 columns. -/
def tileY : FVec F S1x1024x512 .bf16 :=
  k0_pay153 (tileTokens l2 l3 l4 l5) (group0 i l10 l12 l17 l18) (group1 i l10 l12 l17 l18) (group2 i l10 l12 l17 l18)
    (group3 i l10 l12 l17 l18) (l19 (Rect.unit (s := S1024x3072) ![0, 2560] S1024x512.size inb_S1024x3072_S1024x512_0_2560).toLoadRect)
    (l7 (Rect.unit (s := S1x3072) ![0, 2560] S1x512.size inb_S1x3072_S1x512_0_2560).toLoadRect)
    (l11 (Rect.unit (s := S1x512) ![0, 0] S1x512.size inb_S1x512_S1x512_0_0).toLoadRect)

end Cert.KernelIdeal.Hand

end
-- ==== Proof.Pieces.lean ====
/-
The stores that a pass makes into each output block, in terms of the stages.
-/
module

public import proofs.«01_k».proof.Proof.Body
public import proofs.«01_k».proof.Proof.Stages

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x3x1024 .f32) (harg5 : arg5.IsWhole) (arg6 : Memref sig .tc .vmem S1024x3072 .f32) (harg6 : arg6.IsWhole) (arg7 : Memref sig .tc .vmem S1x3072 .f32) (harg7 : arg7.IsWhole) (arg8 : Memref sig .tc .vmem S3x1536 .f32) (harg8 : arg8.IsWhole) (arg9 : Memref sig .tc .vmem S1x1536 .f32) (harg9 : arg9.IsWhole) (arg10 : Memref sig .tc .vmem S4x128x128 .bf16) (harg10 : arg10.IsWhole) (arg11 : Memref sig .tc .vmem S1x512 .f32) (harg11 : arg11.IsWhole) (arg12 : Memref sig .tc .vmem S4x2x128x256 .bf16) (harg12 : arg12.IsWhole) (arg13 : Memref sig .tc .vmem S1x1x4x1024x128 .f32) (harg13 : arg13.IsWhole) (arg14 : Memref sig .tc .vmem S1x1x4x1024x128 .f32) (harg14 : arg14.IsWhole) (arg15 : Memref sig .tc .vmem S1x1x4x1024x128 .f32) (harg15 : arg15.IsWhole) (arg16 : Memref sig .tc .vmem S1x1024x512 .bf16) (harg16 : arg16.IsWhole) (arg17 : Memref sig .tc .vmem S1056x512 .f32) (harg17 : arg17.IsWhole) (arg18 : Memref sig .tc .vmem S1056x512 .bf16) (harg18 : arg18.IsWhole) (arg19 : Memref sig .tc .vmem S1024x3072 .bf16) (harg19 : arg19.IsWhole)
    (x0 : Vec F S1x16x1024 .f32) (x1 : Vec F S1x1024x1024 .f32) (x2 : Vec F S1x16x1024 .f32) (x3 : Vec F S1x3x1024 .f32) (x4 : Vec F S1024x3072 .f32) (x5 : Vec F S1x3072 .f32) (x6 : Vec F S3x1536 .f32) (x7 : Vec F S1x1536 .f32) (x8 : Vec F S4x128x128 .bf16) (x9 : Vec F S1x512 .f32) (x10 : Vec F S4x2x128x256 .bf16) (w d : Vec F S1024x3072 .bf16)
    (hfirst : isFirst i → w = k0_pay1 x4) (hlater : ¬ isFirst i → d = w)

theorem pieces_v : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 w d hfirst hlater).1 =
    blocks (tileV (loads x0) (loads x1) (loads x2) (loads x3) (loads x5) (loads w)) := by
  refine Eq.trans (b := blocks _) rfl (congrArg blocks (Eq.trans (b := tileV (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w))) ?_ ?_))
  · rfl
  · rw [readAt_unread harg2, readAt_unread harg3, readAt_unread harg4, readAt_unread harg5, readAt_unread harg7, readAt_unread harg19]

theorem pieces_x1 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 w d hfirst hlater).2.1 =
    blocks (tileX1 (loads x0) (loads x1) (loads x2) (loads x3) (loads x5) (loads w)) := by
  refine Eq.trans (b := blocks _) rfl (congrArg blocks (Eq.trans (b := tileX1 (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w))) ?_ ?_))
  · rfl
  · rw [readAt_unread harg2, readAt_unread harg3, readAt_unread harg4, readAt_unread harg5, readAt_unread harg7, readAt_unread harg19]

theorem pieces_x2 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 w d hfirst hlater).2.2.1 =
    blocks (tileX2 (loads x0) (loads x1) (loads x2) (loads x3) (loads x5) (loads x6) (loads x7) (loads (convRows i (loads x0) (loads x1) (loads x2) (loads x3) (loads x5) (loads w))) (loads w)) := by
  refine Eq.trans (b := blocks _) rfl (congrArg blocks (Eq.trans (b := tileX2 (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg8.view r (harg8.unread x6)) (fun r => View.readAt (Elt F) arg9.view r (harg9.unread x7)) (fun r => arg17.view.readCov [⟨Rect.unit ![0, 0] S1056x512.size inb_S1056x512_S1056x512_0_0, (convRows i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩] r) (fun r => View.readAt (Elt F) arg19.view r (harg19.unread w))) ?_ ?_))
  · rfl
  · rw [readCov_whole, readAt_unread harg2, readAt_unread harg3, readAt_unread harg4, readAt_unread harg5, readAt_unread harg7, readAt_unread harg8, readAt_unread harg9, readAt_unread harg19]
    rfl

theorem pieces_y : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 w d hfirst hlater).2.2.2.1 =
    [⟨Rect.unit ![0, 0, 0] S1x1024x512.size inb_S1x1024x512_S1x1024x512_0_0_0,
      tileY i (loads x0) (loads x1) (loads x2) (loads x3) (loads x5) (loads x8) (loads x9) (loads x10) (loads (poolRowsKept i (loads x0) (loads x1) (loads x2) (loads x3) (loads x5) (loads w))) (loads (poolRows16 i (loads x0) (loads x1) (loads x2) (loads x3) (loads x5) (loads w))) (loads w)⟩] := by
  have h17 := readCov_whole (F := F) arg17.view inb_S1056x512_S1056x512_0_0 (poolRowsKept i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w))) [⟨Rect.unit ![0, 0] S1056x512.size inb_S1056x512_S1056x512_0_0, (convRows i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩]
  have h18 := readCov_whole (F := F) arg18.view inb_S1056x512_S1056x512_0_0 (poolRows16 i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w))) []
  have e : ∀ (r17 : Loader F S1056x512 .f32) (r18 : Loader F S1056x512 .bf16), r17 = (fun r => arg17.view.readCov (⟨Rect.unit ![0, 0] S1056x512.size inb_S1056x512_S1056x512_0_0, (poolRowsKept i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩ :: [⟨Rect.unit ![0, 0] S1056x512.size inb_S1056x512_S1056x512_0_0, (convRows i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩]) r) → r18 = (fun r => arg18.view.readCov [⟨Rect.unit ![0, 0] S1056x512.size inb_S1056x512_S1056x512_0_0, (poolRows16 i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩] r) →
     (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 w d hfirst hlater).2.2.2.1 = [⟨Rect.unit ![0, 0, 0] S1x1024x512.size inb_S1x1024x512_S1x1024x512_0_0_0, tileY i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg10.view r (harg10.unread x8)) (fun r => View.readAt (Elt F) arg11.view r (harg11.unread x9)) (fun r => View.readAt (Elt F) arg12.view r (harg12.unread x10)) r17 r18 (fun r => View.readAt (Elt F) arg19.view r (harg19.unread w))⟩] := by
    intro r17 r18 h17 h18
    have g0 : group0 i (fun r => View.readAt (Elt F) arg10.view r (harg10.unread x8)) (fun r => View.readAt (Elt F) arg12.view r (harg12.unread x10)) r17 r18 = group0 i (fun r => View.readAt (Elt F) arg10.view r (harg10.unread x8)) (fun r => View.readAt (Elt F) arg12.view r (harg12.unread x10)) (fun r => arg17.view.readCov (⟨Rect.unit ![0, 0] S1056x512.size inb_S1056x512_S1056x512_0_0, (poolRowsKept i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩ :: [⟨Rect.unit ![0, 0] S1056x512.size inb_S1056x512_S1056x512_0_0, (convRows i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩]) r) (fun r => arg18.view.readCov [⟨Rect.unit ![0, 0] S1056x512.size inb_S1056x512_S1056x512_0_0, (poolRows16 i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩] r) := by rw [h17, h18]
    have g1 : group1 i (fun r => View.readAt (Elt F) arg10.view r (harg10.unread x8)) (fun r => View.readAt (Elt F) arg12.view r (harg12.unread x10)) r17 r18 = group1 i (fun r => View.readAt (Elt F) arg10.view r (harg10.unread x8)) (fun r => View.readAt (Elt F) arg12.view r (harg12.unread x10)) (fun r => arg17.view.readCov (⟨Rect.unit ![0, 0] S1056x512.size inb_S1056x512_S1056x512_0_0, (poolRowsKept i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩ :: [⟨Rect.unit ![0, 0] S1056x512.size inb_S1056x512_S1056x512_0_0, (convRows i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩]) r) (fun r => arg18.view.readCov [⟨Rect.unit ![0, 0] S1056x512.size inb_S1056x512_S1056x512_0_0, (poolRows16 i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩] r) := by rw [h17, h18]
    have g2 : group2 i (fun r => View.readAt (Elt F) arg10.view r (harg10.unread x8)) (fun r => View.readAt (Elt F) arg12.view r (harg12.unread x10)) r17 r18 = group2 i (fun r => View.readAt (Elt F) arg10.view r (harg10.unread x8)) (fun r => View.readAt (Elt F) arg12.view r (harg12.unread x10)) (fun r => arg17.view.readCov (⟨Rect.unit ![0, 0] S1056x512.size inb_S1056x512_S1056x512_0_0, (poolRowsKept i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩ :: [⟨Rect.unit ![0, 0] S1056x512.size inb_S1056x512_S1056x512_0_0, (convRows i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩]) r) (fun r => arg18.view.readCov [⟨Rect.unit ![0, 0] S1056x512.size inb_S1056x512_S1056x512_0_0, (poolRows16 i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩] r) := by rw [h17, h18]
    have g3 : group3 i (fun r => View.readAt (Elt F) arg10.view r (harg10.unread x8)) (fun r => View.readAt (Elt F) arg12.view r (harg12.unread x10)) r17 r18 = group3 i (fun r => View.readAt (Elt F) arg10.view r (harg10.unread x8)) (fun r => View.readAt (Elt F) arg12.view r (harg12.unread x10)) (fun r => arg17.view.readCov (⟨Rect.unit ![0, 0] S1056x512.size inb_S1056x512_S1056x512_0_0, (poolRowsKept i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩ :: [⟨Rect.unit ![0, 0] S1056x512.size inb_S1056x512_S1056x512_0_0, (convRows i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩]) r) (fun r => arg18.view.readCov [⟨Rect.unit ![0, 0] S1056x512.size inb_S1056x512_S1056x512_0_0, (poolRows16 i (fun r => View.readAt (Elt F) arg2.view r (harg2.unread x0)) (fun r => View.readAt (Elt F) arg3.view r (harg3.unread x1)) (fun r => View.readAt (Elt F) arg4.view r (harg4.unread x2)) (fun r => View.readAt (Elt F) arg5.view r (harg5.unread x3)) (fun r => View.readAt (Elt F) arg7.view r (harg7.unread x5)) (fun r => View.readAt (Elt F) arg19.view r (harg19.unread w)))⟩] r) := by rw [h17, h18]
    unfold tileY
    refine Eq.trans (b := [⟨Rect.unit ![0, 0, 0] S1x1024x512.size inb_S1x1024x512_S1x1024x512_0_0_0, k0_pay153 _ _ _ _ _ _ _ _⟩]) rfl ?_
    rw [g0, g1, g2, g3]
    congr 3
  rw [e _ _ rfl rfl, h17, h18, readAt_unread harg2, readAt_unread harg3, readAt_unread harg4, readAt_unread harg5, readAt_unread harg7, readAt_unread harg10, readAt_unread harg11, readAt_unread harg12, readAt_unread harg19]
  rfl

end Cert.KernelIdeal.Hand

end
-- ==== Proof.Stores.lean ====
/-
An output block after a tile's permuted stores.
-/
module

public import proofs.«01_k».proof.Proof.Stages
public import Idealize.ShloMosaic.Lib.Writes
public import Idealize.ShloMosaic.Lib.Pipeline.Value
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx

variable {F : FTy → Type} [FloatOps F]

local notation "𝕄" => MT nD τ sig Unit (Elt F) ℕ (UR sig nD τ) ℕ

/-- A tile permuted into its block: plane `cb` holds columns `128 cb …`, and row `8 r + j` of a plane is row `128 j + r` of the
    tile. -/
def permuted (p : FVec F S1024x512 .f32) : Vec F S1x1x4x1024x128 .f32 := fun y =>
  p (ix2 (⟨128 * ((y 3).val % 8) + (y 3).val / 8, by have h := (y 3).isLt; change _ < 1024 at h; omega⟩ : Fin 1024)
    (⟨128 * (y 2).val + (y 4).val, by
      have h := (y 2).isLt; change _ < 4 at h; have h' := (y 4).isLt; change _ < 128 at h'; omega⟩ : Fin 512))

theorem mem_blocks (p : FVec F S1024x512 .f32) (cb : Fin 4) (j : Fin 8) : blockAt p cb j ∈ blocks p := by
  fin_cases cb <;> fin_cases j <;> simp [blocks]

theorem eq_of_mem_blocks (p : FVec F S1024x512 .f32) (q) (h : q ∈ blocks p) : ∃ cb j, q = blockAt p cb j := by
  simp only [blocks, List.mem_cons, List.not_mem_nil, or_false] at h
  repeat (first | (rcases h with h | h; exact ⟨_, _, h⟩) | exact ⟨_, _, h⟩)

/-- The thirty-two stores leave the tile permuted, whatever was there. -/
theorem read_blocks {sp : Space} (v : View sig .tc sp S1x1x4x1024x128 .f32) (f : v.ty.Contents (Elt F)) (p : FVec F S1024x512 .f32) :
    v.read (Elt F) (v.writes (Elt F) f (blocks p)) = permuted p :=
  funext fun y => by
    refine View.read_writes_apply_of_pieces v f (permuted p) (blocks p) ?_ y ?_
    · intro q hq x
      obtain ⟨cb, j, rfl⟩ := eq_of_mem_blocks p q hq
      have h3 := (x 3).isLt; change _ < 128 at h3
      have h4 := (x 4).isLt; change _ < 128 at h4
      have h0 := (x 0).isLt; change _ < 1 at h0
      have h1 := (x 1).isLt; change _ < 1 at h1
      have h2 := (x 2).isLt; change _ < 1 at h2
      refine (shapeCast_apply (extractStridedSlice S128x128 ![128 * j.val, 128 * cb.val] p (slices_block cb j))
        shapeCasts_S128x128_S1x1x1x128x128 x (ix2 (x 3) (x 4)) ?_).trans (congrArg (f := p) ?_)
      · refine (Shape.rowMajor_val_two _).trans (Eq.trans ?_ (Shape.rowMajor_val_five _).symm)
        show (x 3).val * 128 + (x 4).val = (((((x 0).val * 1 + (x 1).val) * 1 + (x 2).val) * 128 + (x 3).val) * 128 + (x 4).val)
        omega
      · funext a
        apply Fin.ext
        match a with
        | ⟨0, _⟩ =>
          show 128 * j.val + (x 3).val = 128 * ((j.val + 8 * (x 3).val) % 8) + (j.val + 8 * (x 3).val) / 8
          have := j.isLt; omega
        | ⟨1, _⟩ =>
          show 128 * cb.val + (x 4).val = 128 * (cb.val + 1 * (x 2).val) + (0 + 1 * (x 4).val)
          omega
    · have h2 := (y 2).isLt; change _ < 4 at h2
      have h3 := (y 3).isLt; change _ < 1024 at h3
      have h4 := (y 4).isLt; change _ < 128 at h4
      have h0 := (y 0).isLt; change _ < 1 at h0
      have h1 := (y 1).isLt; change _ < 1 at h1
      refine ⟨_, mem_blocks p ⟨(y 2).val, h2⟩ ⟨(y 3).val % 8, by omega⟩, (LoadRect.mem_set _).mpr fun a => ?_⟩
      match a with
      | ⟨0, _⟩ => exact ⟨0, Nat.one_pos, by show (y 0).val = 0 + 1 * 0; omega⟩
      | ⟨1, _⟩ => exact ⟨0, Nat.one_pos, by show (y 1).val = 0 + 1 * 0; omega⟩
      | ⟨2, _⟩ => exact ⟨0, Nat.one_pos, by show (y 2).val = (y 2).val + 1 * 0; omega⟩
      | ⟨3, _⟩ => exact ⟨(y 3).val / 8, by show _ < 128; omega, by show (y 3).val = (y 3).val % 8 + 8 * ((y 3).val / 8); omega⟩
      | ⟨4, _⟩ => exact ⟨(y 4).val, h4, by show (y 4).val = 0 + 1 * (y 4).val; omega⟩

end Cert.KernelIdeal.Hand

end
-- ==== Proof.Run.lean ====
/-
The run of the kernel: what every output block and the kept weights hold after each point, the body's triple at a point,
and the frame.
-/
module

public import proofs.«01_k».proof.Proof.Pieces
public import proofs.«01_k».proof.Proof.Stores
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Point `t`'s input 0: the sixteen tokens before the tile. -/
abbrev in0 (c : Dev nD) (t : Fin cfg0.N) : Vec F S1x16x1024 .f32 := iblk m c 0 t
/-- Point `t`'s input 1: the tile. -/
abbrev in1 (c : Dev nD) (t : Fin cfg0.N) : Vec F S1x1024x1024 .f32 := iblk m c 1 t
/-- Point `t`'s input 2: the sixteen tokens after it. -/
abbrev in2 (c : Dev nD) (t : Fin cfg0.N) : Vec F S1x16x1024 .f32 := iblk m c 2 t
/-- Point `t`'s input 3: the modulation. -/
abbrev in3 (c : Dev nD) (t : Fin cfg0.N) : Vec F S1x3x1024 .f32 := iblk m c 3 t
/-- Point `t`'s input 4: the projection's weights. -/
abbrev in4 (c : Dev nD) (t : Fin cfg0.N) : Vec F S1024x3072 .f32 := iblk m c 4 t
/-- Point `t`'s input 5: its bias. -/
abbrev in5 (c : Dev nD) (t : Fin cfg0.N) : Vec F S1x3072 .f32 := iblk m c 5 t
/-- Point `t`'s input 6: the convolution's weights. -/
abbrev in6 (c : Dev nD) (t : Fin cfg0.N) : Vec F S3x1536 .f32 := iblk m c 6 t
/-- Point `t`'s input 7: its bias. -/
abbrev in7 (c : Dev nD) (t : Fin cfg0.N) : Vec F S1x1536 .f32 := iblk m c 7 t
/-- Point `t`'s input 8: the pooling mixer's weights. -/
abbrev in8 (c : Dev nD) (t : Fin cfg0.N) : Vec F S4x128x128 .bf16 := iblk m c 8 t
/-- Point `t`'s input 9: its scale. -/
abbrev in9 (c : Dev nD) (t : Fin cfg0.N) : Vec F S1x512 .f32 := iblk m c 9 t
/-- Point `t`'s input 10: the band indicators. -/
abbrev in10 (c : Dev nD) (t : Fin cfg0.N) : Vec F S4x2x128x256 .bf16 := iblk m c 10 t

/-- The weights as the scratch keeps them. -/
abbrev weights (c : Dev nD) (t : Fin cfg0.N) : Vec F S1024x3072 .bf16 := k0_pay1 (in4 m c t)

/-- They are the same at every point: each stages the whole array. -/
theorem weights_eq (c : Dev nD) (t t' : Fin cfg0.N) : weights m c t = weights m c t' := rfl

/-- The four output blocks of point `t`. -/
def outV (c : Dev nD) (t : Fin cfg0.N) : Vec F S1x1x4x1024x128 .f32 :=
  permuted (tileV (loads (in0 m c t)) (loads (in1 m c t)) (loads (in2 m c t)) (loads (in3 m c t)) (loads (in5 m c t)) (loads (weights m c t)))

def outX1 (c : Dev nD) (t : Fin cfg0.N) : Vec F S1x1x4x1024x128 .f32 :=
  permuted (tileX1 (loads (in0 m c t)) (loads (in1 m c t)) (loads (in2 m c t)) (loads (in3 m c t)) (loads (in5 m c t)) (loads (weights m c t)))

def outX2 (c : Dev nD) (t : Fin cfg0.N) : Vec F S1x1x4x1024x128 .f32 :=
  permuted (tileX2 (loads (in0 m c t)) (loads (in1 m c t)) (loads (in2 m c t)) (loads (in3 m c t)) (loads (in5 m c t)) (loads (in6 m c t)) (loads (in7 m c t))
    (loads (convRows (grid0.coords t) (loads (in0 m c t)) (loads (in1 m c t)) (loads (in2 m c t)) (loads (in3 m c t)) (loads (in5 m c t)) (loads (weights m c t)))) (loads (weights m c t)))

def outY (c : Dev nD) (t : Fin cfg0.N) : Vec F S1x1024x512 .bf16 :=
  tileY (grid0.coords t) (loads (in0 m c t)) (loads (in1 m c t)) (loads (in2 m c t)) (loads (in3 m c t)) (loads (in5 m c t)) (loads (in8 m c t)) (loads (in9 m c t)) (loads (in10 m c t))
    (loads (poolRowsKept (grid0.coords t) (loads (in0 m c t)) (loads (in1 m c t)) (loads (in2 m c t)) (loads (in3 m c t)) (loads (in5 m c t)) (loads (weights m c t))))
    (loads (poolRows16 (grid0.coords t) (loads (in0 m c t)) (loads (in1 m c t)) (loads (in2 m c t)) (loads (in3 m c t)) (loads (in5 m c t)) (loads (weights m c t)))) (loads (weights m c t))

/-! ## The proof data -/

/-- Between points: the scratch is owned, and after the first point the third buffer holds the weights. -/
def between (c : Dev nD) (n : ℕ) : sProp 𝕄 :=
  iprop(iprop((∃ d, owns (c : Thread nD τ) rowsScr fullShare d) ∗ (∃ d, owns (c : Thread nD τ) rows16Scr fullShare d)
    ∗ (∃ d, ⌜n ≠ 0 → ∀ t, d = weights m c t⌝ ∗ owns (c : Thread nD τ) wScr fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outV m c t
    | ⟨12, _⟩ => outX1 m c t
    | ⟨13, _⟩ => outX2 m c t
    | ⟨14, _⟩ => outY m c t
  Φ t := between m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outV m c t := by dsimp only [dats]
theorem after_12 (c : Dev nD) (t : Fin cfg0.N) : (dats m 0 c).after 12 t = outX1 m c t := by dsimp only [dats]
theorem after_13 (c : Dev nD) (t : Fin cfg0.N) : (dats m 0 c).after 13 t = outX2 m c t := by dsimp only [dats]
theorem after_14 (c : Dev nD) (t : Fin cfg0.N) : (dats m 0 c).after 14 t = outY m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body at a point -/

/-- What a point's body is given, the windows one by one. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d)))

/-- What it gives back. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t)
    ∗ owns (c : Thread nD τ) (stg14 t) fullShare ((dats m 0 c).after 14 t))

set_option maxHeartbeats 400000 in
theorem body_triple (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9, before_10]
  rw [show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.succ = between m c (t.val + 1) from rfl, show (dats m 0 c).Φ t.castSucc = between m c t.val from rfl]
  unfold between
  iintro ⟨⟨⟨HS0, HS1, ⟨%dw, %hw, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have ev := pieces_v (c := c) (i := grid0.coords t) (arg2 := (stg0 t)) (harg2 := (stg0_whole t)) (arg3 := (stg1 t)) (harg3 := (stg1_whole t)) (arg4 := (stg2 t)) (harg4 := (stg2_whole t)) (arg5 := (stg3 t)) (harg5 := (stg3_whole t)) (arg6 := (stg4 t)) (harg6 := (stg4_whole t)) (arg7 := (stg5 t)) (harg7 := (stg5_whole t)) (arg8 := (stg6 t)) (harg8 := (stg6_whole t)) (arg9 := (stg7 t)) (harg9 := (stg7_whole t)) (arg10 := (stg8 t)) (harg10 := (stg8_whole t)) (arg11 := (stg9 t)) (harg11 := (stg9_whole t)) (arg12 := (stg10 t)) (harg12 := (stg10_whole t)) (arg13 := (stg11 t)) (harg13 := (stg11_whole t)) (arg14 := (stg12 t)) (harg14 := (stg12_whole t)) (arg15 := (stg13 t)) (harg15 := (stg13_whole t)) (arg16 := (stg14 t)) (harg16 := (stg14_whole t)) (arg17 := rowsScr) (harg17 := (Memref.isWhole_whole _)) (arg18 := rows16Scr) (harg18 := (Memref.isWhole_whole _)) (arg19 := wScr) (harg19 := (Memref.isWhole_whole _)) (x0 := in0 m c t) (x1 := in1 m c t) (x2 := in2 m c t) (x3 := in3 m c t) (x4 := in4 m c t) (x5 := in5 m c t) (x6 := in6 m c t) (x7 := in7 m c t) (x8 := in8 m c t) (x9 := in9 m c t) (x10 := in10 m c t) (w := weights m c t) (d := dw)
  have e1 := pieces_x1 (c := c) (i := grid0.coords t) (arg2 := (stg0 t)) (harg2 := (stg0_whole t)) (arg3 := (stg1 t)) (harg3 := (stg1_whole t)) (arg4 := (stg2 t)) (harg4 := (stg2_whole t)) (arg5 := (stg3 t)) (harg5 := (stg3_whole t)) (arg6 := (stg4 t)) (harg6 := (stg4_whole t)) (arg7 := (stg5 t)) (harg7 := (stg5_whole t)) (arg8 := (stg6 t)) (harg8 := (stg6_whole t)) (arg9 := (stg7 t)) (harg9 := (stg7_whole t)) (arg10 := (stg8 t)) (harg10 := (stg8_whole t)) (arg11 := (stg9 t)) (harg11 := (stg9_whole t)) (arg12 := (stg10 t)) (harg12 := (stg10_whole t)) (arg13 := (stg11 t)) (harg13 := (stg11_whole t)) (arg14 := (stg12 t)) (harg14 := (stg12_whole t)) (arg15 := (stg13 t)) (harg15 := (stg13_whole t)) (arg16 := (stg14 t)) (harg16 := (stg14_whole t)) (arg17 := rowsScr) (harg17 := (Memref.isWhole_whole _)) (arg18 := rows16Scr) (harg18 := (Memref.isWhole_whole _)) (arg19 := wScr) (harg19 := (Memref.isWhole_whole _)) (x0 := in0 m c t) (x1 := in1 m c t) (x2 := in2 m c t) (x3 := in3 m c t) (x4 := in4 m c t) (x5 := in5 m c t) (x6 := in6 m c t) (x7 := in7 m c t) (x8 := in8 m c t) (x9 := in9 m c t) (x10 := in10 m c t) (w := weights m c t) (d := dw)
  have e2 := pieces_x2 (c := c) (i := grid0.coords t) (arg2 := (stg0 t)) (harg2 := (stg0_whole t)) (arg3 := (stg1 t)) (harg3 := (stg1_whole t)) (arg4 := (stg2 t)) (harg4 := (stg2_whole t)) (arg5 := (stg3 t)) (harg5 := (stg3_whole t)) (arg6 := (stg4 t)) (harg6 := (stg4_whole t)) (arg7 := (stg5 t)) (harg7 := (stg5_whole t)) (arg8 := (stg6 t)) (harg8 := (stg6_whole t)) (arg9 := (stg7 t)) (harg9 := (stg7_whole t)) (arg10 := (stg8 t)) (harg10 := (stg8_whole t)) (arg11 := (stg9 t)) (harg11 := (stg9_whole t)) (arg12 := (stg10 t)) (harg12 := (stg10_whole t)) (arg13 := (stg11 t)) (harg13 := (stg11_whole t)) (arg14 := (stg12 t)) (harg14 := (stg12_whole t)) (arg15 := (stg13 t)) (harg15 := (stg13_whole t)) (arg16 := (stg14 t)) (harg16 := (stg14_whole t)) (arg17 := rowsScr) (harg17 := (Memref.isWhole_whole _)) (arg18 := rows16Scr) (harg18 := (Memref.isWhole_whole _)) (arg19 := wScr) (harg19 := (Memref.isWhole_whole _)) (x0 := in0 m c t) (x1 := in1 m c t) (x2 := in2 m c t) (x3 := in3 m c t) (x4 := in4 m c t) (x5 := in5 m c t) (x6 := in6 m c t) (x7 := in7 m c t) (x8 := in8 m c t) (x9 := in9 m c t) (x10 := in10 m c t) (w := weights m c t) (d := dw)
  have ey := pieces_y (c := c) (i := grid0.coords t) (arg2 := (stg0 t)) (harg2 := (stg0_whole t)) (arg3 := (stg1 t)) (harg3 := (stg1_whole t)) (arg4 := (stg2 t)) (harg4 := (stg2_whole t)) (arg5 := (stg3 t)) (harg5 := (stg3_whole t)) (arg6 := (stg4 t)) (harg6 := (stg4_whole t)) (arg7 := (stg5 t)) (harg7 := (stg5_whole t)) (arg8 := (stg6 t)) (harg8 := (stg6_whole t)) (arg9 := (stg7 t)) (harg9 := (stg7_whole t)) (arg10 := (stg8 t)) (harg10 := (stg8_whole t)) (arg11 := (stg9 t)) (harg11 := (stg9_whole t)) (arg12 := (stg10 t)) (harg12 := (stg10_whole t)) (arg13 := (stg11 t)) (harg13 := (stg11_whole t)) (arg14 := (stg12 t)) (harg14 := (stg12_whole t)) (arg15 := (stg13 t)) (harg15 := (stg13_whole t)) (arg16 := (stg14 t)) (harg16 := (stg14_whole t)) (arg17 := rowsScr) (harg17 := (Memref.isWhole_whole _)) (arg18 := rows16Scr) (harg18 := (Memref.isWhole_whole _)) (arg19 := wScr) (harg19 := (Memref.isWhole_whole _)) (x0 := in0 m c t) (x1 := in1 m c t) (x2 := in2 m c t) (x3 := in3 m c t) (x4 := in4 m c t) (x5 := in5 m c t) (x6 := in6 m c t) (x7 := in7 m c t) (x8 := in8 m c t) (x9 := in9 m c t) (x10 := in10 m c t) (w := weights m c t) (d := dw)
  have hf : isFirst (grid0.coords t) → weights m c t = k0_pay1 (in4 m c t) := fun _ => rfl
  have hl : ¬ isFirst (grid0.coords t) → dw = weights m c t := fun h => hw (fun h0 => h ((isFirst_iff t).mpr h0)) t
  specialize ev hf hl; specialize e1 hf hl; specialize e2 hf hl; specialize ey hf hl
  generalize bodyRun c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) (stg12 t) (stg12_whole t) (stg13 t) (stg13_whole t) (stg14 t) (stg14_whole t) rowsScr (Memref.isWhole_whole _) rows16Scr (Memref.isWhole_whole _) wScr (Memref.isWhole_whole _)
    (in0 m c t) (in1 m c t) (in2 m c t) (in3 m c t) (in4 m c t) (in5 m c t) (in6 m c t) (in7 m c t) (in8 m c t) (in9 m c t) (in10 m c t) (weights m c t) dw hf hl = B at ev e1 e2 ey
  obtain ⟨L13, L14, L15, L16, L17, L18, hrun⟩ := B
  dsimp only at ev e1 e2 ey
  subst ev e1 e2 ey
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, ⟨%e15, HS0⟩, ⟨%e16, HS1⟩, HS2⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; isplitr
      swap; · iexact HS2
      ipureintro; exact fun _ t' => weights_eq m c t t'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact read_blocks _ _ _
  isplitl [H12]
  · unfold owns; iexists _; isplitr
    swap; · iexact H12
    ipureintro; exact read_blocks _ _ _
  isplitl [H13]
  · unfold owns; iexists _; isplitr
    swap; · iexact H13
    ipureintro; exact read_blocks _ _ _
  unfold owns; iexists _; isplitr
  swap; · iexact H14
  ipureintro; exact View.read_writes_full _ _ _ _ []

theorem defs₀_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (body_triple m c t) rfl .rfl fun _ => .rfl

theorem begins (c : Dev nD) : Pipeline.ΦA spec0 c ⊢ (dats m 0 c).Φ 0 := by
  rw [show (dats m 0 c).Φ 0 = between m c 0 from rfl, scratch_owned]
  unfold between
  iintro ⟨⟨HS0, HS1, ⟨%d, HS2⟩⟩, Hg⟩
  isplitl [HS0 HS1 HS2]
  · isplitl [HS0]; · iexact HS0
    isplitl [HS1]; · iexact HS1
    iexists _; isplitr
    swap; · iexact HS2
    ipureintro; exact fun h => absurd rfl h
  iexact Hg

theorem ends (c : Dev nD) : (dats m 0 c).Φ (Fin.last cfg0.N) ⊢ Pipeline.ΦA spec0 c := by
  rw [show (dats m 0 c).Φ (Fin.last cfg0.N) = between m c cfg0.N from rfl, scratch_owned]
  unfold between
  iintro ⟨⟨HS0, HS1, ⟨%d, %hd, HS2⟩⟩, Hg⟩
  isplitl [HS0 HS1 HS2]
  · isplitl [HS0]; · iexact HS0
    isplitl [HS1]; · iexact HS1
    iexists _; iexact HS2
  iexact Hg

/-! ## The run -/

set_option backward.isDefEq.respectTransparency.types false in
/-- Every fair execution ends, with the counters at zero and every array at what the proof data gives it. -/
theorem runs : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := begins m) (hout := ends m)

/-- The frame: moreover the arguments end as they began. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Idealize.ShloMosaic.θ_run_and (frame_of m ρ (dats m) (A_eq m) ((θ_run defs _ _).mono (fun _ h => h.1) (runs m ρ)))
    ((θ_run defs _ _).mono (fun _ h => h.2) (runs m ρ))

end Cert.KernelIdeal.Hand

end
-- ==== Proof.Frames.lean ====
/-
The frames: each program ends with its arguments as they were and every counter at zero.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.Pre_finite
public import proofs.«01_k».proof.Proof.Gen.ReferenceIdeal.Run
public import Idealize.ShloMosaic.Lib.Quiescent

@[expose] public section

noncomputable section

namespace Cert.Proof

open Idealize.ShloMosaic Idealize.SL.Sem

section
variable {F : FTy → Type} [FloatOps F]

set_option maxHeartbeats 4000000 in
/-- The two prints have one kernel body. -/
theorem bodies_eq : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl

theorem defs_eq : Cert.Kernel.defs (F := F) = Cert.KernelIdeal.defs :=
  congrArg (Pipeline.defs Cert.KernelIdeal.pcfgs) bodies_eq

/-- The two prints are one program around their kernel bodies. -/
theorem main_eq : Cert.Kernel.main (F := F) = Cert.KernelIdeal.main := rfl

end

/-- The program at the machine's values is the one at the ideal values, read at other floats. -/
theorem frame_kernel : Cert.quiescent_Kernel := fun m ρ _ => by
  rw [defs_eq, main_eq]
  exact Cert.KernelIdeal.Hand.run_main (F := Bits) m ρ

theorem frame_ideal : Cert.quiescent_KernelIdeal := fun m ρ _ => Cert.KernelIdeal.Hand.run_main m ρ

theorem frame_ideal_finite : Cert.quiescent_KernelIdeal_pre_finite := fun m ρ _ => Cert.KernelIdeal.Hand.run_main m ρ

theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

theorem frame_reference_finite : Cert.quiescent_ReferenceIdeal_pre_finite := fun m ρ _ => frame_reference m ρ trivial

end Cert.Proof

end
-- ==== Proof.Spec.lean ====
/-
The four results as functions of the eight argument arrays, in exact arithmetic.
-/
module

public import proofs.«01_k».proof.KernelIdeal
public import Idealize.ShloMosaic.PureOps.Ideal
public import Idealize.ShloMosaic.Lib.ValueIdxCore

@[expose] public section

noncomputable section

namespace Cert.Spec

open Idealize.ShloMosaic Idealize.ShloMosaic.ValueIdx Cert.KernelIdeal

variable (X : FVec Ideal S2x16384x1024 .f32) (M : FVec Ideal S2x3x1024 .f32) (W : FVec Ideal S1024x3072 .f32)
  (B : FVec Ideal S3072 .f32) (CW : FVec Ideal S3x1536 .f32) (CB : FVec Ideal S1536 .f32)
  (PW : FVec Ideal S4x128x128 .f32) (PS : FVec Ideal S512 .f32)

/-- The modulated token. -/
def tok (b : Fin 2) (t : Fin 16384) (k : Fin 1024) : EReal := X (ix3 b t k) * (1 + M (ix3 b 1 k)) + M (ix3 b 0 k)

/-- Its projection. -/
def proj (b : Fin 2) (t : Fin 16384) (n : Fin 3072) : EReal := (∑ k : Fin 1024, tok X M b t k * W (ix2 k n)) + B (ix1 n)

/-- The projection of token `s - 16`, zero outside the sequence. -/
def near (b : Fin 2) (s : ℕ) (n : Fin 3072) : EReal :=
  if h : 16 ≤ s ∧ s < 16400 then proj X M W B b ⟨s - 16, by omega⟩ n else 0

/-- The gate `h · σ(h)`. -/
def silu (h : EReal) : EReal := h * Ideal.div 1 (1 + Ideal.exp (-h))

/-- The short convolution of the third 512 columns. -/
def conv (b : Fin 2) (t : Fin 16384) (d : Fin 512) : EReal :=
  ((CB (ix1 ⟨1024 + d.val, by omega⟩)
      + CW (ix2 0 ⟨1024 + d.val, by omega⟩) * near X M W B b (t.val + 15) ⟨1024 + d.val, by omega⟩)
    + CW (ix2 1 ⟨1024 + d.val, by omega⟩) * near X M W B b (t.val + 16) ⟨1024 + d.val, by omega⟩)
  + CW (ix2 2 ⟨1024 + d.val, by omega⟩) * near X M W B b (t.val + 17) ⟨1024 + d.val, by omega⟩

/-- Columns `o …` of the projection as a stream of 512 channels. -/
def cols (o : ℕ) (h : o + 512 ≤ 3072) (b : Fin 2) (t : Fin 16384) (d : Fin 512) : EReal :=
  proj X M W B b t ⟨o + d.val, by omega⟩

/-- The third stream: the convolution, gated. -/
def third (b : Fin 2) (t : Fin 16384) (d : Fin 512) : EReal :=
  conv X M W B CW CB b t d * silu (cols X M W B 1536 (by decide) b t d)

/-- The sum over the window of tokens from `t - h` to `t + h - 1`. -/
def windowSum (b : Fin 2) (t : Fin 16384) (h : ℕ) (n : Fin 3072) : EReal :=
  ∑ j ∈ Finset.range (2 * h), near X M W B b (t.val + 16 - h + j) n

/-- How many of those tokens are in the sequence, counted in 32-bit integers. -/
def count (h : ℕ) (t : ℕ) : EReal :=
  FloatOps.sitofp (F := Ideal) .f32 (IntOp.subi (IntOp.minsi (IntOp.addi (BitVec.ofNat 32 t) (BitVec.ofNat 32 h)) 16384#32)
    (IntOp.maxsi (IntOp.subi (BitVec.ofNat 32 t) (BitVec.ofNat 32 h)) 0#32))

/-- The window's mean less the token, in pooling group `g`. -/
def deviation (b : Fin 2) (t : Fin 16384) (g : Fin 4) (c : Fin 128) : EReal :=
  Ideal.div (windowSum X M W B b t (2 ^ g.val) ⟨2048 + (128 * g.val + c.val), by omega⟩) (count (2 ^ g.val) t.val)
    - proj X M W B b t ⟨2048 + (128 * g.val + c.val), by omega⟩

/-- The group's mix. -/
def mixed (b : Fin 2) (t : Fin 16384) (g : Fin 4) (e : Fin 128) : EReal :=
  ∑ c : Fin 128, deviation X M W B b t g c * PW (ix3 g c e)

/-- The pooling mixer's output. -/
def pooled (b : Fin 2) (t : Fin 16384) (d : Fin 512) : EReal :=
  (mixed X M W B PW b t ⟨d.val / 128, by omega⟩ ⟨d.val % 128, by omega⟩ * PS (ix1 d)) * silu (cols X M W B 2560 (by decide) b t d)

/-- A stream in the order in which the call lays it out. -/
def laid (f : Fin 2 → Fin 16384 → Fin 512 → EReal) : FVec Ideal S2x16x4x1024x128 .f32 := fun y =>
  f ⟨(y 0).val, (y 0).isLt⟩
    ⟨1024 * (y 1).val + (128 * ((y 3).val % 8) + (y 3).val / 8), by
      have h := (y 1).isLt; change _ < 16 at h; have h' := (y 3).isLt; change _ < 1024 at h'; omega⟩
    ⟨128 * (y 2).val + (y 4).val, by
      have h := (y 2).isLt; change _ < 4 at h; have h' := (y 4).isLt; change _ < 128 at h'; omega⟩

/-- A stream as it stands. -/
def plainly (f : Fin 2 → Fin 16384 → Fin 512 → EReal) : FVec Ideal S2x16384x512 .bf16 := fun y =>
  f ⟨(y 0).val, (y 0).isLt⟩ ⟨(y 1).val, (y 1).isLt⟩ ⟨(y 2).val, (y 2).isLt⟩

end Cert.Spec

end
-- ==== Proof.Rows.lean ====
/-
The kernel's stages in exact arithmetic, entry by entry, as functions of what they read.
-/
module

public import proofs.«01_k».proof.Proof.Stores
public import proofs.«01_k».proof.Proof.Spec
public import Idealize.ShloMosaic.Lib.ValueLayout
public import Idealize.ShloMosaic.Lib.MatmulPlain
public import Idealize.ShloMosaic.Lib.IdealHost
public import Idealize.ShloMosaic.Lib.Pipeline.Value

@[expose] public section

set_option maxRecDepth 16384

noncomputable section

namespace Cert.KernelIdeal.Hand

open Idealize.ShloMosaic Idealize.ShloMosaic.TcCoe
open Idealize.ShloMosaic.ValueIdx
open Cert.KernelIdeal.Gen

/-- A load read at an index. -/
theorem loads_apply {s : Shape} {e : EltTy} (x : Vec Ideal s e) (r : LoadRect s) (y : r.shape.Idx) (k : s.Idx)
    (h : ∀ a, (r.idx y a).val = (k a).val) : loads x r y = x k :=
  congrArg x (funext fun a => Fin.ext (h a))

/-- A load of a matrix's rectangle. -/
theorem loads2_apply {A B a b o p : ℕ} {e : EltTy} (x : Vec Ideal ⟨2, ![A, B]⟩ e)
    (inb : ∀ d, (![o, p] : Fin 2 → ℕ) d + (![a, b] : Fin 2 → ℕ) d ≤ (⟨2, ![A, B]⟩ : Shape).size d) (r : Fin a) (d : Fin b)
    (R : Fin A) (D : Fin B) (hR : o + r.val = R.val) (hD : p + d.val = D.val) :
    loads x (Rect.unit (s := ⟨2, ![A, B]⟩) ![o, p] ![a, b] inb).toLoadRect (ix2 r d) = x (ix2 R D) := by
  refine loads_apply x _ _ _ fun ax => ?_
  match ax with
  | ⟨0, _⟩ => show o + 1 * r.val = R.val; omega
  | ⟨1, _⟩ => show p + 1 * d.val = D.val; omega

/-! ## The projection -/

theorem pay81_apply (x : FVec Ideal S1056x1024 .bf16) (w : Vec Ideal S1024x512 .bf16) (b : Vec Ideal S1x512 .f32) (r : Fin 1056) (d : Fin 512) :
    k0_pay81 x w b (ix2 r d) = (∑ k : Fin 1024, x (ix2 r k) * w (ix2 k d)) + b (ix2 0 d) := by
  have h := Ideal.matmul_plain_apply (φ₂ := .bf16) none x w (constant S1056x512 .f32 0x00000000#32) r d
  rw [show (constant (F := Ideal) S1056x512 .f32 0x00000000#32) (ix2 r d) = 0 from Ideal.ofBits_zero_f32, zero_add] at h
  refine congrArg₂ (· + ·) h ?_
  rw [broadcastTo_1b_ab_apply]
  exact shapeCast_apply _ _ _ _ rfl

theorem pay43_apply (x : FVec Ideal S1024x1024 .bf16) (w : Vec Ideal S1024x512 .bf16) (b : Vec Ideal S1x512 .f32) (r : Fin 1024) (d : Fin 512) :
    k0_pay43 x w b (ix2 r d) = (∑ k : Fin 1024, x (ix2 r k) * w (ix2 k d)) + b (ix2 0 d) := by
  have h := Ideal.matmul_plain_apply (φ₂ := .bf16) none x w (constant S1024x512 .f32 0x00000000#32) r d
  rw [show (constant (F := Ideal) S1024x512 .f32 0x00000000#32) (ix2 r d) = 0 from Ideal.ofBits_zero_f32, zero_add] at h
  refine congrArg₂ (· + ·) h ?_
  rw [broadcastTo_1b_ab_apply]
  exact shapeCast_apply _ _ _ _ rfl

/-! ## The tokens -/

/-- Three blocks of 16, 1024 and 16 rows, read at a row. -/
theorem three_apply {n : ℕ} {α : Type} (x : (⟨2, ![16, n]⟩ : Shape).Idx → α) (y : (⟨2, ![1024, n]⟩ : Shape).Idx → α)
    (z : (⟨2, ![16, n]⟩ : Shape).Idx → α)
    (h : Shape.Concatenates [⟨2, ![16, n]⟩, ⟨2, ![1024, n]⟩, ⟨2, ![16, n]⟩] ⟨2, ![1056, n]⟩ 0) (r : Fin 1056) (d : Fin n) :
    concatenate (⟨2, ![1056, n]⟩ : Shape) 0 [⟨⟨2, ![16, n]⟩, x⟩, ⟨⟨2, ![1024, n]⟩, y⟩, ⟨⟨2, ![16, n]⟩, z⟩] h (ix2 r d)
      = if h₁ : r.val < 16 then x (ix2 ⟨r.val, h₁⟩ d)
        else if h₂ : r.val < 1040 then y (ix2 ⟨r.val - 16, by omega⟩ d) else z (ix2 ⟨r.val - 1040, by omega⟩ d) := by
  have off : ∀ {m : ℕ} (q : Fin m) (b : Fin 2), b ≠ 0 → (ix2 q d b).val = (ix2 r d b).val := by
    intro m q b hb; match b with
    | ⟨0, _⟩ => exact absurd rfl hb
    | ⟨1, _⟩ => rfl
  split
  · exact concatenate_apply_piece 0 [⟨⟨2, ![16, n]⟩, x⟩, ⟨⟨2, ![1024, n]⟩, y⟩, ⟨⟨2, ![16, n]⟩, z⟩] h (ix2 r d) 0 (by decide : 0 < 3) _ x rfl rfl 0 rfl (ix2 ⟨r.val, by assumption⟩ d) (fun b hb => off _ b hb) (by show 0 + r.val = r.val; omega)
  split
  · exact concatenate_apply_piece 0 [⟨⟨2, ![16, n]⟩, x⟩, ⟨⟨2, ![1024, n]⟩, y⟩, ⟨⟨2, ![16, n]⟩, z⟩] h (ix2 r d) 1 (by decide : 1 < 3) _ y rfl rfl 16 rfl (ix2 ⟨r.val - 16, by omega⟩ d) (fun b hb => off _ b hb) (by show 16 + (r.val - 16) = r.val; omega)
  · exact concatenate_apply_piece 0 [⟨⟨2, ![16, n]⟩, x⟩, ⟨⟨2, ![1024, n]⟩, y⟩, ⟨⟨2, ![16, n]⟩, z⟩] h (ix2 r d) 2 (by decide : 2 < 3) _ z rfl rfl 1040 rfl (ix2 ⟨r.val - 1040, by omega⟩ d) (fun b hb => off _ b hb) (by show 1040 + (r.val - 1040) = r.val; omega)

theorem pay2_apply (shift scale : Vec Ideal S1x1x1024 .f32) (x : Vec Ideal S1x16x1024 .f32) (y : Vec Ideal S1x1024x1024 .f32)
    (z : Vec Ideal S1x16x1024 .f32) (r : Fin 1056) (k : Fin 1024) : k0_pay2 shift scale x y z (ix2 r k)
      = (if h₁ : r.val < 16 then x (ix3 0 ⟨r.val, h₁⟩ k)
        else if h₂ : r.val < 1040 then y (ix3 0 ⟨r.val - 16, by omega⟩ k) else z (ix3 0 ⟨r.val - 1040, by omega⟩ k))
          * (1 + scale (ix3 0 0 k)) + shift (ix3 0 0 k) := by
  have e1 : ∀ v : Vec Ideal S1x1x1024 .f32, broadcastTo S1056x1024 (shapeCast S1x1024 v shapeCasts_S1x1x1024_S1x1024)
      broadcasts_S1x1024_S1056x1024 (ix2 r k) = v (ix3 0 0 k) := fun v => by
    rw [broadcastTo_1b_ab_apply, shapeCast_1ab_ab_apply]
  refine congrArg₂ (· + ·) (congrArg₂ (· * ·) ?_ ?_) (e1 shift)
  · refine (three_apply _ _ _ _ r k).trans ?_
    simp only [shapeCast_1ab_ab_apply]
  · refine (broadcastTo_1b_ab_apply _ _ r k).trans ?_
    refine congrArg₂ (· + ·) Ideal.ofBits_one_f32 ?_
    exact shapeCast_1ab_ab_apply _ _ _ _

/-! ## The rows outside the sequence -/

theorem pay82_apply (i : ℕ) (hi : i < 16) (v : FVec Ideal S1056x512 .f32) (r : Fin 1056) (d : Fin 512) :
    k0_pay82 (BitVec.ofNat 32 i) v 0#32 (ix2 r d) = if 16 ≤ 1024 * i + r.val ∧ 1024 * i + r.val < 16400 then v (ix2 r d) else 0 := by
  have first : Scalar.cmpi .sgt (BitVec.ofNat 32 i) 0#32 = if 0 < i then 1#1 else 0#1 := by revert i; decide
  have last : Scalar.cmpi .slt (BitVec.ofNat 32 i) 15#32 = if i < 15 then 1#1 else 0#1 := by revert i; decide
  have hz : (Ideal.ofBits .f32 0x00000000#32 : EReal) = 0 := Ideal.ofBits_zero_f32
  unfold k0_pay82
  refine (shapeCast_apply _ shapeCasts_S1056x512_S1056x512 (ix2 r d) (ix2 r d) rfl).trans ?_
  refine (three_apply _ _ _ _ r d).trans ?_
  rw [first, last]
  have cut : ∀ {A o : ℕ} (h : S1056x512.Slices ![o, 0] ⟨2, ![A, 512]⟩) (q : Fin A), o + q.val = r.val →
      extractStridedSlice ⟨2, ![A, 512]⟩ ![o, 0] v h (ix2 q d) = v (ix2 r d) := fun h q e =>
    extractStridedSlice_apply _ v h _ _ fun a => by
      match a with
      | ⟨0, _⟩ => exact e.symm
      | ⟨1, _⟩ => exact (Nat.zero_add _).symm
  split
  · next h₁ =>
    by_cases h0 : 0 < i
    · rw [if_pos h0, if_pos ⟨by omega, by omega⟩]; exact cut slices_S1056x512_o0_0_S16x512 _ (Nat.zero_add _)
    · rw [if_neg h0, if_neg (by omega)]; exact hz
  split
  · next h₁ h₂ => rw [if_pos ⟨by omega, by omega⟩]; exact cut slices_S1056x512_o16_0_S1024x512 _ (by show 16 + (r.val - 16) = r.val; omega)
  · next h₁ h₂ =>
    by_cases h0 : i < 15
    · rw [if_pos h0, if_pos ⟨by omega, by omega⟩]; exact cut slices_S1056x512_o1040_0_S16x512 _ (by show 1040 + (r.val - 1040) = r.val; omega)
    · rw [if_neg h0, if_neg (by omega)]; exact hz

theorem pay123_apply (i : ℕ) (hi : i < 16) (x : FVec Ideal S1056x1024 .bf16) (w : Vec Ideal S1024x512 .bf16) (b : Vec Ideal S1x512 .f32)
    (r : Fin 1056) (d : Fin 512) : k0_pay123 (BitVec.ofNat 32 i) x w b (ix2 r d)
      = if 16 ≤ 1024 * i + r.val ∧ 1024 * i + r.val < 16400 then k0_pay81 x w b (ix2 r d) else 0 := by
  rw [← pay82_apply i hi]
  exact (shapeCast_apply _ _ _ (ix2 r d) rfl).symm

/-! ## The gate -/

/-- The gate as the kernel computes it. -/
def gate (x : EReal) : EReal :=
  (Ideal.ofBits .f32 0x3F000000#32 * x)
    + (Ideal.ofBits .f32 0x3F000000#32 * x) * Ideal.tanh (Ideal.ofBits .f32 0x3F000000#32 * x)

theorem half_f32 : (Ideal.ofBits .f32 0x3F000000#32 : EReal) = ((1 / 2 : ℝ) : EReal) := by
  simp [Ideal.ofBits, Ideal.ieee, -EReal.coe_mul]
  norm_num

/-- Of a number it is `x · σ(x)`. -/
theorem gate_eq (x : ℝ) : gate (x : EReal) = Cert.Spec.silu (x : EReal) := by
  unfold gate Cert.Spec.silu
  rw [half_f32, ← EReal.coe_mul, ← EReal.coe_neg]
  have hp : (0 : ℝ) < 1 + Real.exp (-x) := by positivity
  have e : (1 : EReal) + Ideal.exp ((-x : ℝ) : EReal) = ((1 + Real.exp (-x) : ℝ) : EReal) := by
    rw [EReal.coe_add]; rfl
  have ed : Ideal.div 1 ((1 + Real.exp (-x) : ℝ) : EReal) = (((1 + Real.exp (-x))⁻¹ : ℝ) : EReal) := by
    unfold Ideal.div
    rw [if_neg (by exact_mod_cast hp.ne'), one_mul, EReal.coe_inv]
  rw [e, ed]
  show ((1 / 2 * x : ℝ) : EReal) + ((1 / 2 * x : ℝ) : EReal) * ((Real.tanh (1 / 2 * x) : ℝ) : EReal) = _
  rw [← EReal.coe_mul, ← EReal.coe_add, ← EReal.coe_mul]
  refine congrArg _ ?_
  have hx : Real.exp (-x) = Real.exp (-(1 / 2 * x)) * Real.exp (-(1 / 2 * x)) := by rw [← Real.exp_add]; ring_nf
  have hm : Real.exp (1 / 2 * x) * Real.exp (-(1 / 2 * x)) = 1 := by rw [← Real.exp_add]; simp
  rw [Real.tanh_eq_sinh_div_cosh, Real.sinh_eq, Real.cosh_eq, hx]
  have h1 := Real.exp_pos (1 / 2 * x)
  have h2 := Real.exp_pos (-(1 / 2 * x))
  generalize Real.exp (1 / 2 * x) = a at *
  generalize Real.exp (-(1 / 2 * x)) = b at *
  have hab : a + b ≠ 0 := by positivity
  have hbb : 1 + b * b ≠ 0 := by positivity
  field_simp
  linear_combination (2 * x * b) * hm

end Cert.KernelIdeal.Hand

end
-- ==== Proof.Arrays.lean ====
/-
What the kernel's windows read of the launched arrays, entry by entry.
-/
module

public import proofs.«01_k».proof.Proof.Run
public import Idealize.ShloMosaic.Lib.ValueLayout
public import Idealize.ShloMosaic.Lib.Pipeline.Value

@[expose] public section

set_option maxRecDepth 16384

noncomputable section

namespace Cert.KernelIdeal.Hand

open Idealize.ShloMosaic Idealize.ShloMosaic.TcCoe Idealize.ShloMosaic.StableHlo Idealize.SL.Sem
open Idealize.ShloMosaic.ValueIdx
open Cert.KernelIdeal.Gen

variable {F : FTy → Type} [FloatOps F]
variable (m : (ℓ : Loc nD τ sig) → Buf (Elt F) ℓ)

/-! ## What the host writes before the call -/

theorem V_bias (c : Dev nD) : (V m c main_v16 : Vec F S1x3072 .f32)
    = shapeCast S1x3072 (m ((c : Thread nD τ).loc main_arg3)) shapeCasts_S3072_S1x3072 := by
  unfold V hostOps0; after_results_simp; try rfl

theorem V_convBias (c : Dev nD) : (V m c main_v17 : Vec F S1x1536 .f32)
    = shapeCast S1x1536 (m ((c : Thread nD τ).loc main_arg5)) shapeCasts_S1536_S1x1536 := by
  unfold V hostOps0; after_results_simp; try rfl

theorem V_mix (c : Dev nD) : (V m c main_v18 : Vec F S4x128x128 .bf16)
    = (truncf .bf16 (m ((c : Thread nD τ).loc main_arg6) : FVec F S4x128x128 .f32) bitsLt_bf16_f32 : FVec F S4x128x128 .bf16) := by
  unfold V hostOps0; after_results_simp; try rfl

theorem V_scale (c : Dev nD) : (V m c main_v19 : Vec F S1x512 .f32)
    = shapeCast S1x512 (m ((c : Thread nD τ).loc main_arg7)) shapeCasts_S512_S1x512 := by
  unfold V hostOps0; after_results_simp; try rfl

/-- Where a row of a band's span stands from a token's own row. -/
def offset : Vec F S4x2x128x256 .i32 :=
  subi (subi (iotaInDim S4x2x128x256 32 3)
    (broadcastInDim S4x2x128x256 ![0, 1, 2, 3] bcast_S1x2x1x1_S4x2x128x256_0_1_2_3
      (broadcastInDim S1x2x1x1 ![1] bcast_S2_S1x2x1x1_1 (fun i => lit0 (S2.rowMajor i)))))
    (iotaInDim S4x2x128x256 32 2)

/-- Half of each window. -/
def halves : Vec F S4x1x1x1 .i32 := broadcastInDim S4x1x1x1 ![0] bcast_S4_S4x1x1x1_0 (fun i => lit1 (S4.rowMajor i))

/-- One where a row lies in a token's window, zero elsewhere. -/
def indicator : Vec F S4x2x128x256 .bf16 :=
  select
    (andi (cmpi .sge (offset (F := F)) (broadcastInDim S4x2x128x256 ![0, 1, 2, 3] bcast_S4x1x1x1_S4x2x128x256_0_1_2_3 (negi (halves (F := F)))))
      (cmpi .slt (offset (F := F)) (broadcastInDim S4x2x128x256 ![0, 1, 2, 3] bcast_S4x1x1x1_S4x2x128x256_0_1_2_3 (halves (F := F)))))
    (broadcastInDim S4x2x128x256 ![] bcast_S_S4x2x128x256 (constant S_ .bf16 0x3F80#16))
    (broadcastInDim S4x2x128x256 ![] bcast_S_S4x2x128x256 (constant S_ .bf16 0x0000#16))

theorem V_band (c : Dev nD) : (V m c main_v15 : Vec F S4x2x128x256 .bf16) = indicator := by
  unfold V hostOps0; after_results_simp; try rfl

/-! ## The windows' index maps -/

theorem coords_eq : ∀ t : Fin grid0.N, (grid0.coords t 0).val = t.val / 16 ∧ (grid0.coords t 1).val = t.val % 16 := by
  decide +kernel

theorem idx_0 : ∀ t : Fin grid0.N, win0_0.index t 0 = t.val / 16 ∧ win0_0.index t 1 = 64 * (t.val % 16) - 1 ∧ win0_0.index t 2 = 0 := by
  decide +kernel
theorem idx_1 : ∀ t : Fin grid0.N, win0_1.index t 0 = t.val / 16 ∧ win0_1.index t 1 = t.val % 16 ∧ win0_1.index t 2 = 0 := by
  decide +kernel
theorem idx_2 : ∀ t : Fin grid0.N, win0_2.index t 0 = t.val / 16 ∧ win0_2.index t 1 = min (64 * (t.val % 16 + 1)) 1023 ∧ win0_2.index t 2 = 0 := by
  decide +kernel
theorem idx_3 : ∀ t : Fin grid0.N, win0_3.index t 0 = t.val / 16 ∧ win0_3.index t 1 = 0 ∧ win0_3.index t 2 = 0 := by
  decide +kernel
theorem idx_4 : ∀ (t : Fin grid0.N) a, win0_4.index t a = 0 := by decide +kernel
theorem idx_5 : ∀ (t : Fin grid0.N) a, win0_5.index t a = 0 := by decide +kernel
theorem idx_6 : ∀ (t : Fin grid0.N) a, win0_6.index t a = 0 := by decide +kernel
theorem idx_7 : ∀ (t : Fin grid0.N) a, win0_7.index t a = 0 := by decide +kernel
theorem idx_8 : ∀ (t : Fin grid0.N) a, win0_8.index t a = 0 := by decide +kernel
theorem idx_9 : ∀ (t : Fin grid0.N) a, win0_9.index t a = 0 := by decide +kernel
theorem idx_10 : ∀ (t : Fin grid0.N) a, win0_10.index t a = 0 := by decide +kernel

/-! ## The blocks -/

theorem batch_lt (t : Fin cfg0.N) : t.val / 16 < 2 := by
  have h : t.val < 32 := t.isLt
  omega

/-- The batch of point `t`. -/
abbrev batch (t : Fin cfg0.N) : Fin 2 := ⟨t.val / 16, batch_lt t⟩

/-- The tokens before the tile, where there are any. -/
theorem in0_apply (c : Dev nD) (t : Fin cfg0.N) (h : t.val % 16 ≠ 0) (r : Fin 16) (k : Fin 1024) :
    in0 m c t (ix3 0 r k) = m ((c : Thread nD τ).loc main_arg0) (ix3 (batch t) ⟨1024 * (t.val % 16) + r.val - 16, by omega⟩ k) := by
  rw [← V_main_arg0 m c]
  show V m c main_arg0 (((cfg0.win 0).blk t).view.emb (ix3 0 r k)) = _
  refine congrArg (V m c main_arg0) (funext fun a => Fin.ext ?_)
  obtain ⟨e0, e1, e2⟩ := idx_0 t
  match a with
  | ⟨0, _⟩ => show win0_0.index t 0 * 1 + 1 * 0 = t.val / 16; omega
  | ⟨1, _⟩ => show win0_0.index t 1 * 16 + 1 * r.val = 1024 * (t.val % 16) + r.val - 16; omega
  | ⟨2, _⟩ => show win0_0.index t 2 * 1024 + 1 * k.val = k.val; omega

/-- The tile. -/
theorem in1_apply (c : Dev nD) (t : Fin cfg0.N) (r : Fin 1024) (k : Fin 1024) :
    in1 m c t (ix3 0 r k) = m ((c : Thread nD τ).loc main_arg0) (ix3 (batch t) ⟨1024 * (t.val % 16) + r.val, by omega⟩ k) := by
  rw [← V_main_arg0 m c]
  show V m c main_arg0 (((cfg0.win 1).blk t).view.emb (ix3 0 r k)) = _
  refine congrArg (V m c main_arg0) (funext fun a => Fin.ext ?_)
  obtain ⟨e0, e1, e2⟩ := idx_1 t
  match a with
  | ⟨0, _⟩ => show win0_1.index t 0 * 1 + 1 * 0 = t.val / 16; omega
  | ⟨1, _⟩ => show win0_1.index t 1 * 1024 + 1 * r.val = 1024 * (t.val % 16) + r.val; omega
  | ⟨2, _⟩ => show win0_1.index t 2 * 1024 + 1 * k.val = k.val; omega

/-- The tokens after the tile, where there are any. -/
theorem in2_apply (c : Dev nD) (t : Fin cfg0.N) (h : t.val % 16 ≠ 15) (r : Fin 16) (k : Fin 1024) :
    in2 m c t (ix3 0 r k) = m ((c : Thread nD τ).loc main_arg0) (ix3 (batch t) ⟨1024 * (t.val % 16) + 1024 + r.val, by omega⟩ k) := by
  rw [← V_main_arg0 m c]
  show V m c main_arg0 (((cfg0.win 2).blk t).view.emb (ix3 0 r k)) = _
  refine congrArg (V m c main_arg0) (funext fun a => Fin.ext ?_)
  obtain ⟨e0, e1, e2⟩ := idx_2 t
  match a with
  | ⟨0, _⟩ => show win0_2.index t 0 * 1 + 1 * 0 = t.val / 16; omega
  | ⟨1, _⟩ => show win0_2.index t 1 * 16 + 1 * r.val = 1024 * (t.val % 16) + 1024 + r.val; omega
  | ⟨2, _⟩ => show win0_2.index t 2 * 1024 + 1 * k.val = k.val; omega

/-- The modulation of the batch. -/
theorem in3_apply (c : Dev nD) (t : Fin cfg0.N) (j : Fin 3) (k : Fin 1024) :
    in3 m c t (ix3 0 j k) = m ((c : Thread nD τ).loc main_arg1) (ix3 (batch t) j k) := by
  rw [← V_main_arg1 m c]
  show V m c main_arg1 (((cfg0.win 3).blk t).view.emb (ix3 0 j k)) = _
  refine congrArg (V m c main_arg1) (funext fun a => Fin.ext ?_)
  obtain ⟨e0, e1, e2⟩ := idx_3 t
  match a with
  | ⟨0, _⟩ => show win0_3.index t 0 * 1 + 1 * 0 = t.val / 16; omega
  | ⟨1, _⟩ => show win0_3.index t 1 * 3 + 1 * j.val = j.val; omega
  | ⟨2, _⟩ => show win0_3.index t 2 * 1024 + 1 * k.val = k.val; omega

/-- The weights, whole. -/
theorem in4_eq (c : Dev nD) (t : Fin cfg0.N) : in4 m c t = m ((c : Thread nD τ).loc main_arg2) := by
  rw [← V_main_arg2 m c]
  funext y
  show V m c main_arg2 (((cfg0.win 4).blk t).view.emb y) = V m c main_arg2 y
  refine congrArg (V m c main_arg2) (funext fun a => Fin.ext ?_)
  have e := idx_4 t a
  show win0_4.index t a * _ + 1 * (y a).val = (y a).val
  rw [e]; omega

theorem in5_eq (c : Dev nD) (t : Fin cfg0.N) : in5 m c t = V m c main_v16 := by
  funext y
  show V m c main_v16 (((cfg0.win 5).blk t).view.emb y) = V m c main_v16 y
  refine congrArg (V m c main_v16) (funext fun a => Fin.ext ?_)
  have e := idx_5 t a
  show win0_5.index t a * _ + 1 * (y a).val = (y a).val
  rw [e]; omega

/-- The convolution's weights, whole. -/
theorem in6_eq (c : Dev nD) (t : Fin cfg0.N) : in6 m c t = m ((c : Thread nD τ).loc main_arg4) := by
  rw [← V_main_arg4 m c]
  funext y
  show V m c main_arg4 (((cfg0.win 6).blk t).view.emb y) = V m c main_arg4 y
  refine congrArg (V m c main_arg4) (funext fun a => Fin.ext ?_)
  have e := idx_6 t a
  show win0_6.index t a * _ + 1 * (y a).val = (y a).val
  rw [e]; omega

theorem in7_eq (c : Dev nD) (t : Fin cfg0.N) : in7 m c t = V m c main_v17 := by
  funext y
  show V m c main_v17 (((cfg0.win 7).blk t).view.emb y) = V m c main_v17 y
  refine congrArg (V m c main_v17) (funext fun a => Fin.ext ?_)
  have e := idx_7 t a
  show win0_7.index t a * _ + 1 * (y a).val = (y a).val
  rw [e]; omega

theorem in8_eq (c : Dev nD) (t : Fin cfg0.N) : in8 m c t = V m c main_v18 := by
  funext y
  show V m c main_v18 (((cfg0.win 8).blk t).view.emb y) = V m c main_v18 y
  refine congrArg (V m c main_v18) (funext fun a => Fin.ext ?_)
  have e := idx_8 t a
  show win0_8.index t a * _ + 1 * (y a).val = (y a).val
  rw [e]; omega

theorem in9_eq (c : Dev nD) (t : Fin cfg0.N) : in9 m c t = V m c main_v19 := by
  funext y
  show V m c main_v19 (((cfg0.win 9).blk t).view.emb y) = V m c main_v19 y
  refine congrArg (V m c main_v19) (funext fun a => Fin.ext ?_)
  have e := idx_9 t a
  show win0_9.index t a * _ + 1 * (y a).val = (y a).val
  rw [e]; omega

theorem in10_eq (c : Dev nD) (t : Fin cfg0.N) : in10 m c t = V m c main_v15 := by
  funext y
  show V m c main_v15 (((cfg0.win 10).blk t).view.emb y) = V m c main_v15 y
  refine congrArg (V m c main_v15) (funext fun a => Fin.ext ?_)
  have e := idx_10 t a
  show win0_10.index t a * _ + 1 * (y a).val = (y a).val
  rw [e]; omega

end Cert.KernelIdeal.Hand

end
-- ==== Proof.Streams.lean ====
/-
The projection, the convolution and the first three results at one point of the grid, as the specification's.
-/
module

public import proofs.«01_k».proof.Proof.Rows
public import proofs.«01_k».proof.Proof.Arrays

@[expose] public section

set_option maxRecDepth 16384

noncomputable section

namespace Cert.KernelIdeal.Hand

open Idealize.ShloMosaic Idealize.ShloMosaic.TcCoe
open Idealize.ShloMosaic.ValueIdx
open Cert.KernelIdeal.Gen

variable (m : (ℓ : Loc nD τ sig) → Buf (Elt Ideal) ℓ)

/-! ## The arguments -/

/-- The tokens. -/
abbrev argX (c : Dev nD) : FVec Ideal S2x16384x1024 .f32 := m ((c : Thread nD τ).loc main_arg0)
/-- The modulation. -/
abbrev argM (c : Dev nD) : FVec Ideal S2x3x1024 .f32 := m ((c : Thread nD τ).loc main_arg1)
/-- The projection's weights. -/
abbrev argW (c : Dev nD) : FVec Ideal S1024x3072 .f32 := m ((c : Thread nD τ).loc main_arg2)
/-- Its bias. -/
abbrev argB (c : Dev nD) : FVec Ideal S3072 .f32 := m ((c : Thread nD τ).loc main_arg3)
/-- The convolution's weights. -/
abbrev argCW (c : Dev nD) : FVec Ideal S3x1536 .f32 := m ((c : Thread nD τ).loc main_arg4)
/-- Its bias. -/
abbrev argCB (c : Dev nD) : FVec Ideal S1536 .f32 := m ((c : Thread nD τ).loc main_arg5)
/-- The pooling mixer's weights. -/
abbrev argPW (c : Dev nD) : FVec Ideal S4x128x128 .f32 := m ((c : Thread nD τ).loc main_arg6)
/-- Its scale. -/
abbrev argPS (c : Dev nD) : FVec Ideal S512 .f32 := m ((c : Thread nD τ).loc main_arg7)

/-! ## What a point reads -/

theorem in5_apply (c : Dev nD) (t : Fin cfg0.N) (n : Fin 3072) : in5 m c t (ix2 0 n) = argB m c (ix1 n) := by
  rw [in5_eq, V_bias]
  exact shapeCast_apply (s := S3072) (argB m c) shapeCasts_S3072_S1x3072 (ix2 0 n) (ix1 n) (by
    rw [Shape.rowMajor_val_one, Shape.rowMajor_val_two]; show n.val = 0 * 3072 + n.val; omega)

theorem in7_apply (c : Dev nD) (t : Fin cfg0.N) (n : Fin 1536) : in7 m c t (ix2 0 n) = argCB m c (ix1 n) := by
  rw [in7_eq, V_convBias]
  exact shapeCast_apply (s := S1536) (argCB m c) shapeCasts_S1536_S1x1536 (ix2 0 n) (ix1 n) (by
    rw [Shape.rowMajor_val_one, Shape.rowMajor_val_two]; show n.val = 0 * 1536 + n.val; omega)

theorem in9_apply (c : Dev nD) (t : Fin cfg0.N) (n : Fin 512) : in9 m c t (ix2 0 n) = argPS m c (ix1 n) := by
  rw [in9_eq, V_scale]
  exact shapeCast_apply (s := S512) (argPS m c) shapeCasts_S512_S1x512 (ix2 0 n) (ix1 n) (by
    rw [Shape.rowMajor_val_one, Shape.rowMajor_val_two]; show n.val = 0 * 512 + n.val; omega)

theorem weights_apply (c : Dev nD) (t : Fin cfg0.N) (y : S1024x3072.Idx) : weights m c t y = argW m c y := by
  show k0_pay1 (in4 m c t) y = _
  rw [in4_eq]
  unfold k0_pay1
  exact shapeCast_apply _ _ _ _ rfl

/-! ## The tokens and the projection -/

/-- The tokens at point `t`. -/
abbrev tokensAt (c : Dev nD) (t : Fin cfg0.N) : FVec Ideal S1056x1024 .bf16 :=
  tokens (loads (in0 m c t)) (loads (in1 m c t)) (loads (in2 m c t)) (loads (in3 m c t))

theorem point_lt (t : Fin cfg0.N) (r : ℕ) (h : r < 1024) : 1024 * (t.val % 16) + r < 16384 := by omega

/-- The token that row `r` of a tile is. -/
abbrev tokenAt (t : Fin cfg0.N) (r : Fin 1024) : Fin 16384 := ⟨1024 * (t.val % 16) + r.val, point_lt t r.val r.isLt⟩

theorem tokensAt_apply (c : Dev nD) (t : Fin cfg0.N) (r : Fin 1056) (k : Fin 1024) (h : 16 ≤ 1024 * (t.val % 16) + r.val ∧ 1024 * (t.val % 16) + r.val < 16400) :
    tokensAt m c t (ix2 r k) = Cert.Spec.tok (argX m c) (argM m c) (batch t) ⟨1024 * (t.val % 16) + r.val - 16, by omega⟩ k := by
  refine (pay2_apply _ _ _ _ _ r k).trans ?_
  have l3 : ∀ {A B a b o p q : ℕ} (x : Vec Ideal ⟨3, ![1, A, B]⟩ .f32)
      (inb : ∀ d, (![0, o, 0] : Fin 3 → ℕ) d + (![1, a, B] : Fin 3 → ℕ) d ≤ (⟨3, ![1, A, B]⟩ : Shape).size d)
      (i : Fin a) (j : Fin B) (I : Fin A), o + i.val = I.val →
      loads x (Rect.unit (s := ⟨3, ![1, A, B]⟩) ![0, o, 0] ![1, a, B] inb).toLoadRect (ix3 0 i j) = x (ix3 0 I j) := by
    intro A B a b o p q x inb i j I e
    refine loads_apply x _ _ _ fun ax => ?_
    match ax with
    | ⟨0, _⟩ => rfl
    | ⟨1, _⟩ => show o + 1 * i.val = I.val; omega
    | ⟨2, _⟩ => show 0 + 1 * j.val = j.val; omega
  unfold Cert.Spec.tok
  refine congrArg₂ (· + ·) (congrArg₂ (· * ·) ?_ (congrArg (1 + ·) ?_)) ?_
  · split
    · next h₁ =>
      refine (l3 (b := 0) (p := 0) (q := 0) _ _ _ k ⟨r.val, h₁⟩ (Nat.zero_add _)).trans ?_
      exact in0_apply m c t (by omega) _ k
    split
    · next h₁ h₂ =>
      refine (l3 (b := 0) (p := 0) (q := 0) _ _ _ k ⟨r.val - 16, by omega⟩ (Nat.zero_add _)).trans ?_
      refine (in1_apply m c t _ k).trans (congrArg (argX m c) (congrArg (ix3 (batch t) · k) (Fin.ext ?_)))
      show 1024 * (t.val % 16) + (r.val - 16) = 1024 * (t.val % 16) + r.val - 16; omega
    · next h₁ h₂ =>
      refine (l3 (b := 0) (p := 0) (q := 0) _ _ _ k ⟨r.val - 1040, by omega⟩ (Nat.zero_add _)).trans ?_
      refine (in2_apply m c t (by omega) _ k).trans (congrArg (argX m c) (congrArg (ix3 (batch t) · k) (Fin.ext ?_)))
      show 1024 * (t.val % 16) + 1024 + (r.val - 1040) = 1024 * (t.val % 16) + r.val - 16; omega
  · exact (l3 (b := 0) (p := 0) (q := 0) _ _ _ k 1 rfl).trans (in3_apply m c t 1 k)
  · exact (l3 (b := 0) (p := 0) (q := 0) _ _ _ k 0 rfl).trans (in3_apply m c t 0 k)

theorem tileTokens_apply (c : Dev nD) (t : Fin cfg0.N) (r : Fin 1024) (k : Fin 1024) :
    tileTokens (loads (in0 m c t)) (loads (in1 m c t)) (loads (in2 m c t)) (loads (in3 m c t)) (ix2 r k)
      = Cert.Spec.tok (argX m c) (argM m c) (batch t) (tokenAt t r) k := by
  refine (extractStridedSlice_apply _ _ slices_S1056x1024_o16_0_S1024x1024 (ix2 r k) (ix2 ⟨16 + r.val, by omega⟩ k) fun a => by
      match a with
      | ⟨0, _⟩ => rfl
      | ⟨1, _⟩ => exact (Nat.zero_add _).symm).trans ?_
  refine (tokensAt_apply m c t _ k ⟨by show 16 ≤ 1024 * (t.val % 16) + (16 + r.val); omega, by show 1024 * (t.val % 16) + (16 + r.val) < 16400; omega⟩).trans ?_
  refine congrArg (Cert.Spec.tok (argX m c) (argM m c) (batch t) · k) (Fin.ext ?_)
  show 1024 * (t.val % 16) + (16 + r.val) - 16 = 1024 * (t.val % 16) + r.val
  omega

/-- The projection of a tile, from column `o`. -/
theorem tile_apply (c : Dev nD) (t : Fin cfg0.N) (o : ℕ) (ho : o + 512 ≤ 3072)
    (inb : ∀ d, (![0, o] : Fin 2 → ℕ) d + (![1024, 512] : Fin 2 → ℕ) d ≤ S1024x3072.size d)
    (inb' : ∀ d, (![0, o] : Fin 2 → ℕ) d + (![1, 512] : Fin 2 → ℕ) d ≤ S1x3072.size d) (r : Fin 1024) (d : Fin 512) :
    k0_pay43 (tileTokens (loads (in0 m c t)) (loads (in1 m c t)) (loads (in2 m c t)) (loads (in3 m c t)))
        (loads (weights m c t) (Rect.unit (s := S1024x3072) ![0, o] S1024x512.size inb).toLoadRect)
        (loads (in5 m c t) (Rect.unit (s := S1x3072) ![0, o] S1x512.size inb').toLoadRect) (ix2 r d)
      = Cert.Spec.cols (argX m c) (argM m c) (argW m c) (argB m c) o ho (batch t) (tokenAt t r) d := by
  refine (pay43_apply _ _ _ r d).trans ?_
  unfold Cert.Spec.cols Cert.Spec.proj
  refine congrArg₂ (· + ·) (Finset.sum_congr rfl fun k _ => congrArg₂ (· * ·) (tileTokens_apply m c t r k) ?_) ?_
  · exact (loads2_apply (weights m c t) inb k d k ⟨o + d.val, by omega⟩ (Nat.zero_add _) rfl).trans (weights_apply m c t _)
  · exact (loads2_apply (in5 m c t) inb' 0 d 0 ⟨o + d.val, by omega⟩ rfl rfl).trans (in5_apply m c t _)

/-- The projection of a tile and its neighbours, from column `o`, zero outside the sequence. -/
theorem rows_apply (c : Dev nD) (t : Fin cfg0.N) (o : ℕ) (ho : o + 512 ≤ 3072)
    (inb : ∀ d, (![0, o] : Fin 2 → ℕ) d + (![1024, 512] : Fin 2 → ℕ) d ≤ S1024x3072.size d)
    (inb' : ∀ d, (![0, o] : Fin 2 → ℕ) d + (![1, 512] : Fin 2 → ℕ) d ≤ S1x3072.size d) (r : Fin 1056) (d : Fin 512) :
    (if 16 ≤ 1024 * (t.val % 16) + r.val ∧ 1024 * (t.val % 16) + r.val < 16400 then k0_pay81 (tokensAt m c t)
        (loads (weights m c t) (Rect.unit (s := S1024x3072) ![0, o] S1024x512.size inb).toLoadRect)
        (loads (in5 m c t) (Rect.unit (s := S1x3072) ![0, o] S1x512.size inb').toLoadRect) (ix2 r d) else 0)
      = Cert.Spec.near (argX m c) (argM m c) (argW m c) (argB m c) (batch t) (1024 * (t.val % 16) + r.val) ⟨o + d.val, by omega⟩ := by
  unfold Cert.Spec.near
  split
  · next h =>
    refine (pay81_apply _ _ _ r d).trans ?_
    unfold Cert.Spec.proj
    refine congrArg₂ (· + ·) (Finset.sum_congr rfl fun k _ => congrArg₂ (· * ·) (tokensAt_apply m c t r k h) ?_) ?_
    · exact (loads2_apply (weights m c t) inb k d k ⟨o + d.val, by omega⟩ (Nat.zero_add _) rfl).trans (weights_apply m c t _)
    · exact (loads2_apply (in5 m c t) inb' 0 d 0 ⟨o + d.val, by omega⟩ rfl rfl).trans (in5_apply m c t _)
  · rfl

theorem coord1_eq (t : Fin cfg0.N) : BitVec.ofNat 32 (grid0.coords t 1).val = BitVec.ofNat 32 (t.val % 16) :=
  congrArg (BitVec.ofNat 32) (coords_eq t).2

/-- The third 512 columns. -/
theorem convRows_apply (c : Dev nD) (t : Fin cfg0.N) (r : Fin 1056) (d : Fin 512) :
    convRows (grid0.coords t) (loads (in0 m c t)) (loads (in1 m c t)) (loads (in2 m c t)) (loads (in3 m c t)) (loads (in5 m c t))
        (loads (weights m c t)) (ix2 r d)
      = Cert.Spec.near (argX m c) (argM m c) (argW m c) (argB m c) (batch t) (1024 * (t.val % 16) + r.val) ⟨1024 + d.val, by omega⟩ := by
  unfold convRows
  rw [coord1_eq, pay82_apply _ (by omega)]
  exact rows_apply m c t 1024 (by decide) _ _ r d

/-- The fifth. -/
theorem poolRows_apply (c : Dev nD) (t : Fin cfg0.N) (r : Fin 1056) (d : Fin 512) :
    poolRows (grid0.coords t) (loads (in0 m c t)) (loads (in1 m c t)) (loads (in2 m c t)) (loads (in3 m c t)) (loads (in5 m c t))
        (loads (weights m c t)) (ix2 r d)
      = Cert.Spec.near (argX m c) (argM m c) (argW m c) (argB m c) (batch t) (1024 * (t.val % 16) + r.val) ⟨2048 + d.val, by omega⟩ := by
  unfold poolRows
  rw [coord1_eq, pay123_apply _ (by omega)]
  exact rows_apply m c t 2048 (by decide) _ _ r d

theorem poolRowsKept_apply (c : Dev nD) (t : Fin cfg0.N) (r : Fin 1056) (d : Fin 512) :
    poolRowsKept (grid0.coords t) (loads (in0 m c t)) (loads (in1 m c t)) (loads (in2 m c t)) (loads (in3 m c t)) (loads (in5 m c t))
        (loads (weights m c t)) (ix2 r d)
      = Cert.Spec.near (argX m c) (argM m c) (argW m c) (argB m c) (batch t) (1024 * (t.val % 16) + r.val) ⟨2048 + d.val, by omega⟩ := by
  unfold poolRowsKept
  exact (shapeCast_apply _ _ _ _ rfl).trans (poolRows_apply m c t r d)

theorem poolRows16_apply (c : Dev nD) (t : Fin cfg0.N) (r : Fin 1056) (d : Fin 512) :
    poolRows16 (grid0.coords t) (loads (in0 m c t)) (loads (in1 m c t)) (loads (in2 m c t)) (loads (in3 m c t)) (loads (in5 m c t))
        (loads (weights m c t)) (ix2 r d)
      = Cert.Spec.near (argX m c) (argM m c) (argW m c) (argB m c) (batch t) (1024 * (t.val % 16) + r.val) ⟨2048 + d.val, by omega⟩ := by
  unfold poolRows16 k0_pay124
  exact (shapeCast_apply _ _ _ _ rfl).trans (poolRows_apply m c t r d)

/-! ## The third stream -/

/-- The gate's arguments are numbers. -/
def Gates (c : Dev nD) : Prop := ∀ b t n, ∃ x : ℝ, Cert.Spec.proj (argX m c) (argM m c) (argW m c) (argB m c) b t n = x

theorem gate_apply (c : Dev nD) (hg : Gates m c) (o : ℕ) (ho : o + 512 ≤ 3072) (b : Fin 2) (t : Fin 16384) (d : Fin 512) :
    gate (Cert.Spec.cols (argX m c) (argM m c) (argW m c) (argB m c) o ho b t d)
      = Cert.Spec.silu (Cert.Spec.cols (argX m c) (argM m c) (argW m c) (argB m c) o ho b t d) := by
  obtain ⟨x, hx⟩ := hg b t ⟨o + d.val, by omega⟩
  unfold Cert.Spec.cols
  rw [hx, gate_eq]

theorem pay84_apply (b w0 w1 : Vec Ideal S1x512 .f32) (u v : Vec Ideal S1024x512 .f32) (r : Fin 1024) (d : Fin 512) :
    k0_pay84 b w0 u w1 v (ix2 r d) = (b (ix2 0 d) + w0 (ix2 0 d) * u (ix2 r d)) + w1 (ix2 0 d) * v (ix2 r d) := by
  refine congrArg₂ (· + ·) (congrArg₂ (· + ·) ?_ (congrArg (· * _) (broadcastTo_1b_ab_apply _ _ r d)))
    (congrArg (· * _) (broadcastTo_1b_ab_apply _ _ r d))
  exact (broadcastTo_1b_ab_apply _ _ r d).trans (shapeCast_apply _ _ _ _ rfl)

theorem pay85_apply (g s : FVec Ideal S1024x512 .f32) (w : Vec Ideal S1x512 .f32) (u : Vec Ideal S1024x512 .f32) (r : Fin 1024) (d : Fin 512) :
    k0_pay85 g s w u (ix2 r d) = (s (ix2 r d) + w (ix2 0 d) * u (ix2 r d)) * g (ix2 r d) :=
  congrArg (fun x => (s (ix2 r d) + x * u (ix2 r d)) * g (ix2 r d)) (broadcastTo_1b_ab_apply _ _ r d)

theorem tileX2_apply (c : Dev nD) (hg : Gates m c) (t : Fin cfg0.N) (r : Fin 1024) (d : Fin 512) :
    tileX2 (loads (in0 m c t)) (loads (in1 m c t)) (loads (in2 m c t)) (loads (in3 m c t)) (loads (in5 m c t)) (loads (in6 m c t)) (loads (in7 m c t))
      (loads (convRows (grid0.coords t) (loads (in0 m c t)) (loads (in1 m c t)) (loads (in2 m c t)) (loads (in3 m c t)) (loads (in5 m c t)) (loads (weights m c t))))
      (loads (weights m c t)) (ix2 r d)
      = Cert.Spec.third (argX m c) (argM m c) (argW m c) (argB m c) (argCW m c) (argCB m c) (batch t) (tokenAt t r) d := by
  have row : ∀ (o : ℕ) (inb : ∀ d, (![o, 0] : Fin 2 → ℕ) d + (![1024, 512] : Fin 2 → ℕ) d ≤ S1056x512.size d) (ho : o + r.val < 1056),
      loads (F := Ideal) (s := S1056x512) (e := .f32) (convRows (grid0.coords t) (loads (in0 m c t)) (loads (in1 m c t)) (loads (in2 m c t)) (loads (in3 m c t)) (loads (in5 m c t)) (loads (weights m c t)))
        (Rect.unit (s := S1056x512) ![o, 0] S1024x512.size inb).toLoadRect (ix2 r d)
      = Cert.Spec.near (argX m c) (argM m c) (argW m c) (argB m c) (batch t) ((tokenAt t r).val + o) ⟨1024 + d.val, by omega⟩ := by
    intro o inb ho
    refine (loads2_apply _ inb r d ⟨o + r.val, ho⟩ d rfl (Nat.zero_add _)).trans ((convRows_apply m c t _ d).trans ?_)
    refine congrArg (Cert.Spec.near (argX m c) (argM m c) (argW m c) (argB m c) (batch t) · _) ?_
    show 1024 * (t.val % 16) + (o + r.val) = 1024 * (t.val % 16) + r.val + o
    omega
  have tap : ∀ (k : Fin 3) (inb : ∀ d, (![k.val, 1024] : Fin 2 → ℕ) d + (![1, 512] : Fin 2 → ℕ) d ≤ S3x1536.size d),
      loads (F := Ideal) (s := S3x1536) (e := .f32) (in6 m c t) (Rect.unit (s := S3x1536) ![k.val, 1024] S1x512.size inb).toLoadRect (ix2 0 d)
      = argCW m c (ix2 k ⟨1024 + d.val, by omega⟩) := by
    intro k inb
    rw [in6_eq]
    exact loads2_apply _ inb 0 d k ⟨1024 + d.val, by omega⟩ rfl rfl
  unfold tileX2
  refine (pay85_apply _ _ _ _ r d).trans ?_
  rw [pay84_apply]
  unfold Cert.Spec.third Cert.Spec.conv
  refine congrArg₂ (· * ·) (congrArg₂ (· + ·) (congrArg₂ (· + ·) (congrArg₂ (· + ·) ?_ (congrArg₂ (· * ·) ?_ ?_))
    (congrArg₂ (· * ·) ?_ ?_)) (congrArg₂ (· * ·) ?_ ?_)) ?_
  · exact (loads2_apply _ _ 0 d 0 ⟨1024 + d.val, by omega⟩ rfl rfl).trans (in7_apply m c t _)
  · exact tap 0 _
  · exact row 15 _ (by omega)
  · exact tap 1 _
  · exact row 16 _ (by omega)
  · exact tap 2 _
  · exact row 17 _ (by omega)
  · rw [← gate_apply m c hg, ← tile_apply m c t 1536 (by decide)]; rfl

end Cert.KernelIdeal.Hand

end
-- ==== Proof.Numbers.lean ====
/-
Of arguments that are numbers the projection is a number.
-/
module

public import proofs.«01_k».proof.Defs
public import proofs.«01_k».proof.Proof.Streams

@[expose] public section

noncomputable section

namespace Cert.Proof

open Idealize.ShloMosaic Idealize.ShloMosaic.ValueIdx Idealize.ShloMosaic.TcCoe
open Cert.KernelIdeal Cert.KernelIdeal.Hand

/-- Where the magnitude is below infinity the entry is a number. -/
theorem number_of_lt {s : Shape} (x : FVec Ideal s .f32) (h : (⟨0, ![]⟩ : Shape).BroadcastsInDim s (![] : Fin 0 → Fin s.rank))
    (hx : cmpf .olt (Host.absf x) (broadcastInDim s ![] h (constant ⟨0, ![]⟩ .f32 0x7F800000#32)) = fun _ => 1#1) (i : s.Idx) :
    ∃ r : ℝ, (x i : EReal) = r := by
  have h1 : Ideal.cmp .olt (max (x i : EReal) (-(x i : EReal))) (Ideal.ofBits .f32 0x7F800000#32) = 1#1 := congrFun hx i
  have top : (Ideal.ofBits .f32 0x7F800000#32 : EReal) = ⊤ := by simp [Ideal.ofBits, Ideal.ieee]
  rw [top] at h1
  have h2 : max (x i : EReal) (-(x i : EReal)) < ⊤ := by
    by_contra hn
    have : Ideal.cmp .olt (max (x i : EReal) (-(x i : EReal))) ⊤ = 0#1 := by
      unfold Ideal.cmp
      simp only [decide_eq_false hn]
      rfl
    rw [this] at h1
    exact absurd h1 (by decide)
  generalize (x i : EReal) = y at h2 ⊢
  induction (y : EReal) using EReal.rec with
  | bot => simp at h2
  | top => simp at h2
  | coe r => exact ⟨r, rfl⟩

theorem number_add {a b : EReal} (ha : ∃ r : ℝ, a = r) (hb : ∃ r : ℝ, b = r) : ∃ r : ℝ, a + b = r := by
  obtain ⟨r, rfl⟩ := ha
  obtain ⟨q, rfl⟩ := hb
  exact ⟨r + q, (EReal.coe_add r q).symm⟩

theorem number_sum {ι : Type} (s : Finset ι) (f : ι → EReal) (hf : ∀ i, ∃ r : ℝ, f i = r) : ∃ r : ℝ, ∑ i ∈ s, f i = r :=
  Finset.sum_induction f (fun a => ∃ r : ℝ, a = r) (fun _ _ => number_add) ⟨0, rfl⟩ fun i _ => hf i

theorem number_mul {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

theorem gates [Cert.Pre_finite.Facts] (m : (ℓ : Loc nD τ sig) → Buf (Elt Ideal) ℓ) (h : Cert.Pre_KernelIdeal_finite m) (c : Dev nD) :
    Gates m c := by
  obtain ⟨h0, h1, h2, h3, -⟩ := h c
  have n0 : ∀ i, ∃ r : ℝ, (argX m c i : EReal) = r := number_of_lt (argX m c) Cert.Pre_finite.Facts.bcast_S_S2x16384x1024 h0
  have n1 : ∀ i, ∃ r : ℝ, (argM m c i : EReal) = r := number_of_lt (argM m c) Cert.Pre_finite.Facts.bcast_S_S2x3x1024 h1
  have n2 : ∀ i, ∃ r : ℝ, (argW m c i : EReal) = r := number_of_lt (argW m c) Cert.Pre_finite.Facts.bcast_S_S1024x3072 h2
  have n3 : ∀ i, ∃ r : ℝ, (argB m c i : EReal) = r := number_of_lt (argB m c) Cert.Pre_finite.Facts.bcast_S_S3072 h3
  intro b t n
  unfold Cert.Spec.proj Cert.Spec.tok
  exact number_add (number_sum _ _ fun k => number_mul
    (number_add (number_mul (n0 _) (number_add ⟨1, rfl⟩ (n1 _))) (n1 _)) (n2 _)) (n3 _)

end Cert.Proof

end
-- ==== Proof.Pool.lean ====
/-
The pooling mixer at one point of the grid: the product with a band of ones is the sum over the window, and the four
groups and their gate are the specification's.
-/
module

public import proofs.«01_k».proof.Proof.Streams
public import Mathlib.Tactic.FinCases

@[expose] public section

set_option maxRecDepth 16384

noncomputable section

namespace Cert.KernelIdeal.Hand

open Idealize.ShloMosaic Idealize.ShloMosaic.TcCoe
open Idealize.ShloMosaic.ValueIdx
open Cert.KernelIdeal.Gen

variable (m : (ℓ : Loc nD τ sig) → Buf (Elt Ideal) ℓ)

/-! ## A band of ones -/

/-- A sum weighted by the indicator of `c - h … c + h - 1` is the sum over those. -/
theorem sum_band (f : ℕ → EReal) (c h : ℕ) (hc : h ≤ c) (hh : c + h ≤ 256) :
    (∑ k : Fin 256, (if c ≤ k.val + h ∧ k.val < c + h then 1 else 0) * f k.val) = ∑ j ∈ Finset.range (2 * h), f (c - h + j) := by
  rw [Fin.sum_univ_eq_sum_range (fun k => (if c ≤ k + h ∧ k < c + h then (1 : EReal) else 0) * f k) 256]
  have e : ∀ k ∈ Finset.range 256, (if c ≤ k + h ∧ k < c + h then (1 : EReal) else 0) * f k
      = if k ∈ Finset.Ico (c - h) (c + h) then f k else 0 := by
    intro k _
    have hk : (c ≤ k + h ∧ k < c + h) ↔ k ∈ Finset.Ico (c - h) (c + h) := by rw [Finset.mem_Ico]; omega
    by_cases p : k ∈ Finset.Ico (c - h) (c + h)
    · rw [if_pos p, if_pos (hk.mpr p), one_mul]
    · rw [if_neg p, if_neg (fun q => p (hk.mp q)), zero_mul]
  rw [Finset.sum_congr rfl e, Finset.sum_ite_mem, Finset.inter_eq_right.mpr (fun k hk => by
    rw [Finset.mem_Ico] at hk; rw [Finset.mem_range]; omega), Finset.sum_Ico_eq_sum_range]
  congr 2
  omega

/-- Where a band's first token stands among its rows. -/
def lead (v : ℕ) : ℕ := if v = 0 then 16 else 112

/-- The indicator that a point reads: window, variant, token, row. -/
def Bands (c : Dev nD) : Prop := ∀ (t : Fin cfg0.N) (g : Fin 4) (v : Fin 2) (τ' : Fin 128) (k : Fin 256),
  (in10 m c t (ix4 g v τ' k) : EReal)
    = if τ'.val + lead v.val ≤ k.val + 2 ^ g.val ∧ k.val < τ'.val + lead v.val + 2 ^ g.val then 1 else 0

/-- The pooled rows at point `t`. -/
abbrev rows16At (c : Dev nD) (t : Fin cfg0.N) : FVec Ideal S1056x512 .bf16 :=
  poolRows16 (grid0.coords t) (loads (in0 m c t)) (loads (in1 m c t)) (loads (in2 m c t)) (loads (in3 m c t)) (loads (in5 m c t)) (loads (weights m c t))

/-- The same in the first scratch buffer. -/
abbrev rowsAt (c : Dev nD) (t : Fin cfg0.N) : FVec Ideal S1056x512 .f32 :=
  poolRowsKept (grid0.coords t) (loads (in0 m c t)) (loads (in1 m c t)) (loads (in2 m c t)) (loads (in3 m c t)) (loads (in5 m c t)) (loads (weights m c t))

theorem two_pow_le (g : Fin 4) : 2 ^ g.val ≤ 8 := by revert g; decide

theorem bandProduct_apply (c : Dev nD) (hb : Bands m c) (t : Fin cfg0.N) (g : Fin 4) (v start col : ℕ) (hv : v < 2)
    (inb : ∀ d, (![g.val, v, 0, 0] : Fin 4 → ℕ) d + (![1, 1, 128, 256] : Fin 4 → ℕ) d ≤ S4x2x128x256.size d)
    (inb' : ∀ d, (![start, col] : Fin 2 → ℕ) d + (![256, 128] : Fin 2 → ℕ) d ≤ S1056x512.size d)
    (hcol : col = 128 * g.val) (τ' : Fin 128) (e : Fin 128) (R : Fin 1024) (hR : start + lead v + τ'.val = R.val + 16) :
    bandProduct (loads (in10 m c t) (Rect.unit (s := S4x2x128x256) ![g.val, v, 0, 0] S1x1x128x256.size inb).toLoadRect)
        (loads (rows16At m c t) (Rect.unit (s := S1056x512) ![start, col] S256x128.size inb').toLoadRect) (ix2 τ' e)
      = Cert.Spec.windowSum (argX m c) (argM m c) (argW m c) (argB m c) (batch t) (tokenAt t R) (2 ^ g.val)
          ⟨2048 + (128 * g.val + e.val), by omega⟩ := by
  have hg := two_pow_le g
  have hs : start + 256 ≤ 1056 := inb' 0
  have hl : lead v = 16 ∨ lead v = 112 := by unfold lead; split <;> simp
  have h := Ideal.matmul_plain_apply (φ₁ := .bf16) (φ₂ := .bf16) none
    (shapeCast S128x256 (loads (in10 m c t) (Rect.unit (s := S4x2x128x256) ![g.val, v, 0, 0] S1x1x128x256.size inb).toLoadRect)
      shapeCasts_S1x1x128x256_S128x256)
    (loads (F := Ideal) (s := S1056x512) (e := .bf16) (rows16At m c t) (Rect.unit (s := S1056x512) ![start, col] S256x128.size inb').toLoadRect)
    (constant S128x128 .f32 0x00000000#32) τ' e
  rw [show (constant (F := Ideal) S128x128 .f32 0x00000000#32) (ix2 τ' e) = 0 from Ideal.ofBits_zero_f32, zero_add] at h
  refine h.trans ?_
  refine (Finset.sum_congr rfl fun k _ => congrArg₂ (· * ·) (?_ : _ = if τ'.val + lead v ≤ k.val + 2 ^ g.val ∧ k.val < τ'.val + lead v + 2 ^ g.val then (1 : EReal) else 0)
    (?_ : _ = Cert.Spec.near (argX m c) (argM m c) (argW m c) (argB m c) (batch t) (1024 * (t.val % 16) + (start + k.val))
      ⟨2048 + (128 * g.val + e.val), by omega⟩)).trans ?_
  · refine (shapeCast_apply _ _ (ix2 τ' k) (ix4 0 0 τ' k) ?_).trans ?_
    · rw [Shape.rowMajor_val_four, Shape.rowMajor_val_two]
      show ((0 * 1 + 0) * 128 + τ'.val) * 256 + k.val = τ'.val * 256 + k.val
      omega
    · refine (loads_apply (in10 m c t) _ _ (ix4 g ⟨v, hv⟩ τ' k) fun a => ?_).trans (hb t g ⟨v, hv⟩ τ' k)
      match a with
      | ⟨0, _⟩ => rfl
      | ⟨1, _⟩ => rfl
      | ⟨2, _⟩ => show 0 + 1 * τ'.val = τ'.val; omega
      | ⟨3, _⟩ => show 0 + 1 * k.val = k.val; omega
  · subst hcol
    exact (loads2_apply (e := .bf16) (rows16At m c t) inb' k e ⟨start + k.val, by omega⟩ ⟨128 * g.val + e.val, by omega⟩ rfl rfl).trans
      (poolRows16_apply m c t ⟨start + k.val, by omega⟩ ⟨128 * g.val + e.val, by omega⟩)
  · rcases hl with hl | hl
    · refine (sum_band (fun k => Cert.Spec.near (argX m c) (argM m c) (argW m c) (argB m c) (batch t) (1024 * (t.val % 16) + (start + k))
        ⟨2048 + (128 * g.val + e.val), by omega⟩) (τ'.val + lead v) (2 ^ g.val) (by omega) (by omega)).trans ?_
      unfold Cert.Spec.windowSum
      refine Finset.sum_congr rfl fun j _ => congrArg (Cert.Spec.near (argX m c) (argM m c) (argW m c) (argB m c) (batch t) · _) ?_
      show 1024 * (t.val % 16) + (start + (τ'.val + lead v - 2 ^ g.val + j)) = 1024 * (t.val % 16) + R.val + 16 - 2 ^ g.val + j
      omega
    · refine (sum_band (fun k => Cert.Spec.near (argX m c) (argM m c) (argW m c) (argB m c) (batch t) (1024 * (t.val % 16) + (start + k))
        ⟨2048 + (128 * g.val + e.val), by omega⟩) (τ'.val + lead v) (2 ^ g.val) (by omega) (by omega)).trans ?_
      unfold Cert.Spec.windowSum
      refine Finset.sum_congr rfl fun j _ => congrArg (Cert.Spec.near (argX m c) (argM m c) (argW m c) (argB m c) (batch t) · _) ?_
      show 1024 * (t.val % 16) + (start + (τ'.val + lead v - 2 ^ g.val + j)) = 1024 * (t.val % 16) + R.val + 16 - 2 ^ g.val + j
      omega

/-! ## A group -/

theorem position_apply (t : Fin cfg0.N) (r : Fin 1024) :
    k0_pay126 (BitVec.ofNat 32 (grid0.coords t 1).val) (ix2 r 0) = BitVec.ofNat 32 (tokenAt t r).val := by
  rw [coord1_eq]
  show BitVec.ofNat 32 (t.val % 16) * 1024#32 + BitVec.ofNat 32 (0 * 1024 + r.val) = BitVec.ofNat 32 (1024 * (t.val % 16) + r.val)
  rw [← BitVec.ofNat_mul, ← BitVec.ofNat_add]
  exact congrArg _ (by omega)

/-- Eight blocks of 128 rows, read at row `128 bb + τ`. -/
theorem eight_apply (s : Fin 8 → FVec Ideal S128x128 .f32) (bb : Fin 8) (τ' e : Fin 128) :
    concatenate S1024x128 0 [⟨S128x128, s 0⟩, ⟨S128x128, s 1⟩, ⟨S128x128, s 2⟩, ⟨S128x128, s 3⟩, ⟨S128x128, s 4⟩,
          ⟨S128x128, s 5⟩, ⟨S128x128, s 6⟩, ⟨S128x128, s 7⟩]
          concatenates_S128x128_S128x128_S128x128_S128x128_S128x128_S128x128_S128x128_S128x128_S1024x128_d0
        (ix2 ⟨128 * bb.val + τ'.val, by omega⟩ e) = s bb (ix2 τ' e) := by
  refine concatenate_apply_piece (t := S1024x128) 0 [⟨S128x128, s 0⟩, ⟨S128x128, s 1⟩, ⟨S128x128, s 2⟩, ⟨S128x128, s 3⟩, ⟨S128x128, s 4⟩,
    ⟨S128x128, s 5⟩, ⟨S128x128, s 6⟩, ⟨S128x128, s 7⟩] _ _ bb.val bb.isLt S128x128 (s bb) ?_ rfl (128 * bb.val) ?_ (ix2 τ' e) (fun b hb => ?_) rfl
  · fin_cases bb <;> rfl
  · fin_cases bb <;> rfl
  · match b with
    | ⟨0, _⟩ => exact absurd rfl hb
    | ⟨1, _⟩ => rfl

theorem poolGroup_apply (c : Dev nD) (t : Fin cfg0.N) (g : Fin 4) (s : Fin 8 → FVec Ideal S128x128 .f32) (u : Vec Ideal S1024x128 .f32)
    (mix : Vec Ideal S1x128x128 .bf16)
    (hs : ∀ (bb : Fin 8) (τ' e : Fin 128), s bb (ix2 τ' e) = Cert.Spec.windowSum (argX m c) (argM m c) (argW m c) (argB m c) (batch t)
      (tokenAt t ⟨128 * bb.val + τ'.val, by omega⟩) (2 ^ g.val) ⟨2048 + (128 * g.val + e.val), by omega⟩)
    (hu : ∀ (r : Fin 1024) (e : Fin 128), u (ix2 r e) = Cert.Spec.proj (argX m c) (argM m c) (argW m c) (argB m c) (batch t)
      (tokenAt t r) ⟨2048 + (128 * g.val + e.val), by omega⟩)
    (hm : ∀ d e : Fin 128, mix (ix3 0 d e) = argPW m c (ix3 g d e)) (r : Fin 1024) (e : Fin 128) :
    poolGroup (BitVec.ofNat 32 (2 ^ g.val)) (k0_pay126 (BitVec.ofNat 32 (grid0.coords t 1).val)) s u mix (ix2 r e)
      = Cert.Spec.mixed (argX m c) (argM m c) (argW m c) (argB m c) (argPW m c) (batch t) (tokenAt t r) g e := by
  have h := fun lhs => Ideal.matmul_plain_apply (φ₁ := .bf16) (φ₂ := .bf16) none lhs (shapeCast S128x128 mix shapeCasts_S1x128x128_S128x128)
    (constant S1024x128 .f32 0x00000000#32) r e
  simp only [show (constant (F := Ideal) S1024x128 .f32 0x00000000#32) (ix2 r e) = 0 from Ideal.ofBits_zero_f32, zero_add] at h
  unfold poolGroup
  refine (h _).trans ?_
  unfold Cert.Spec.mixed
  refine Finset.sum_congr rfl fun d _ => congrArg₂ (· * ·) ?_ ((shapeCast_1ab_ab_apply _ _ _ _).trans (hm d e))
  unfold Cert.Spec.deviation
  refine congrArg₂ (· - ·) (congrArg₂ Ideal.div ?_ ?_) (hu r d)
  · have er : r = ⟨128 * (⟨r.val / 128, by omega⟩ : Fin 8).val + (⟨r.val % 128, by omega⟩ : Fin 128).val, by show 128 * (r.val / 128) + r.val % 128 < 1024; omega⟩ :=
      Fin.ext (by show r.val = 128 * (r.val / 128) + r.val % 128; omega)
    rw [er]
    exact (eight_apply s _ _ d).trans (hs _ _ d)
  · refine (broadcastTo_apply _ _ (ix2 r d) (ix2 r 0) fun a => ?_).trans ?_
    · match a with
      | ⟨0, _⟩ => rfl
      | ⟨1, _⟩ => rfl
    · unfold Cert.Spec.count
      rw [← position_apply t r]
      rfl

end Cert.KernelIdeal.Hand

end
-- ==== Proof.Bands.lean ====
/-
The indicator that the kernel reads: one where a row lies in a token's window.
-/
module

public import proofs.«01_k».proof.Proof.Pool
public import Mathlib.Tactic.FinCases

@[expose] public section

noncomputable section

namespace Cert.KernelIdeal.Hand

open Idealize.ShloMosaic Idealize.ShloMosaic.TcCoe
open Idealize.ShloMosaic.ValueIdx
open Cert.KernelIdeal.Gen

variable (m : (ℓ : Loc nD τ sig) → Buf (Elt Ideal) ℓ)

/-- The signed difference of small words is that of their numbers. -/
theorem toInt_offset (k l q : ℕ) (hk : k < 256) (hl : l < 128) (hq : q < 128) :
    (BitVec.ofNat 32 k - BitVec.ofNat 32 l - BitVec.ofNat 32 q).toInt = (k : ℤ) - l - q := by
  have e : ∀ n : ℕ, n < 256 → (BitVec.ofNat 32 n).toInt = (n : ℤ) := fun n hn =>
    (BitVec.toInt_ofNat' ..).trans (Int.bmod_eq_of_le (by norm_num <;> omega) (by norm_num <;> omega))
  rw [BitVec.toInt_sub, BitVec.toInt_sub, e k hk, e l (by omega), e q (by omega), Int.bmod_eq_of_le (n := (k : ℤ) - l) (by norm_num <;> omega) (by norm_num <;> omega),
    Int.bmod_eq_of_le (by norm_num <;> omega) (by norm_num <;> omega)]

theorem bands (c : Dev nD) : Bands m c := by
  intro t g v q k
  rw [in10_eq, V_band]
  have hw : ∀ (w h n : BitVec 32), w.toInt = (k.val : ℤ) - lead v.val - q.val → h.toInt = 2 ^ g.val → n.toInt = -2 ^ g.val →
      (Scalar.select (Scalar.andi (Scalar.cmpi .sge w n) (Scalar.cmpi .slt w h)) (FloatOps.ofBits (F := Ideal) .bf16 0x3F80#16)
        (FloatOps.ofBits (F := Ideal) .bf16 0x0000#16) : EReal)
      = if q.val + lead v.val ≤ k.val + 2 ^ g.val ∧ k.val < q.val + lead v.val + 2 ^ g.val then 1 else 0 := by
    intro w h n ew eh en
    have e1 : Scalar.cmpi .sge w n = BitVec.ofBool (decide (-2 ^ g.val ≤ (k.val : ℤ) - lead v.val - q.val)) := by
      rw [← ew, ← en]; rfl
    have e2 : Scalar.cmpi .slt w h = BitVec.ofBool (decide ((k.val : ℤ) - lead v.val - q.val < 2 ^ g.val)) := by
      rw [← ew, ← eh]; rfl
    rw [e1, e2]
    have hp : ((2 ^ g.val : ℕ) : ℤ) = 2 ^ g.val := by norm_cast
    by_cases h1 : q.val + lead v.val ≤ k.val + 2 ^ g.val
    · by_cases h2 : k.val < q.val + lead v.val + 2 ^ g.val
      · rw [if_pos ⟨h1, h2⟩, decide_eq_true (by omega), decide_eq_true (by omega)]
        exact Ideal.ofBits_one_bf16
      · rw [if_neg (fun h => h2 h.2), decide_eq_true (by omega), decide_eq_false (by omega)]
        exact Ideal.ofBits_zero_bf16
    · rw [if_neg (fun h => h1 h.1), decide_eq_false (by omega)]
      refine Eq.trans ?_ Ideal.ofBits_zero_bf16
      cases decide ((k.val : ℤ) - lead v.val - q.val < 2 ^ g.val) <;> rfl
  refine hw (offset (F := Ideal) (ix4 g v q k)) (halves (F := Ideal) (ix4 g 0 0 0)) (-(halves (F := Ideal) (ix4 g 0 0 0))) ?_ ?_ ?_
  · have hl : lit0 v = BitVec.ofNat 32 (lead v.val) := by fin_cases v <;> rfl
    have he : offset (F := Ideal) (ix4 g v q k) = BitVec.ofNat 32 k.val - lit0 v - BitVec.ofNat 32 q.val :=
      congrArg (fun i => BitVec.ofNat 32 k.val - lit0 i - BitVec.ofNat 32 q.val) (Fin.ext (Shape.rowMajor_val_one _))
    rw [he, hl]
    exact toInt_offset _ _ _ k.isLt (by fin_cases v <;> decide) q.isLt
  · fin_cases g <;> rfl
  · fin_cases g <;> rfl

end Cert.KernelIdeal.Hand

end
-- ==== Proof.Mixer.lean ====
/-
The pooling mixer's output block at one point of the grid is the specification's.
-/
module

public import proofs.«01_k».proof.Proof.Pool

@[expose] public section

set_option maxRecDepth 16384

noncomputable section

namespace Cert.KernelIdeal.Hand

open Idealize.ShloMosaic Idealize.ShloMosaic.TcCoe
open Idealize.ShloMosaic.ValueIdx
open Cert.KernelIdeal.Gen

variable (m : (ℓ : Loc nD τ sig) → Buf (Elt Ideal) ℓ)

/-- The pooled rows that are the tile's own. -/
theorem own_apply (c : Dev nD) (t : Fin cfg0.N) (g : Fin 4) (col : ℕ) (hcol : col = 128 * g.val)
    (inb : ∀ d, (![16, col] : Fin 2 → ℕ) d + (![1024, 128] : Fin 2 → ℕ) d ≤ S1056x512.size d) (r : Fin 1024) (e : Fin 128) :
    loads (F := Ideal) (s := S1056x512) (e := .f32) (rowsAt m c t) (Rect.unit (s := S1056x512) ![16, col] S1024x128.size inb).toLoadRect (ix2 r e)
      = Cert.Spec.proj (argX m c) (argM m c) (argW m c) (argB m c) (batch t) (tokenAt t r) ⟨2048 + (128 * g.val + e.val), by omega⟩ := by
  subst hcol
  refine (loads2_apply (e := .f32) (rowsAt m c t) inb r e ⟨16 + r.val, by omega⟩ ⟨128 * g.val + e.val, by omega⟩ rfl rfl).trans
    ((poolRowsKept_apply m c t ⟨16 + r.val, by omega⟩ ⟨128 * g.val + e.val, by omega⟩).trans ?_)
  unfold Cert.Spec.near
  rw [dif_pos ⟨by show 16 ≤ 1024 * (t.val % 16) + (16 + r.val); omega, by show 1024 * (t.val % 16) + (16 + r.val) < 16400; omega⟩]
  refine congrArg (Cert.Spec.proj (argX m c) (argM m c) (argW m c) (argB m c) (batch t) · _) (Fin.ext ?_)
  show 1024 * (t.val % 16) + (16 + r.val) - 16 = 1024 * (t.val % 16) + r.val
  omega

/-- The group's mixing matrix. -/
theorem mix_apply (c : Dev nD) (t : Fin cfg0.N) (g : Fin 4)
    (inb : ∀ d, (![g.val, 0, 0] : Fin 3 → ℕ) d + (![1, 128, 128] : Fin 3 → ℕ) d ≤ S4x128x128.size d) (d e : Fin 128) :
    loads (F := Ideal) (s := S4x128x128) (e := .bf16) (in8 m c t) (Rect.unit (s := S4x128x128) ![g.val, 0, 0] S1x128x128.size inb).toLoadRect (ix3 0 d e)
      = argPW m c (ix3 g d e) := by
  rw [in8_eq, V_mix]
  refine loads_apply _ _ _ (ix3 g d e) fun a => ?_
  match a with
  | ⟨0, _⟩ => rfl
  | ⟨1, _⟩ => show 0 + 1 * d.val = d.val; omega
  | ⟨2, _⟩ => show 0 + 1 * e.val = e.val; omega

theorem group0_apply (c : Dev nD) (hb : Bands m c) (t : Fin cfg0.N) (r : Fin 1024) (e : Fin 128) :
    group0 (grid0.coords t) (loads (in8 m c t)) (loads (in10 m c t)) (loads (rowsAt m c t)) (loads (rows16At m c t)) (ix2 r e)
      = Cert.Spec.mixed (argX m c) (argM m c) (argW m c) (argB m c) (argPW m c) (batch t) (tokenAt t r) 0 e := by
  refine poolGroup_apply m c t 0 _ _ _ (fun bb q e => ?_) (own_apply m c t 0 _ rfl _) (mix_apply m c t 0 _) r e
  fin_cases bb <;> exact bandProduct_apply m c hb t 0 _ _ _ (by decide) _ _ rfl q e _ (by simp [lead]; try omega)

theorem group1_apply (c : Dev nD) (hb : Bands m c) (t : Fin cfg0.N) (r : Fin 1024) (e : Fin 128) :
    group1 (grid0.coords t) (loads (in8 m c t)) (loads (in10 m c t)) (loads (rowsAt m c t)) (loads (rows16At m c t)) (ix2 r e)
      = Cert.Spec.mixed (argX m c) (argM m c) (argW m c) (argB m c) (argPW m c) (batch t) (tokenAt t r) 1 e := by
  refine poolGroup_apply m c t 1 _ _ _ (fun bb q e => ?_) (own_apply m c t 1 _ rfl _) (mix_apply m c t 1 _) r e
  fin_cases bb <;> exact bandProduct_apply m c hb t 1 _ _ _ (by decide) _ _ rfl q e _ (by simp [lead]; try omega)

theorem group2_apply (c : Dev nD) (hb : Bands m c) (t : Fin cfg0.N) (r : Fin 1024) (e : Fin 128) :
    group2 (grid0.coords t) (loads (in8 m c t)) (loads (in10 m c t)) (loads (rowsAt m c t)) (loads (rows16At m c t)) (ix2 r e)
      = Cert.Spec.mixed (argX m c) (argM m c) (argW m c) (argB m c) (argPW m c) (batch t) (tokenAt t r) 2 e := by
  refine poolGroup_apply m c t 2 _ _ _ (fun bb q e => ?_) (own_apply m c t 2 _ rfl _) (mix_apply m c t 2 _) r e
  fin_cases bb <;> exact bandProduct_apply m c hb t 2 _ _ _ (by decide) _ _ rfl q e _ (by simp [lead]; try omega)

theorem group3_apply (c : Dev nD) (hb : Bands m c) (t : Fin cfg0.N) (r : Fin 1024) (e : Fin 128) :
    group3 (grid0.coords t) (loads (in8 m c t)) (loads (in10 m c t)) (loads (rowsAt m c t)) (loads (rows16At m c t)) (ix2 r e)
      = Cert.Spec.mixed (argX m c) (argM m c) (argW m c) (argB m c) (argPW m c) (batch t) (tokenAt t r) 3 e := by
  refine poolGroup_apply m c t 3 _ _ _ (fun bb q e => ?_) (own_apply m c t 3 _ rfl _) (mix_apply m c t 3 _) r e
  fin_cases bb <;> exact bandProduct_apply m c hb t 3 _ _ _ (by decide) _ _ rfl q e _ (by simp [lead]; try omega)

/-- Four blocks of 128 columns, read at column `128 g + e`. -/
theorem four_apply (s : Fin 4 → FVec Ideal S1024x128 .f32) (r : Fin 1024) (g : Fin 4) (e : Fin 128) :
    concatenate S1024x512 1 [⟨S1024x128, s 0⟩, ⟨S1024x128, s 1⟩, ⟨S1024x128, s 2⟩, ⟨S1024x128, s 3⟩]
        concatenates_S1024x128_S1024x128_S1024x128_S1024x128_S1024x512_d1 (ix2 r ⟨128 * g.val + e.val, by omega⟩) = s g (ix2 r e) := by
  refine concatenate_apply_piece (t := S1024x512) 1 [⟨S1024x128, s 0⟩, ⟨S1024x128, s 1⟩, ⟨S1024x128, s 2⟩, ⟨S1024x128, s 3⟩] _ _
    g.val g.isLt S1024x128 (s g) ?_ rfl (128 * g.val) ?_ (ix2 r e) (fun b hb => ?_) rfl
  · fin_cases g <;> rfl
  · fin_cases g <;> rfl
  · match b with
    | ⟨0, _⟩ => rfl
    | ⟨1, _⟩ => exact absurd rfl hb

theorem pay153_apply (x : FVec Ideal S1024x1024 .bf16) (s : Fin 4 → FVec Ideal S1024x128 .f32) (w : Vec Ideal S1024x512 .bf16)
    (b scale : Vec Ideal S1x512 .f32) (r : Fin 1024) (d : Fin 512) :
    k0_pay153 x (s 0) (s 1) (s 2) (s 3) w b scale (ix3 0 r d)
      = (s ⟨d.val / 128, by omega⟩ (ix2 r ⟨d.val % 128, by omega⟩) * scale (ix2 0 d)) * gate (k0_pay43 x w b (ix2 r d)) := by
  unfold k0_pay153
  refine (shapeCast_ab_1ab_apply _ _ _ _ _).trans ?_
  refine congrArg₂ (fun a b : EReal => a * b) (congrArg₂ (fun a b : EReal => a * b) ?_ ?_) rfl
  · have ed : d = ⟨128 * (⟨d.val / 128, by omega⟩ : Fin 4).val + (⟨d.val % 128, by omega⟩ : Fin 128).val, by show 128 * (d.val / 128) + d.val % 128 < 512; omega⟩ :=
      Fin.ext (by show d.val = 128 * (d.val / 128) + d.val % 128; omega)
    exact (congrArg (fun z => concatenate S1024x512 1 _ _ (ix2 r z)) ed).trans (four_apply s r _ _)
  · exact (broadcastTo_1b_ab_apply _ _ r d).trans (shapeCast_apply _ _ _ _ rfl)

theorem outY_apply (c : Dev nD) (hb : Bands m c) (hg : Gates m c) (t : Fin cfg0.N) (r : Fin 1024) (d : Fin 512) :
    outY m c t (ix3 0 r d)
      = Cert.Spec.pooled (argX m c) (argM m c) (argW m c) (argB m c) (argPW m c) (argPS m c) (batch t) (tokenAt t r) d := by
  have hs : ∀ (g : Fin 4) (e : Fin 128),
      (![group0 (grid0.coords t) (loads (in8 m c t)) (loads (in10 m c t)) (loads (rowsAt m c t)) (loads (rows16At m c t)),
        group1 (grid0.coords t) (loads (in8 m c t)) (loads (in10 m c t)) (loads (rowsAt m c t)) (loads (rows16At m c t)),
        group2 (grid0.coords t) (loads (in8 m c t)) (loads (in10 m c t)) (loads (rowsAt m c t)) (loads (rows16At m c t)),
        group3 (grid0.coords t) (loads (in8 m c t)) (loads (in10 m c t)) (loads (rowsAt m c t)) (loads (rows16At m c t))] :
          Fin 4 → FVec Ideal S1024x128 .f32) g (ix2 r e)
      = Cert.Spec.mixed (argX m c) (argM m c) (argW m c) (argB m c) (argPW m c) (batch t) (tokenAt t r) g e := by
    intro g e
    match g with
    | ⟨0, _⟩ => exact group0_apply m c hb t r e
    | ⟨1, _⟩ => exact group1_apply m c hb t r e
    | ⟨2, _⟩ => exact group2_apply m c hb t r e
    | ⟨3, _⟩ => exact group3_apply m c hb t r e
  refine (pay153_apply _ (![group0 (grid0.coords t) (loads (in8 m c t)) (loads (in10 m c t)) (loads (rowsAt m c t)) (loads (rows16At m c t)),
        group1 (grid0.coords t) (loads (in8 m c t)) (loads (in10 m c t)) (loads (rowsAt m c t)) (loads (rows16At m c t)),
        group2 (grid0.coords t) (loads (in8 m c t)) (loads (in10 m c t)) (loads (rowsAt m c t)) (loads (rows16At m c t)),
        group3 (grid0.coords t) (loads (in8 m c t)) (loads (in10 m c t)) (loads (rowsAt m c t)) (loads (rows16At m c t))]) _ _ _ r d).trans ?_
  unfold Cert.Spec.pooled
  refine congrArg₂ (· * ·) (congrArg₂ (· * ·) (hs _ _) ?_) ?_
  · exact (loads2_apply (in9 m c t) _ 0 d 0 d rfl (Nat.zero_add _)).trans (in9_apply m c t d)
  · rw [← gate_apply m c hg, ← tile_apply m c t 2560 (by decide)]

end Cert.KernelIdeal.Hand

end
-- ==== Proof.Results.lean ====
/-
The four result arrays after the kernel's run are the specification's streams of its arguments.
-/
module

public import proofs.«01_k».proof.Proof.Mixer
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.StableHlo Idealize.SL.Sem
open Idealize.ShloMosaic.ValueIdx
open Cert.KernelIdeal.Gen

variable (m : (ℓ : Loc nD τ sig) → Buf (Elt Ideal) ℓ) (ρ : Dev nD → PrngReg)

/-! ## The blocks -/

/-- A tile permuted is its part of a stream laid out. -/
theorem permuted_laid (t : Fin cfg0.N) (p : FVec Ideal S1024x512 .f32) (f : Fin 2 → Fin 16384 → Fin 512 → EReal)
    (h : ∀ r d, p (ix2 r d) = f (batch t) (tokenAt t r) d) (y : S1x1x4x1024x128.Idx) (z : S2x16x4x1024x128.Idx)
    (h0 : (z 0).val = t.val / 16 * 1 + 1 * (y 0).val) (h1 : (z 1).val = t.val % 16 * 1 + 1 * (y 1).val)
    (h2 : (z 2).val = 0 * 4 + 1 * (y 2).val) (h3 : (z 3).val = 0 * 1024 + 1 * (y 3).val) (h4 : (z 4).val = 0 * 128 + 1 * (y 4).val) :
    permuted p y = Cert.Spec.laid f z := by
  have y0 := (y 0).isLt
  change _ < 1 at y0
  have y1 := (y 1).isLt
  change _ < 1 at y1
  refine (h _ _).trans ?_
  unfold Cert.Spec.laid
  have e0 : (batch t) = ⟨(z 0).val, (z 0).isLt⟩ := Fin.ext (by show t.val / 16 = (z 0).val; omega)
  rw [e0]
  refine congrArg₂ (f _) (Fin.ext ?_) (Fin.ext ?_)
  · show 1024 * (t.val % 16) + (128 * ((y 3).val % 8) + (y 3).val / 8) = 1024 * (z 1).val + (128 * ((z 3).val % 8) + (z 3).val / 8)
    have e : (z 3).val = (y 3).val := by omega
    rw [e]; omega
  · show 128 * (y 2).val + (y 4).val = 128 * (z 2).val + (z 4).val
    omega

theorem idx_11 : ∀ t : Fin grid0.N, win0_11.index t 0 = t.val / 16 ∧ win0_11.index t 1 = t.val % 16 ∧ win0_11.index t 2 = 0
    ∧ win0_11.index t 3 = 0 ∧ win0_11.index t 4 = 0 := by
  decide +kernel
theorem idx_12 : ∀ t : Fin grid0.N, win0_12.index t 0 = t.val / 16 ∧ win0_12.index t 1 = t.val % 16 ∧ win0_12.index t 2 = 0
    ∧ win0_12.index t 3 = 0 ∧ win0_12.index t 4 = 0 := by
  decide +kernel
theorem idx_13 : ∀ t : Fin grid0.N, win0_13.index t 0 = t.val / 16 ∧ win0_13.index t 1 = t.val % 16 ∧ win0_13.index t 2 = 0
    ∧ win0_13.index t 3 = 0 ∧ win0_13.index t 4 = 0 := by
  decide +kernel
theorem idx_14 : ∀ t : Fin grid0.N, win0_14.index t 0 = t.val / 16 ∧ win0_14.index t 1 = t.val % 16 ∧ win0_14.index t 2 = 0 := by
  decide +kernel

/-- The first stream. -/
abbrev valV (c : Dev nD) : FVec Ideal S2x16x4x1024x128 .f32 :=
  Cert.Spec.laid (Cert.Spec.cols (argX m c) (argM m c) (argW m c) (argB m c) 0 (by decide))
/-- The second. -/
abbrev valX1 (c : Dev nD) : FVec Ideal S2x16x4x1024x128 .f32 :=
  Cert.Spec.laid (Cert.Spec.cols (argX m c) (argM m c) (argW m c) (argB m c) 512 (by decide))
/-- The third. -/
abbrev valX2 (c : Dev nD) : FVec Ideal S2x16x4x1024x128 .f32 :=
  Cert.Spec.laid (Cert.Spec.third (argX m c) (argM m c) (argW m c) (argB m c) (argCW m c) (argCB m c))
/-- The pooling mixer's. -/
abbrev valY (c : Dev nD) : FVec Ideal S2x16384x512 .bf16 :=
  Cert.Spec.plainly (Cert.Spec.pooled (argX m c) (argM m c) (argW m c) (argB m c) (argPW m c) (argPS m c))

theorem final_11 (c : Dev nD) : (dats m 0 c).arrAt 11 cfg0.N = valV m c := by
  refine (dats m 0 c).arrAt_eq_of_covers 11 (valV m c) (by decide +kernel) fun t _ y => ?_
  rw [after_11]
  obtain ⟨e0, e1, e2, e3, e4⟩ := idx_11 t
  refine permuted_laid t _ _ (fun r d => tile_apply m c t 0 (by decide) _ _ r d) _ _ ?_ ?_ ?_ ?_ ?_
  · show win0_11.index t 0 * 1 + 1 * (y 0).val = _; rw [e0]
  · show win0_11.index t 1 * 1 + 1 * (y 1).val = _; rw [e1]
  · show win0_11.index t 2 * 4 + 1 * (y 2).val = _; rw [e2]
  · show win0_11.index t 3 * 1024 + 1 * (y 3).val = _; rw [e3]
  · show win0_11.index t 4 * 128 + 1 * (y 4).val = _; rw [e4]

theorem final_12 (c : Dev nD) : (dats m 0 c).arrAt 12 cfg0.N = valX1 m c := by
  refine (dats m 0 c).arrAt_eq_of_covers 12 (valX1 m c) (by decide +kernel) fun t _ y => ?_
  rw [after_12]
  obtain ⟨e0, e1, e2, e3, e4⟩ := idx_12 t
  refine permuted_laid t _ _ (fun r d => tile_apply m c t 512 (by decide) _ _ r d) _ _ ?_ ?_ ?_ ?_ ?_
  · show win0_12.index t 0 * 1 + 1 * (y 0).val = _; rw [e0]
  · show win0_12.index t 1 * 1 + 1 * (y 1).val = _; rw [e1]
  · show win0_12.index t 2 * 4 + 1 * (y 2).val = _; rw [e2]
  · show win0_12.index t 3 * 1024 + 1 * (y 3).val = _; rw [e3]
  · show win0_12.index t 4 * 128 + 1 * (y 4).val = _; rw [e4]

theorem final_13 (c : Dev nD) (hg : Gates m c) : (dats m 0 c).arrAt 13 cfg0.N = valX2 m c := by
  refine (dats m 0 c).arrAt_eq_of_covers 13 (valX2 m c) (by decide +kernel) fun t _ y => ?_
  rw [after_13]
  obtain ⟨e0, e1, e2, e3, e4⟩ := idx_13 t
  refine permuted_laid t _ _ (fun r d => tileX2_apply m c hg t r d) _ _ ?_ ?_ ?_ ?_ ?_
  · show win0_13.index t 0 * 1 + 1 * (y 0).val = _; rw [e0]
  · show win0_13.index t 1 * 1 + 1 * (y 1).val = _; rw [e1]
  · show win0_13.index t 2 * 4 + 1 * (y 2).val = _; rw [e2]
  · show win0_13.index t 3 * 1024 + 1 * (y 3).val = _; rw [e3]
  · show win0_13.index t 4 * 128 + 1 * (y 4).val = _; rw [e4]

theorem final_14 (c : Dev nD) (hb : Bands m c) (hg : Gates m c) : (dats m 0 c).arrAt 14 cfg0.N = valY m c := by
  refine (dats m 0 c).arrAt_eq_of_covers 14 (valY m c) (by decide +kernel) fun t _ y => ?_
  rw [after_14]
  obtain ⟨e0, e1, e2⟩ := idx_14 t
  have key : ∀ (w : S1x1024x512.Idx) (z : S2x16384x512.Idx), (z 0).val = t.val / 16 * 1 + 1 * (w 0).val →
      (z 1).val = t.val % 16 * 1024 + 1 * (w 1).val → (z 2).val = 0 * 512 + 1 * (w 2).val → outY m c t w = valY m c z := by
    intro w z h0 h1 h2
    have w0 := (w 0).isLt
    change _ < 1 at w0
    have ew : w = ix3 0 (w 1) (w 2) := funext fun a => by
      match a with
      | ⟨0, _⟩ => exact Fin.ext (by show (w 0).val = 0; omega)
      | ⟨1, _⟩ => rfl
      | ⟨2, _⟩ => rfl
    rw [ew]
    refine (outY_apply m c hb hg t (w 1) (w 2)).trans ?_
    show _ = Cert.Spec.pooled (argX m c) (argM m c) (argW m c) (argB m c) (argPW m c) (argPS m c) ⟨(z 0).val, (z 0).isLt⟩ ⟨(z 1).val, (z 1).isLt⟩ ⟨(z 2).val, (z 2).isLt⟩
    have f0 : (batch t) = ⟨(z 0).val, (z 0).isLt⟩ := Fin.ext (by show t.val / 16 = (z 0).val; omega)
    have f1 : (tokenAt t (w 1)) = ⟨(z 1).val, (z 1).isLt⟩ := Fin.ext (by show 1024 * (t.val % 16) + (w 1).val = (z 1).val; omega)
    have f2 : (w 2 : Fin 512) = ⟨(z 2).val, (z 2).isLt⟩ := Fin.ext (by show (w 2).val = (z 2).val; omega)
    rw [f0, f1, f2]; rfl
  refine key _ _ ?_ ?_ ?_
  · show win0_14.index t 0 * 1 + 1 * (y 0).val = _; rw [e0]
  · show win0_14.index t 1 * 1024 + 1 * (y 1).val = _; rw [e1]
  · show win0_14.index t 2 * 512 + 1 * (y 2).val = _; rw [e2]

/-- The kernel's run: the results are the streams, and the arguments end as they began. -/
theorem run_results (hb : ∀ c, Bands m c) (hg : ∀ c, Gates m c) :
    θ_run defs (onTc (τ := τ) (main (F := Ideal))) ⟨m, fun _ => 0, ρ⟩ (fun r => (∀ c : Dev nD,
      r.2.mem ((c.tc : Thread nD τ).loc main_v20_0) = valV m c
      ∧ r.2.mem ((c.tc : Thread nD τ).loc main_v20_1) = valX1 m c
      ∧ r.2.mem ((c.tc : Thread nD τ).loc main_v20_2) = valX2 m c
      ∧ r.2.mem ((c.tc : Thread nD τ).loc main_v20_3) = valY m c)) :=
  (θ_run defs _ _).mono (fun _ h c => ⟨((h.1 c).1 11).trans (final_11 m c), ((h.1 c).1 12).trans (final_12 m c),
    ((h.1 c).1 13).trans (final_13 m c (hg c)), ((h.1 c).1 14).trans (final_14 m c (hb c) (hg c))⟩) (runs m ρ)

end Cert.KernelIdeal.Hand

end
-- ==== Proof.Window.lean ====
/-
A sum over windows along the middle axis of three, and a padded middle axis, read at an index.
-/
module

public import proofs.«01_k».proof.ReferenceIdeal
public import Idealize.ShloMosaic.PureOps.Ideal
public import Idealize.ShloMosaic.Lib.ValueIdxCore

@[expose] public section

noncomputable section

namespace Cert.ReferenceIdeal.Hand

open Idealize.ShloMosaic Idealize.ShloMosaic.ValueIdx

theorem foldl_sum {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- A sum over the indices of an array whose outer axes hold one element. -/
theorem middle_sum (w : ℕ) (f : (⟨3, ![1, w, 1]⟩ : Shape).Idx → EReal) :
    ∑ k, f k = ∑ n : Fin w, f (ix3 0 n 0) :=
  (Fintype.sum_equiv
    { toFun := fun n : Fin w => (ix3 0 n 0 : (⟨3, ![1, w, 1]⟩ : Shape).Idx), invFun := fun k => k 1, left_inv := fun _ => rfl,
      right_inv := fun k => (congrArg₂ (fun a c => (ix3 a (k 1) c : (⟨3, ![1, w, 1]⟩ : Shape).Idx))
        (Subsingleton.elim (α := Fin 1) 0 (k 0)) (Subsingleton.elim (α := Fin 1) 0 (k 2))).trans (eq_ix3 k).symm }
    (fun n => f (ix3 0 n 0)) f fun _ => rfl).symm

/-- A window of `w` along the middle axis, `h` before the element: the sum of the elements that are there. -/
theorem window_apply (w h q : ℕ) (x : FVec Ideal S2x16384x128 .f32) (init : FVec Ideal S_ .f32)
    (hw : S2x16384x128.ReduceWindows ![1, w, 1] ![1, 1, 1] ![0, h, 0] ![0, q, 0] S2x16384x128) (hu : 0 < S_.numel)
    (hi : ∀ i, (init i : EReal) = 0) (f : ℕ → EReal) (b : Fin 2) (t : Fin 16384) (c : Fin 128)
    (hf : ∀ n, n < w → (f n = if hn : h ≤ t.val + n ∧ t.val + n - h < 16384 then x (ix3 b ⟨t.val + n - h, hn.2⟩ c) else 0)) :
    Host.reduceWindowAdd (F := Ideal) ![1, w, 1] ![1, 1, 1] ![0, h, 0] ![0, q, 0] x init hw hu (ix3 b t c)
      = ∑ n ∈ Finset.range w, f n := by
  unfold Host.reduceWindowAdd
  rw [Ideal.hostReduceWindowAdd_def]
  unfold Ideal.hostReduceWindowAdd Host.reduceWindow
  refine (foldl_sum _ _ _).trans ?_
  rw [← Fin.sum_univ_def, hi, zero_add]
  refine (Finset.sum_congr rfl fun i _ => ?_).trans ((Equiv.sum_comp (⟨3, ![1, w, 1]⟩ : Shape).rowMajor.symm
    (fun k : (⟨3, ![1, w, 1]⟩ : Shape).Idx => f (k 1).val)).trans ((middle_sum w _).trans (Finset.sum_range _).symm))
  have k0 : ((⟨3, ![1, w, 1]⟩ : Shape).rowMajor.symm i 0).val < 1 := ((⟨3, ![1, w, 1]⟩ : Shape).rowMajor.symm i 0).isLt
  have k2 : ((⟨3, ![1, w, 1]⟩ : Shape).rowMajor.symm i 2).val < 1 := ((⟨3, ![1, w, 1]⟩ : Shape).rowMajor.symm i 2).isLt
  refine Eq.trans ?_ (hf ((⟨3, ![1, w, 1]⟩ : Shape).rowMajor.symm i 1).val ((⟨3, ![1, w, 1]⟩ : Shape).rowMajor.symm i 1).isLt).symm
  by_cases hn : h ≤ t.val + ((⟨3, ![1, w, 1]⟩ : Shape).rowMajor.symm i 1).val ∧ t.val + ((⟨3, ![1, w, 1]⟩ : Shape).rowMajor.symm i 1).val - h < 16384
  · rw [dif_pos hn, dif_pos]
    · refine congrArg x (funext fun a => Fin.ext ?_)
      match a with
      | ⟨0, _⟩ => show b.val * 1 + ((⟨3, ![1, w, 1]⟩ : Shape).rowMajor.symm i 0).val - 0 = b.val; omega
      | ⟨1, _⟩ => show t.val * 1 + ((⟨3, ![1, w, 1]⟩ : Shape).rowMajor.symm i 1).val - h = t.val + ((⟨3, ![1, w, 1]⟩ : Shape).rowMajor.symm i 1).val - h; omega
      | ⟨2, _⟩ => show c.val * 1 + ((⟨3, ![1, w, 1]⟩ : Shape).rowMajor.symm i 2).val - 0 = c.val; omega
    · intro a
      match a with
      | ⟨0, _⟩ => exact ⟨Nat.zero_le _, by show b.val * 1 + ((⟨3, ![1, w, 1]⟩ : Shape).rowMajor.symm i 0).val - 0 < 2; omega⟩
      | ⟨1, _⟩ => exact ⟨by show h ≤ t.val * 1 + ((⟨3, ![1, w, 1]⟩ : Shape).rowMajor.symm i 1).val; omega, by show t.val * 1 + ((⟨3, ![1, w, 1]⟩ : Shape).rowMajor.symm i 1).val - h < 16384; omega⟩
      | ⟨2, _⟩ => exact ⟨Nat.zero_le _, by show c.val * 1 + ((⟨3, ![1, w, 1]⟩ : Shape).rowMajor.symm i 2).val - 0 < 128; omega⟩
  · rw [dif_neg hn, dif_neg]
    intro hin
    have h1 := hin 1
    change h ≤ t.val * 1 + ((⟨3, ![1, w, 1]⟩ : Shape).rowMajor.symm i 1).val ∧ t.val * 1 + ((⟨3, ![1, w, 1]⟩ : Shape).rowMajor.symm i 1).val - h < 16384 at h1
    exact hn ⟨by omega, by omega⟩

/-- One element of padding on either side of the middle axis. -/
theorem padded_apply (x : FVec Ideal S2x16384x512 .f32) (v : FVec Ideal S_ .f32)
    (hp : S2x16384x512.Pads ![0, 1, 0] ![0, 1, 0] ![0, 0, 0] S2x16386x512) (hu : 0 < S_.numel) (hv : ∀ i, (v i : EReal) = 0)
    (b : Fin 2) (s : Fin 16386) (d : Fin 512) :
    (pad S2x16386x512 ![0, 1, 0] ![0, 1, 0] ![0, 0, 0] x v hp hu (ix3 b s d) : EReal)
      = if hs : 1 ≤ s.val ∧ s.val - 1 < 16384 then x (ix3 b ⟨s.val - 1, hs.2⟩ d) else 0 := by
  unfold pad
  by_cases hs : 1 ≤ s.val ∧ s.val - 1 < 16384
  · rw [dif_pos hs, dif_pos]
    · refine congrArg x (funext fun a => Fin.ext ?_)
      match a with
      | ⟨0, _⟩ => show (b.val - 0) / 1 = b.val; omega
      | ⟨1, _⟩ => show (s.val - 1) / 1 = s.val - 1; omega
      | ⟨2, _⟩ => show (d.val - 0) / 1 = d.val; omega
    · intro a
      match a with
      | ⟨0, _⟩ => exact ⟨Nat.zero_le _, Nat.mod_one _, by show (b.val - 0) / 1 < 2; omega⟩
      | ⟨1, _⟩ => exact ⟨hs.1, Nat.mod_one _, by show (s.val - 1) / 1 < 16384; omega⟩
      | ⟨2, _⟩ => exact ⟨Nat.zero_le _, Nat.mod_one _, by show (d.val - 0) / 1 < 512; omega⟩
  · rw [dif_neg hs, dif_neg]
    · exact hv _
    · intro hin
      have h1 := hin 1
      change 1 ≤ s.val ∧ (s.val - 1) % 1 = 0 ∧ (s.val - 1) / 1 < 16384 at h1
      exact hs ⟨h1.1, by omega⟩

end Cert.ReferenceIdeal.Hand

end
-- ==== Proof.Reference.lean ====
/-
The reference's projection, short convolution and gates, read at an index.
-/
module

public import proofs.«01_k».proof.Proof.Gen.ReferenceIdeal.Read
public import proofs.«01_k».proof.Proof.Spec
public import proofs.«01_k».proof.Proof.Window
public import Idealize.ShloMosaic.Lib.IdealHost

@[expose] public section

noncomputable section

namespace Cert.ReferenceIdeal.Hand

open Idealize.ShloMosaic Idealize.ShloMosaic.ValueIdx
open Cert.ReferenceIdeal.Read

theorem at1 {α : Type} {n0 : ℕ} (x : (⟨1, ![n0]⟩ : Shape).Idx → α) (i : (⟨1, ![n0]⟩ : Shape).Idx) (p : Fin n0)
    (h0 : (i 0).val = p.val) : x i = x (ix1 p) :=
  congrArg x (funext fun a => Fin.ext (match a with | ⟨0, _⟩ => h0))

theorem at2 {α : Type} {n0 n1 : ℕ} (x : (⟨2, ![n0, n1]⟩ : Shape).Idx → α) (i : (⟨2, ![n0, n1]⟩ : Shape).Idx) (p : Fin n0) (q : Fin n1)
    (h0 : (i 0).val = p.val) (h1 : (i 1).val = q.val) : x i = x (ix2 p q) :=
  congrArg x (funext fun a => Fin.ext (match a with | ⟨0, _⟩ => h0 | ⟨1, _⟩ => h1))

theorem at3 {α : Type} {n0 n1 n2 : ℕ} (x : (⟨3, ![n0, n1, n2]⟩ : Shape).Idx → α) (i : (⟨3, ![n0, n1, n2]⟩ : Shape).Idx)
    (p : Fin n0) (q : Fin n1) (r : Fin n2) (h0 : (i 0).val = p.val) (h1 : (i 1).val = q.val) (h2 : (i 2).val = r.val) : x i = x (ix3 p q r) :=
  congrArg x (funext fun a => Fin.ext (match a with | ⟨0, _⟩ => h0 | ⟨1, _⟩ => h1 | ⟨2, _⟩ => h2))

variable (x0 : FVec Ideal S2x16384x1024 .f32) (x1 : FVec Ideal S2x3x1024 .f32) (x2 : FVec Ideal S1024x3072 .f32)
  (x3 : FVec Ideal S3072 .f32) (x4 : FVec Ideal S3x1536 .f32) (x5 : FVec Ideal S1536 .f32)

theorem tok_apply (b : Fin 2) (t : Fin 16384) (k : Fin 1024) :
    val_main_v11 (F := Ideal) x0 x1 (ix3 b t k) = Cert.Spec.tok x0 x1 b t k := by
  rw [val_main_v11_apply, val_main_v8_apply, val_main_v7_apply, val_main_v6_apply, val_main_v5_apply, val_main_cst_apply,
    val_main_v4_apply, val_main_v3_apply, val_main_v2_apply, val_main_v10_apply, val_main_v9_apply, val_main_v1_apply, val_main_v0_apply]
  unfold Cert.Spec.tok
  refine congrArg₂ (fun a b : EReal => a + b) (congrArg₂ (fun a b : EReal => a * b) rfl
    (congrArg₂ (fun a b : EReal => a + b) Ideal.ofBits_one_f32 ?_)) ?_
  · refine at3 x1 _ b 1 k ?_ rfl ?_
    · show (b.val * 1024 + k.val) / 1024 = b.val; omega
    · show (b.val * 1024 + k.val) % 1024 = k.val; omega
  · refine at3 x1 _ b 0 k ?_ rfl ?_
    · show (b.val * 1024 + k.val) / 1024 = b.val; omega
    · show (b.val * 1024 + k.val) % 1024 = k.val; omega

theorem proj_apply (b : Fin 2) (t : Fin 16384) (n : Fin 3072) :
    val_main_v15 (F := Ideal) x0 x1 x2 x3 (ix3 b t n) = Cert.Spec.proj x0 x1 x2 x3 b t n := by
  rw [val_main_v15_apply, val_main_v12_apply, val_main_v14_apply, val_main_v13_apply]
  unfold Cert.Spec.proj
  refine congrArg₂ (fun a b : EReal => a + b) (Finset.sum_congr rfl fun k _ => congrArg₂ (fun a b : EReal => a * b) ?_ ?_) ?_
  · exact (at3 (val_main_v11 (F := Ideal) x0 x1) _ b t k rfl rfl rfl).trans (tok_apply x0 x1 b t k)
  · exact at2 x2 _ k n rfl rfl
  · exact at1 x3 _ n rfl

/-- The middle axis, padded, is the projection of the token before. -/
theorem near_apply (b : Fin 2) (s : Fin 16386) (d : Fin 512) :
    (val_main_v24 (F := Ideal) x0 x1 x2 x3 (ix3 b s d) : EReal) = Cert.Spec.near x0 x1 x2 x3 b (s.val + 15) ⟨1024 + d.val, by omega⟩ := by
  unfold val_main_v24
  refine (padded_apply _ _ _ _ (fun i => ?_) b s d).trans ?_
  · rw [val_main_call0_v0_apply, val_main_c_apply]
    show (((0#32 : BitVec 32).toInt : ℝ) : EReal) = 0
    simp
  · unfold Cert.Spec.near
    by_cases hs : 1 ≤ s.val ∧ s.val - 1 < 16384
    · rw [dif_pos hs, dif_pos (by omega : 16 ≤ s.val + 15 ∧ s.val + 15 < 16400), val_main_v18_apply]
      refine (at3 (val_main_v15 (F := Ideal) x0 x1 x2 x3) _ b ⟨s.val + 15 - 16, by omega⟩ ⟨1024 + d.val, by omega⟩ rfl ?_ rfl).trans
        (proj_apply x0 x1 x2 x3 _ _ _)
      show s.val - 1 = s.val + 15 - 16
      omega
    · rw [dif_neg hs, dif_neg (by omega)]

theorem conv_apply (b : Fin 2) (t : Fin 16384) (d : Fin 512) :
    val_main_v47 (F := Ideal) x0 x1 x2 x3 x4 x5 (ix3 b t d) = Cert.Spec.conv x0 x1 x2 x3 x4 x5 b t d := by
  rw [val_main_v47_apply, val_main_v40_apply, val_main_v33_apply, val_main_v30_apply, val_main_v39_apply, val_main_v46_apply,
    val_main_v25_apply, val_main_v34_apply, val_main_v41_apply, val_main_v32_apply, val_main_v31_apply, val_main_v23_apply,
    val_main_v29_apply, val_main_v28_apply, val_main_v27_apply, val_main_v26_apply, val_main_v22_apply,
    val_main_v38_apply, val_main_v37_apply, val_main_v36_apply, val_main_v35_apply, val_main_v22_apply,
    val_main_v45_apply, val_main_v44_apply, val_main_v43_apply, val_main_v42_apply, val_main_v22_apply]
  unfold Cert.Spec.conv
  have tap : ∀ (u : EReal) (w : EReal) (u' w' : EReal), u = u' → w = w' → u * w = w' * u' := fun u w u' w' h h' => by rw [h, h', mul_comm]
  refine congrArg₂ (fun a b : EReal => a + b) (congrArg₂ (fun a b : EReal => a + b) (congrArg₂ (fun a b : EReal => a + b) ?_
    (tap _ _ _ _ ?_ ?_)) (tap _ _ _ _ ?_ ?_)) (tap _ _ _ _ ?_ ?_)
  · exact at1 x5 _ ⟨1024 + d.val, by omega⟩ rfl
  · exact (at3 (val_main_v24 (F := Ideal) x0 x1 x2 x3) _ b ⟨t.val, by omega⟩ d rfl rfl rfl).trans (near_apply x0 x1 x2 x3 _ _ _)
  · exact at2 x4 _ 0 ⟨1024 + d.val, by omega⟩ rfl (by show 1024 + d.val % 512 = 1024 + d.val; omega)
  · refine (at3 (val_main_v24 (F := Ideal) x0 x1 x2 x3) _ b ⟨t.val + 1, by omega⟩ d rfl ?_ rfl).trans (near_apply x0 x1 x2 x3 _ _ _)
    show 1 + t.val = t.val + 1; omega
  · exact at2 x4 _ 1 ⟨1024 + d.val, by omega⟩ rfl (by show 1024 + d.val % 512 = 1024 + d.val; omega)
  · refine (at3 (val_main_v24 (F := Ideal) x0 x1 x2 x3) _ b ⟨t.val + 2, by omega⟩ d rfl ?_ rfl).trans (near_apply x0 x1 x2 x3 _ _ _)
    show 2 + t.val = t.val + 2; omega
  · exact at2 x4 _ 2 ⟨1024 + d.val, by omega⟩ rfl (by show 1024 + d.val % 512 = 1024 + d.val; omega)

theorem cols_apply (i : S2x16384x3072.Idx) (o : ℕ) (ho : o + 512 ≤ 3072) (b : Fin 2) (t : Fin 16384) (d : Fin 512)
    (h0 : (i 0).val = b.val) (h1 : (i 1).val = t.val) (h2 : (i 2).val = o + d.val) :
    val_main_v15 (F := Ideal) x0 x1 x2 x3 i = Cert.Spec.cols x0 x1 x2 x3 o ho b t d :=
  (at3 (val_main_v15 (F := Ideal) x0 x1 x2 x3) i b t ⟨o + d.val, by omega⟩ h0 h1 h2).trans (proj_apply x0 x1 x2 x3 b t _)

theorem third_apply (b : Fin 2) (t : Fin 16384) (d : Fin 512) :
    val_main_v55 (F := Ideal) x0 x1 x2 x3 x4 x5 (ix3 b t d) = Cert.Spec.third x0 x1 x2 x3 x4 x5 b t d := by
  rw [val_main_v55_apply, conv_apply, val_main_v54_apply, val_main_v53_apply, val_main_v52_apply, val_main_cst_1_apply, val_main_v51_apply,
    val_main_v50_apply, val_main_cst_0_apply, val_main_v49_apply, val_main_v48_apply, val_main_v19_apply,
    cols_apply x0 x1 x2 x3 _ 1536 (by decide) b t d rfl rfl rfl]
  unfold Cert.Spec.third Cert.Spec.silu
  refine congrArg₂ (fun a b : EReal => a * b) rfl (congrArg₂ (fun a b : EReal => a * b) rfl
    (congrArg₂ Ideal.div Ideal.ofBits_one_f32 (congrArg₂ (fun a b : EReal => a + b) Ideal.ofBits_one_f32 rfl)))

theorem gated_apply (b : Fin 2) (t : Fin 16384) (d : Fin 512) :
    val_main_v150 (F := Ideal) x0 x1 x2 x3 (ix3 b t d) = Cert.Spec.silu (Cert.Spec.cols x0 x1 x2 x3 2560 (by decide) b t d) := by
  rw [val_main_v150_apply, val_main_v149_apply, val_main_v148_apply, val_main_cst_23_apply, val_main_v147_apply,
    val_main_v146_apply, val_main_cst_22_apply, val_main_v145_apply, val_main_v144_apply, val_main_v21_apply,
    cols_apply x0 x1 x2 x3 _ 2560 (by decide) b t d rfl rfl rfl]
  unfold Cert.Spec.silu
  refine congrArg₂ (fun a b : EReal => a * b) rfl
    (congrArg₂ Ideal.div Ideal.ofBits_one_f32 (congrArg₂ (fun a b : EReal => a + b) Ideal.ofBits_one_f32 rfl))

end Cert.ReferenceIdeal.Hand

end
-- ==== Proof.Groups.lean ====
/-
The reference's pooling mixer, read at an index.
-/
module

public import proofs.«01_k».proof.Proof.Reference
public import Mathlib.Tactic.FinCases

@[expose] public section

noncomputable section

namespace Cert.ReferenceIdeal.Hand

open Idealize.ShloMosaic Idealize.ShloMosaic.ValueIdx
open Cert.ReferenceIdeal.Read Cert.ReferenceIdeal.Gen

variable (x0 : FVec Ideal S2x16384x1024 .f32) (x1 : FVec Ideal S2x3x1024 .f32) (x2 : FVec Ideal S1024x3072 .f32)
  (x3 : FVec Ideal S3072 .f32) (x6 : FVec Ideal S4x128x128 .f32) (x7 : FVec Ideal S512 .f32)

/-- Group `g`: the window's sum over its count, less the token, mixed. -/
theorem group_apply (g : Fin 4) (w h q : ℕ) (hw : w = 2 * 2 ^ g.val) (hh : h = 2 ^ g.val) (P C : FVec Ideal S2x16384x128 .f32)
    (Z : FVec Ideal S_ .f32) (E : FVec Ideal S128x128 .f32)
    (hr : S2x16384x128.ReduceWindows ![1, w, 1] ![1, 1, 1] ![0, h, 0] ![0, q, 0] S2x16384x128) (hu : 0 < S_.numel)
    (hZ : ∀ i, (Z i : EReal) = 0)
    (hP : ∀ b t c, P (ix3 b t c) = Cert.Spec.proj x0 x1 x2 x3 b t ⟨2048 + (128 * g.val + c.val), by omega⟩)
    (hC : ∀ b t c, C (ix3 b t c) = Cert.Spec.count h t.val) (hE : ∀ c e, E (ix2 c e) = x6 (ix3 g c e))
    (b : Fin 2) (t : Fin 16384) (e : Fin 128) :
    (∑ k : Fin 128, (Ideal.div (Host.reduceWindowAdd (F := Ideal) ![1, w, 1] ![1, 1, 1] ![0, h, 0] ![0, q, 0] P Z hr hu (ix3 b t k)) (C (ix3 b t k))
        - P (ix3 b t k)) * E (ix2 k e) : EReal)
      = Cert.Spec.mixed x0 x1 x2 x3 x6 b t g e := by
  have h8 : h ≤ 8 := by
    rw [hh]
    exact Nat.pow_le_pow_right (n := 2) (by decide) (by omega : g.val ≤ 3)
  unfold Cert.Spec.mixed
  refine Finset.sum_congr rfl fun k _ => ?_
  rw [hP, hC, hE, window_apply w h q P Z hr hu hZ
    (fun n => Cert.Spec.near x0 x1 x2 x3 b (t.val + 16 - h + n) ⟨2048 + (128 * g.val + k.val), by omega⟩) b t k fun n hn => ?_, hw]
  · unfold Cert.Spec.deviation Cert.Spec.windowSum
    rw [hh]
  · unfold Cert.Spec.near
    by_cases hs : h ≤ t.val + n ∧ t.val + n - h < 16384
    · rw [dif_pos hs, dif_pos (by omega : 16 ≤ t.val + 16 - h + n ∧ t.val + 16 - h + n < 16400), hP]
      refine congrArg (Cert.Spec.proj x0 x1 x2 x3 b · _) (Fin.ext ?_)
      show t.val + 16 - h + n - 16 = t.val + n - h
      omega
    · rw [dif_neg hs, dif_neg (by omega)]

/-- A block of 128 of the pooled columns. -/
theorem block_apply (g : Fin 4) (i : S2x16384x3072.Idx) (b : Fin 2) (t : Fin 16384) (c : Fin 128)
    (h0 : (i 0).val = b.val) (h1 : (i 1).val = t.val) (h2 : (i 2).val = 2048 + (128 * g.val + c.val)) :
    val_main_v15 (F := Ideal) x0 x1 x2 x3 i = Cert.Spec.proj x0 x1 x2 x3 b t ⟨2048 + (128 * g.val + c.val), by omega⟩ :=
  (at3 (val_main_v15 (F := Ideal) x0 x1 x2 x3) i b t ⟨_, by omega⟩ h0 h1 h2).trans (proj_apply x0 x1 x2 x3 b t _)

theorem flat128 (c e : Fin 128) : (c.val * 128 + e.val) / 128 % 128 = c.val ∧ (c.val * 128 + e.val) % 128 = e.val := by omega

theorem group0_apply (b : Fin 2) (t : Fin 16384) (e : Fin 128) :
    val_main_v76 (F := Ideal) x0 x1 x2 x3 x6 (ix3 b t e) = Cert.Spec.mixed x0 x1 x2 x3 x6 b t 0 e := by
  rw [val_main_v76_apply]
  refine (Finset.sum_congr rfl fun k _ => congrArg₂ (fun a b : EReal => a * b)
    (at3 (val_main_v73 (F := Ideal) x0 x1 x2 x3) _ b t k rfl rfl rfl) (at2 (val_main_v75 (F := Ideal) x6) _ k e rfl rfl)).trans
    (group_apply x0 x1 x2 x3 x6 0 2 1 0 rfl rfl (val_main_v56 (F := Ideal) x0 x1 x2 x3) (val_main_v71 (F := Ideal)) (val_main_v57 (F := Ideal))
      (val_main_v75 (F := Ideal) x6) reduceWindows_S2x16384x128_S2x16384x128_w1s1p0_0_w2s1p1_0_w1s1p0_0 h_S_
      (fun _ => Ideal.ofBits_zero_f32) (fun b t c => ?_) (fun b t c => ?_) (fun c e => ?_) b t e)
  · rw [val_main_v56_apply, val_main_v20_apply]
    exact block_apply x0 x1 x2 x3 0 _ b t c rfl rfl (by show 2048 + c.val = 2048 + (128 * 0 + c.val); omega)
  · rw [val_main_v71_apply, val_main_v70_apply]
    rfl
  · rw [val_main_v75_apply, val_main_v74_apply]
    exact at3 x6 _ 0 c e rfl (flat128 c e).1 (flat128 c e).2

theorem group1_apply (b : Fin 2) (t : Fin 16384) (e : Fin 128) :
    val_main_v97 (F := Ideal) x0 x1 x2 x3 x6 (ix3 b t e) = Cert.Spec.mixed x0 x1 x2 x3 x6 b t 1 e := by
  rw [val_main_v97_apply]
  refine (Finset.sum_congr rfl fun k _ => congrArg₂ (fun a b : EReal => a * b)
    (at3 (val_main_v94 (F := Ideal) x0 x1 x2 x3) _ b t k rfl rfl rfl) (at2 (val_main_v96 (F := Ideal) x6) _ k e rfl rfl)).trans
    (group_apply x0 x1 x2 x3 x6 1 4 2 1 rfl rfl (val_main_v77 (F := Ideal) x0 x1 x2 x3) (val_main_v92 (F := Ideal)) (val_main_v78 (F := Ideal))
      (val_main_v96 (F := Ideal) x6) reduceWindows_S2x16384x128_S2x16384x128_w1s1p0_0_w4s1p2_1_w1s1p0_0 h_S_
      (fun _ => Ideal.ofBits_zero_f32) (fun b t c => ?_) (fun b t c => ?_) (fun c e => ?_) b t e)
  · rw [val_main_v77_apply, val_main_v20_apply]
    exact block_apply x0 x1 x2 x3 1 _ b t c rfl rfl (by show 2048 + (128 + c.val) = 2048 + (128 * 1 + c.val); omega)
  · rw [val_main_v92_apply, val_main_v91_apply]
    rfl
  · rw [val_main_v96_apply, val_main_v95_apply]
    exact at3 x6 _ 1 c e rfl (flat128 c e).1 (flat128 c e).2

theorem group2_apply (b : Fin 2) (t : Fin 16384) (e : Fin 128) :
    val_main_v118 (F := Ideal) x0 x1 x2 x3 x6 (ix3 b t e) = Cert.Spec.mixed x0 x1 x2 x3 x6 b t 2 e := by
  rw [val_main_v118_apply]
  refine (Finset.sum_congr rfl fun k _ => congrArg₂ (fun a b : EReal => a * b)
    (at3 (val_main_v115 (F := Ideal) x0 x1 x2 x3) _ b t k rfl rfl rfl) (at2 (val_main_v117 (F := Ideal) x6) _ k e rfl rfl)).trans
    (group_apply x0 x1 x2 x3 x6 2 8 4 3 rfl rfl (val_main_v98 (F := Ideal) x0 x1 x2 x3) (val_main_v113 (F := Ideal)) (val_main_v99 (F := Ideal))
      (val_main_v117 (F := Ideal) x6) reduceWindows_S2x16384x128_S2x16384x128_w1s1p0_0_w8s1p4_3_w1s1p0_0 h_S_
      (fun _ => Ideal.ofBits_zero_f32) (fun b t c => ?_) (fun b t c => ?_) (fun c e => ?_) b t e)
  · rw [val_main_v98_apply, val_main_v20_apply]
    exact block_apply x0 x1 x2 x3 2 _ b t c rfl rfl (by show 2048 + (256 + c.val) = 2048 + (128 * 2 + c.val); omega)
  · rw [val_main_v113_apply, val_main_v112_apply]
    rfl
  · rw [val_main_v117_apply, val_main_v116_apply]
    exact at3 x6 _ 2 c e rfl (flat128 c e).1 (flat128 c e).2

theorem group3_apply (b : Fin 2) (t : Fin 16384) (e : Fin 128) :
    val_main_v139 (F := Ideal) x0 x1 x2 x3 x6 (ix3 b t e) = Cert.Spec.mixed x0 x1 x2 x3 x6 b t 3 e := by
  rw [val_main_v139_apply]
  refine (Finset.sum_congr rfl fun k _ => congrArg₂ (fun a b : EReal => a * b)
    (at3 (val_main_v136 (F := Ideal) x0 x1 x2 x3) _ b t k rfl rfl rfl) (at2 (val_main_v138 (F := Ideal) x6) _ k e rfl rfl)).trans
    (group_apply x0 x1 x2 x3 x6 3 16 8 7 rfl rfl (val_main_v119 (F := Ideal) x0 x1 x2 x3) (val_main_v134 (F := Ideal)) (val_main_v120 (F := Ideal))
      (val_main_v138 (F := Ideal) x6) reduceWindows_S2x16384x128_S2x16384x128_w1s1p0_0_w16s1p8_7_w1s1p0_0 h_S_
      (fun _ => Ideal.ofBits_zero_f32) (fun b t c => ?_) (fun b t c => ?_) (fun c e => ?_) b t e)
  · rw [val_main_v119_apply, val_main_v20_apply]
    exact block_apply x0 x1 x2 x3 3 _ b t c rfl rfl (by show 2048 + (384 + c.val) = 2048 + (128 * 3 + c.val); omega)
  · rw [val_main_v134_apply, val_main_v133_apply]
    rfl
  · rw [val_main_v138_apply, val_main_v137_apply]
    exact at3 x6 _ 3 c e rfl (flat128 c e).1 (flat128 c e).2

/-- The four groups side by side. -/
theorem side_apply (s : Fin 4 → FVec Ideal S2x16384x128 .f32)
    (b : Fin 2) (t : Fin 16384) (g : Fin 4) (e : Fin 128) :
    concatenate S2x16384x512 2 [⟨S2x16384x128, s 0⟩, ⟨S2x16384x128, s 1⟩, ⟨S2x16384x128, s 2⟩, ⟨S2x16384x128, s 3⟩]
        concatenates_S2x16384x128_S2x16384x128_S2x16384x128_S2x16384x128_S2x16384x512_d2 (ix3 b t ⟨128 * g.val + e.val, by omega⟩) = s g (ix3 b t e) := by
  refine concatenate_apply_piece (t := S2x16384x512) 2
    [⟨S2x16384x128, s 0⟩, ⟨S2x16384x128, s 1⟩, ⟨S2x16384x128, s 2⟩, ⟨S2x16384x128, s 3⟩] _ _
    g.val g.isLt S2x16384x128 (s g) ?_ rfl (128 * g.val) ?_ (ix3 b t e) (fun a ha => ?_) rfl
  · fin_cases g <;> rfl
  · fin_cases g <;> rfl
  · match a with
    | ⟨0, _⟩ => rfl
    | ⟨1, _⟩ => rfl
    | ⟨2, _⟩ => exact absurd rfl ha

theorem joined_apply (b : Fin 2) (t : Fin 16384) (d : Fin 512) :
    val_main_v140 (F := Ideal) x0 x1 x2 x3 x6 (ix3 b t d)
      = Cert.Spec.mixed x0 x1 x2 x3 x6 b t ⟨d.val / 128, by omega⟩ ⟨d.val % 128, by omega⟩ := by
  have hs : ∀ (g : Fin 4) (e : Fin 128),
      (![val_main_v76 (F := Ideal) x0 x1 x2 x3 x6, val_main_v97 (F := Ideal) x0 x1 x2 x3 x6, val_main_v118 (F := Ideal) x0 x1 x2 x3 x6,
        val_main_v139 (F := Ideal) x0 x1 x2 x3 x6] : Fin 4 → FVec Ideal S2x16384x128 .f32) g (ix3 b t e)
      = Cert.Spec.mixed x0 x1 x2 x3 x6 b t g e := by
    intro g e
    match g with
    | ⟨0, _⟩ => exact group0_apply x0 x1 x2 x3 x6 b t e
    | ⟨1, _⟩ => exact group1_apply x0 x1 x2 x3 x6 b t e
    | ⟨2, _⟩ => exact group2_apply x0 x1 x2 x3 x6 b t e
    | ⟨3, _⟩ => exact group3_apply x0 x1 x2 x3 x6 b t e
  have hd : d = ⟨128 * (d.val / 128) + d.val % 128, by omega⟩ := Fin.ext (by show d.val = 128 * (d.val / 128) + d.val % 128; omega)
  unfold val_main_v140
  refine (congrArg _ (congrArg (ix3 b t) hd)).trans ((side_apply
    ![val_main_v76 (F := Ideal) x0 x1 x2 x3 x6, val_main_v97 (F := Ideal) x0 x1 x2 x3 x6, val_main_v118 (F := Ideal) x0 x1 x2 x3 x6,
        val_main_v139 (F := Ideal) x0 x1 x2 x3 x6] b t ⟨d.val / 128, by omega⟩ ⟨d.val % 128, by omega⟩).trans (hs _ _))

theorem pooled_apply (b : Fin 2) (t : Fin 16384) (d : Fin 512) :
    val_main_v161 (F := Ideal) x0 x1 x2 x3 x6 x7 (ix3 b t d) = Cert.Spec.pooled x0 x1 x2 x3 x6 x7 b t d := by
  rw [val_main_v161_apply, val_main_v151_apply, val_main_v143_apply, joined_apply, gated_apply, val_main_v142_apply, val_main_v141_apply]
  unfold Cert.Spec.pooled
  refine congrArg₂ (fun a b : EReal => a * b) (congrArg₂ (fun a b : EReal => a * b) rfl ?_) rfl
  exact at1 x7 _ d rfl

end Cert.ReferenceIdeal.Hand

end
-- ==== Proof.Layout.lean ====
/-
The reference's four results are the streams of its arguments.
-/
module

public import proofs.«01_k».proof.Proof.Groups
public import Idealize.ShloMosaic.Lib.ValueIdxRank6

@[expose] public section

noncomputable section

namespace Cert.ReferenceIdeal.Hand

open Idealize.ShloMosaic Idealize.ShloMosaic.ValueIdx
open Cert.ReferenceIdeal.Read Cert.ReferenceIdeal.Gen

variable (x0 : FVec Ideal S2x16384x1024 .f32) (x1 : FVec Ideal S2x3x1024 .f32) (x2 : FVec Ideal S1024x3072 .f32)
  (x3 : FVec Ideal S3072 .f32) (x4 : FVec Ideal S3x1536 .f32) (x5 : FVec Ideal S1536 .f32)
  (x6 : FVec Ideal S4x128x128 .f32) (x7 : FVec Ideal S512 .f32)

/-- Split into blocks, the blocks' axes exchanged, and joined: a stream laid out. -/
theorem blocks_apply (x : FVec Ideal S2x16384x512 .f32) (f : Fin 2 → Fin 16384 → Fin 512 → EReal)
    (hx : ∀ b t d, x (ix3 b t d) = f b t d) :
    shapeCast S2x16x4x1024x128 (transpose S2x16x4x128x8x128 [0, 1, 4, 3, 2, 5]
      (shapeCast S2x16x8x128x4x128 x shapeCasts_S2x16384x512_S2x16x8x128x4x128)
      transposes_S2x16x8x128x4x128_S2x16x4x128x8x128_0_1_4_3_2_5) shapeCasts_S2x16x4x128x8x128_S2x16x4x1024x128
      = Cert.Spec.laid f := by
  funext y
  have h1 : (y 1).val < 16 := (y 1).isLt
  have h2 : (y 2).val < 4 := (y 2).isLt
  have h3 : (y 3).val < 1024 := (y 3).isLt
  have h4 : (y 4).val < 128 := (y 4).isLt
  let b : Fin 2 := ⟨(y 0).val, (y 0).isLt⟩
  let i : Fin 16 := ⟨(y 1).val, h1⟩
  let g : Fin 4 := ⟨(y 2).val, h2⟩
  let p : Fin 128 := ⟨(y 3).val / 8, by omega⟩
  let q : Fin 8 := ⟨(y 3).val % 8, by omega⟩
  let l : Fin 128 := ⟨(y 4).val, h4⟩
  refine (shapeCast_apply _ shapeCasts_S2x16x4x128x8x128_S2x16x4x1024x128 y (ix6 b i g p q l) ?_).trans
    ((transpose_apply [0, 1, 4, 3, 2, 5] _ transposes_S2x16x8x128x4x128_S2x16x4x128x8x128_0_1_4_3_2_5 (ix6 b i g p q l) (ix6 b i q p g l) ?_).trans
    ((shapeCast_apply x shapeCasts_S2x16384x512_S2x16x8x128x4x128 (ix6 b i q p g l)
      (ix3 b ⟨1024 * i.val + (128 * q.val + p.val), by omega⟩ ⟨128 * g.val + l.val, by omega⟩) ?_).trans (hx _ _ _)))
  · rw [Shape.rowMajor_val_six, Shape.rowMajor_val_five]
    show (((((y 0).val * 16 + (y 1).val) * 4 + (y 2).val) * 128 + (y 3).val / 8) * 8 + (y 3).val % 8) * 128 + (y 4).val
      = ((((y 0).val * 16 + (y 1).val) * 4 + (y 2).val) * 1024 + (y 3).val) * 128 + (y 4).val
    omega
  · intro a
    match a with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_three]
    show ((y 0).val * 16384 + (1024 * (y 1).val + (128 * ((y 3).val % 8) + (y 3).val / 8))) * 512 + (128 * (y 2).val + (y 4).val)
      = (((((y 0).val * 16 + (y 1).val) * 8 + (y 3).val % 8) * 128 + (y 3).val / 8) * 4 + (y 2).val) * 128 + (y 4).val
    omega

theorem first_eq : val_main_v154 (F := Ideal) x0 x1 x2 x3 = Cert.Spec.laid (Cert.Spec.cols x0 x1 x2 x3 0 (by decide)) := by
  unfold val_main_v154 val_main_v153 val_main_v152
  exact blocks_apply _ _ fun b t d => (val_main_v16_apply (F := Ideal) x0 x1 x2 x3 (ix3 b t d)).trans
    (cols_apply x0 x1 x2 x3 _ 0 (by decide) b t d rfl rfl (Nat.zero_add _).symm)

theorem second_eq : val_main_v157 (F := Ideal) x0 x1 x2 x3 = Cert.Spec.laid (Cert.Spec.cols x0 x1 x2 x3 512 (by decide)) := by
  unfold val_main_v157 val_main_v156 val_main_v155
  exact blocks_apply _ _ fun b t d => (val_main_v17_apply (F := Ideal) x0 x1 x2 x3 (ix3 b t d)).trans
    (cols_apply x0 x1 x2 x3 _ 512 (by decide) b t d rfl rfl rfl)

theorem third_eq : val_main_v160 (F := Ideal) x0 x1 x2 x3 x4 x5 = Cert.Spec.laid (Cert.Spec.third x0 x1 x2 x3 x4 x5) := by
  unfold val_main_v160 val_main_v159 val_main_v158
  exact blocks_apply _ _ fun b t d => third_apply x0 x1 x2 x3 x4 x5 b t d

theorem fourth_eq : val_main_v161 (F := Ideal) x0 x1 x2 x3 x6 x7 = Cert.Spec.plainly (Cert.Spec.pooled x0 x1 x2 x3 x6 x7) :=
  funext fun y => (at3 (val_main_v161 (F := Ideal) x0 x1 x2 x3 x6 x7) y ⟨(y 0).val, (y 0).isLt⟩ ⟨(y 1).val, (y 1).isLt⟩ ⟨(y 2).val, (y 2).isLt⟩ rfl rfl rfl).trans
    (pooled_apply x0 x1 x2 x3 x6 x7 _ _ _)

end Cert.ReferenceIdeal.Hand

end
-- ==== Proof.Agree.lean ====
/-
The kernel's results and the reference's are equal.
-/
module

public import proofs.«01_k».proof.Proof.Numbers
public import proofs.«01_k».proof.Proof.Bands
public import proofs.«01_k».proof.Proof.Results
public import proofs.«01_k».proof.Proof.Layout
public import proofs.«01_k».proof.Proof.Gen.KernelIdeal
public import proofs.«01_k».proof.Proof.Gen.Pre_finite

@[expose] public section

noncomputable section

namespace Cert.Proof

open Idealize.ShloMosaic Idealize.SL.Sem

/-- The reference's run: its results are the streams of its arguments. -/
theorem reference_results (m : (ℓ : Loc Cert.ReferenceIdeal.nD Cert.ReferenceIdeal.τ Cert.ReferenceIdeal.sig) → Buf (Elt Ideal) ℓ)
    (ρ : Dev Cert.ReferenceIdeal.nD → PrngReg)
    (x0 : Dev Cert.ReferenceIdeal.nD → FVec Ideal Cert.ReferenceIdeal.S2x16384x1024 .f32)
    (x1 : Dev Cert.ReferenceIdeal.nD → FVec Ideal Cert.ReferenceIdeal.S2x3x1024 .f32)
    (x2 : Dev Cert.ReferenceIdeal.nD → FVec Ideal Cert.ReferenceIdeal.S1024x3072 .f32)
    (x3 : Dev Cert.ReferenceIdeal.nD → FVec Ideal Cert.ReferenceIdeal.S3072 .f32)
    (x4 : Dev Cert.ReferenceIdeal.nD → FVec Ideal Cert.ReferenceIdeal.S3x1536 .f32)
    (x5 : Dev Cert.ReferenceIdeal.nD → FVec Ideal Cert.ReferenceIdeal.S1536 .f32)
    (x6 : Dev Cert.ReferenceIdeal.nD → FVec Ideal Cert.ReferenceIdeal.S4x128x128 .f32)
    (x7 : Dev Cert.ReferenceIdeal.nD → FVec Ideal Cert.ReferenceIdeal.S512 .f32)
    (h : ∀ c : Dev Cert.ReferenceIdeal.nD,
      m ((c.tc : Thread Cert.ReferenceIdeal.nD Cert.ReferenceIdeal.τ).loc Cert.ReferenceIdeal.main_arg0) = x0 c
      ∧ m ((c.tc : Thread Cert.ReferenceIdeal.nD Cert.ReferenceIdeal.τ).loc Cert.ReferenceIdeal.main_arg1) = x1 c
      ∧ m ((c.tc : Thread Cert.ReferenceIdeal.nD Cert.ReferenceIdeal.τ).loc Cert.ReferenceIdeal.main_arg2) = x2 c
      ∧ m ((c.tc : Thread Cert.ReferenceIdeal.nD Cert.ReferenceIdeal.τ).loc Cert.ReferenceIdeal.main_arg3) = x3 c
      ∧ m ((c.tc : Thread Cert.ReferenceIdeal.nD Cert.ReferenceIdeal.τ).loc Cert.ReferenceIdeal.main_arg4) = x4 c
      ∧ m ((c.tc : Thread Cert.ReferenceIdeal.nD Cert.ReferenceIdeal.τ).loc Cert.ReferenceIdeal.main_arg5) = x5 c
      ∧ m ((c.tc : Thread Cert.ReferenceIdeal.nD Cert.ReferenceIdeal.τ).loc Cert.ReferenceIdeal.main_arg6) = x6 c
      ∧ m ((c.tc : Thread Cert.ReferenceIdeal.nD Cert.ReferenceIdeal.τ).loc Cert.ReferenceIdeal.main_arg7) = x7 c) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v154)
        = Cert.Spec.laid (Cert.Spec.cols (x0 c) (x1 c) (x2 c) (x3 c) 0 (by decide))
      ∧ r.2.mem ((c.tc : Thread Cert.ReferenceIdeal.nD Cert.ReferenceIdeal.τ).loc Cert.ReferenceIdeal.main_v157)
        = Cert.Spec.laid (Cert.Spec.cols (x0 c) (x1 c) (x2 c) (x3 c) 512 (by decide))
      ∧ r.2.mem ((c.tc : Thread Cert.ReferenceIdeal.nD Cert.ReferenceIdeal.τ).loc Cert.ReferenceIdeal.main_v160)
        = Cert.Spec.laid (Cert.Spec.third (x0 c) (x1 c) (x2 c) (x3 c) (x4 c) (x5 c))
      ∧ r.2.mem ((c.tc : Thread Cert.ReferenceIdeal.nD Cert.ReferenceIdeal.τ).loc Cert.ReferenceIdeal.main_v161)
        = Cert.Spec.plainly (Cert.Spec.pooled (x0 c) (x1 c) (x2 c) (x3 c) (x6 c) (x7 c))) := by
  refine (θ_run Cert.ReferenceIdeal.defs _ _).mono (fun r k c => ?_) (Cert.ReferenceIdeal.Value.run m ρ)
  obtain ⟨k0, k1, k2, k3, -⟩ := k c
  obtain ⟨h0, h1, h2, h3, h4, h5, h6, h7⟩ := h c
  rw [← h0, ← h1, ← h2, ← h3, ← h4, ← h5, ← h6, ← h7]
  exact ⟨k0.trans ((Cert.ReferenceIdeal.Read.val_main_v154_eq (StableHlo.launchContents m c)).trans (Cert.ReferenceIdeal.Hand.first_eq _ _ _ _)),
    k1.trans ((Cert.ReferenceIdeal.Read.val_main_v157_eq (StableHlo.launchContents m c)).trans (Cert.ReferenceIdeal.Hand.second_eq _ _ _ _)),
    k2.trans ((Cert.ReferenceIdeal.Read.val_main_v160_eq (StableHlo.launchContents m c)).trans (Cert.ReferenceIdeal.Hand.third_eq _ _ _ _ _ _)),
    k3.trans ((Cert.ReferenceIdeal.Read.val_main_v161_eq (StableHlo.launchContents m c)).trans (Cert.ReferenceIdeal.Hand.fourth_eq _ _ _ _ _ _))⟩

theorem agree : Cert.algebraic_KernelIdeal_ReferenceIdeal_pre_finite := by
  intro m ρ m' ρ' hp he
  refine ⟨Cert.KernelIdeal.Hand.valV m, Cert.KernelIdeal.Hand.valX1 m, Cert.KernelIdeal.Hand.valX2 m, Cert.KernelIdeal.Hand.valY m, ?_, ?_⟩
  · refine (θ_run Cert.KernelIdeal.defs _ _).mono (fun r h c => ?_) (Idealize.ShloMosaic.θ_run_and
      (Cert.KernelIdeal.Hand.run_results m ρ (Cert.KernelIdeal.Hand.bands m) (gates m hp)) (Cert.KernelIdeal.Hand.run_main m ρ))
    obtain ⟨a, b, d, e⟩ := h.1 c
    exact ⟨a, b, d, e, h.2.1 c⟩
  · refine (θ_run Cert.ReferenceIdeal.defs _ _).mono (fun r h c => ?_) (Idealize.ShloMosaic.θ_run_and
      (reference_results m' ρ' (Cert.KernelIdeal.Hand.argX m) (Cert.KernelIdeal.Hand.argM m) (Cert.KernelIdeal.Hand.argW m)
        (Cert.KernelIdeal.Hand.argB m) (Cert.KernelIdeal.Hand.argCW m) (Cert.KernelIdeal.Hand.argCB m) (Cert.KernelIdeal.Hand.argPW m)
        (Cert.KernelIdeal.Hand.argPS m) he) (Cert.ReferenceIdeal.Value.run m' ρ'))
    obtain ⟨a, b, d, e⟩ := h.1 c
    exact ⟨a, b, d, e, (h.2 c).2.2.2.2⟩

end Cert.Proof

end
-- ==== Proof.OutRings.lean ====
/-
What the output projection's run is stated over: the arrays at the region's entry, the branch conditions in closed form, the
staging buffers, and the two rings of three slots the body streams its operands through.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The host's part before the call -/

/-- What each buffer holds when the call begins: the launch's contents after the host's four operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is those host operations and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes nothing to `main_arg0` before the call. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host writes nothing to `main_arg1` before the call. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host writes nothing to `main_arg2` before the call. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host writes nothing to `main_arg3` before the call. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host writes nothing to `main_arg4` before the call. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host writes nothing to `main_arg5` before the call. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host writes nothing to `main_arg6` before the call. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host writes nothing to `main_arg7` before the call. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read from its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, if the body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, if the body leaves the block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, if the body leaves the block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, if the body leaves the block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, if the body leaves the block in place. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, if the body leaves the block in place. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition under which the body sends for the first blocks. -/
abbrev cond0_0 (i : grid0.Coords) : Prop := (Scalar.cmpi .ne (Scalar.extui (Scalar.cmpi .eq (Scalar.addi (Scalar.muli (BitVec.ofNat 32 (i 0).val) 16#32) (BitVec.ofNat 32 (i 1).val)) 0#32)) 0#32) = 1#1
/-- It holds at the first point only. -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition under which the body sends for the block two points ahead. -/
abbrev cond0_1 (i : grid0.Coords) : Prop := k0_cond2 i = 1#1
/-- It holds at every point but the last two. -/
theorem hcond0_1 : ∀ t : Fin cfg0.N, cond0_1 (grid0.coords t) ↔ t.val < 30 :=
  (by decide +kernel : ∀ t : Fin grid0.N, cond0_1 (grid0.coords t) ↔ t.val < 30)

/-! ## The buffers -/

/-- Each window's buffer at point `t`; each is whole. -/
abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1024 .f32 := win0_6.stage (cfg0.slots t 6)
abbrev hs0_6 (t : Fin cfg0.N) : (ms0_6 t).IsWhole := hstage0_6 ((cfg0.slots t 6).cast nbuf0_6)
/-- The scratch buffers of the two rings. -/
abbrev scM0_0 : Memref sig .tc .vmem S3x1024x1024 .f32 := Memref.whole cc0_scratch0
abbrev scM0_1 : Memref sig .tc .vmem S3x4x1024x128 .f32 := Memref.whole cc0_scratch1
/-- The two operands that the body copies by hand. -/
abbrev hbM0_0 : Memref sig .tc .hbm S2x16384x1024 .f32 := Memref.whole main_arg0
abbrev hbM0_1 : Memref sig .tc .hbm S2x16x4x1024x128 .f32 := Memref.whole main_arg1
/-- The contents of a memref's buffer on core `c`, and the buffer held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The semaphores of the body's own copies. -/
abbrev osem0 : Fin 6 → SemLoc sig := fun j => (![SemLoc.dma 10, SemLoc.dma 11, SemLoc.dma 12, SemLoc.dma 13, SemLoc.dma 14, SemLoc.dma 15] : Fin 6 → SemLoc sig) j
theorem ownSemFacts0 : Pipeline.OwnSemFacts spec0 osem0 := by decide
/-- They are at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem0 [0, 1, 2, 3, 4, 5] (by decide) (by decide)]; rfl
/-- The two operands as references. -/
def H0 : Finset (Ref sig .tc) := {main_arg0, main_arg1}
theorem H0_sub : H0 ⊆ Pipeline.restRefs sig spec0 := by decide
/-- They are held at the launch's contents, one by one. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg1)) := by
  rw [BI.bigSep_eq_bigSepL_of_eq [main_arg0, main_arg1] (by decide) (by decide)]; rfl

/-- What the body is handed at the launch, part by part: the scratch buffers at some contents, the generator's register, the
    semaphores at zero and the two operands at the launch's contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg0) ∗ hbPt0 c hbM0_1 (V m c main_arg1))) := by
  rw [Pipeline.ΦD_eq, scopedRest0_eq, ownSems00_eq, hbmPts0_eq]; simp only [scM0_0, scM0_1, owns_whole]; try rfl

/-! ## Ring 0: `main_arg0` streamed through three slots, two blocks ahead, in 32 steps -/

instance : NeZero grid0.N := ⟨by rw [N_0]; decide⟩
theorem inb_slot0_0 (s : Fin 3) : ∀ a, (![s.val, 0, 0] : Fin 3 → Nat) a + S1x1024x1024.size a ≤ S3x1024x1024.size a := by
  have := s.isLt; intro a; fin_cases a <;> simp <;> omega
theorem inb_src0_0 (b : Fin 32) : ∀ a, (![(b.val / 16), 1024 * (b.val % 16), 0] : Fin 3 → Nat) a + S1x1024x1024.size a ≤ S2x16384x1024.size a := by
  have := b.isLt; intro a; fin_cases a <;> simp <;> omega
theorem inb_cell0_0 (s : Fin 3) : ∀ a, (![0, s.val] : Fin 2 → Nat) a + S1x1.size a ≤ S2x3.size a := by
  have := s.isLt; intro a; fin_cases a <;> simp <;> omega
/-- Slot `s` of the ring. -/
def rslot0_0 (s : Fin 3) : Memref sig .tc .vmem S1024x1024 .f32 :=
  (scM0_0.slice (Rect.unit (s := S3x1024x1024) ![s.val, 0, 0] S1x1024x1024.size (inb_slot0_0 s)) (fun _ => rfl)).squeeze S1024x1024 squeezes_S1x1024x1024_S1024x1024
/-- Block `b` of the operand, the one that step `b` waits for. -/
def srcB0_0 (b : Fin 32) : Memref sig .tc .hbm S1024x1024 .f32 :=
  (hbM0_0.slice (Rect.unit (s := S2x16384x1024) ![(b.val / 16), 1024 * (b.val % 16), 0] S1x1024x1024.size (inb_src0_0 b)) (fun _ => rfl)).squeeze S1024x1024 squeezes_S1x1024x1024_S1024x1024
/-- Slot `s`'s semaphore, and its number. -/
def cellA0_0 (s : Fin 3) : DmaSems sig S_ := (cc0_scratch2.slice (Rect.unit (s := S2x3) ![0, s.val] S1x1.size (inb_cell0_0 s))).squeeze S_ squeezes_S1x1_S_
abbrev cellR0_0 (s : Fin 3) : SemLoc sig := SemLoc.dma (cellA0_0 s).sem
theorem cellR0_0_0 : cellR0_0 0 = SemLoc.dma 10 := by decide
theorem cellR0_0_1 : cellR0_0 1 = SemLoc.dma 11 := by decide
theorem cellR0_0_2 : cellR0_0 2 = SemLoc.dma 12 := by decide

section Ring0_0
variable (c : Dev nD) (W : HbBuf0 (F := F) c hbM0_0)
/-- The operand is lent by shares, one for each slot, so that copies in flight may read the same elements. -/
abbrev qs0_0 (s : Fin 3) : PosShare TreeShare := if s.val = 0 then fullShare.left else if s.val = 1 then fullShare.right.left else fullShare.right.right
/-- A slot held at `f`; its semaphore at zero; block `b`'s elements in the slot's share of the operand, the rest of that share,
    and the share whole; the slot once block `b` has landed in it; and block `b` in flight into the slot. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 32) : sProp 𝕄 := (srcB0_0 b).view.loc (c : Thread nD τ) ↦[(srcB0_0 b).view.set]{qs0_0 s} W
/-- The rest of a slot's share beside block `b`. -/
def restP0_0 (s : Fin 3) (b : Fin 32) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 32) (f : HbBuf0 (F := F) c (rslot0_0 s)) : HbBuf0 (F := F) c (rslot0_0 s) :=
  (rslot0_0 s).view.writes (Elt F) f [⟨Rect.whole S1024x1024, ReadAs.same.apply ((srcB0_0 b).view.read (Elt F) W)⟩]
abbrev flightP0_0 (s : Fin 3) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- A slot not in flight has its share of the operand whole; one in flight, the rest of it. -/
abbrev slotW0_0 (s : Fin 3) (f : HbBuf0 (F := F) c (rslot0_0 s)) : sProp 𝕄 := iprop(slotP0_0 c s f ∗ wholeP0_0 c W s)
abbrev flightW0_0 (s : Fin 3) (b : Fin 32) (f : HbBuf0 (F := F) c (rslot0_0 s)) : sProp 𝕄 := iprop(flightP0_0 c W s b f ∗ restP0_0 c W s b)
abbrev noHome0_0 (b : Fin 32) : sProp 𝕄 := iprop(emp)
/-- The ring before its step `k`: every slot free before the first; from then on blocks `k` and `k + 1` in flight, while they
    exist, and the third slot free. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 10) 0 := congrArg (fun x => (semVal ((c : Thread nD τ), x) 0 : sProp 𝕄)) cellR0_0_0
omit [FloatOps F] in
theorem cellP0_0_1 : cellP0_0 (F := F) c 1 = semVal ((c : Thread nD τ), SemLoc.dma 11) 0 := congrArg (fun x => (semVal ((c : Thread nD τ), x) 0 : sProp 𝕄)) cellR0_0_1
omit [FloatOps F] in
theorem cellP0_0_2 : cellP0_0 (F := F) c 2 = semVal ((c : Thread nD τ), SemLoc.dma 12) 0 := congrArg (fun x => (semVal ((c : Thread nD τ), x) 0 : sProp 𝕄)) cellR0_0_2
end Ring0_0

/-! ### The slots are disjoint and cover the scratch buffer -/

abbrev slotSet0_0 (s : Fin 3) : Finset S3x1024x1024.Idx := (Rect.unit (s := S3x1024x1024) ![s.val, 0, 0] S1x1024x1024.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x1024x1024) (0 : Fin 3) 1 (fun s : Fin 3 => (![s.val, 0, 0] : Fin 3 → Nat)) S1x1024x1024.size inb_slot0_0 (fun s => by simp) rfl s s' h
theorem slots0_0_cover : Finset.univ.biUnion slotSet0_0 = Finset.univ :=
  Ring.lead_cover (s := S3x1024x1024) (0 : Fin 3) 1 (fun s : Fin 3 => (![s.val, 0, 0] : Fin 3 → Nat)) S1x1024x1024.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch0) ↦[slotSet0_0 s]{fullShare} f : sProp 𝕄) := by
  unfold slotP0_0; rw [slotSet0_0_eq]; rfl
/-- A slot's share of the operand, whole, is block `b`'s elements and the rest. -/
theorem src0_0_split (s : Fin 3) (b : Fin 32) : wholeP0_0 (F := F) c W s ⊣⊢ iprop(srcP0_0 c W s b ∗ restP0_0 c W s b) := by
  unfold restP0_0; exact pointsTo_split_subset (Finset.subset_univ _)
/-- The operand whole is its three shares. -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- The scratch buffer whole, at any contents, is its slots. -/
theorem slots0_0_in : iprop(∃ d, owns (c : Thread nD τ) scM0_0 fullShare d) ⊢ (iprop((∃ f, slotP0_0 (F := F) c 0 f) ∗ (∃ f, slotP0_0 (F := F) c 1 f) ∗ ∃ f, slotP0_0 (F := F) c 2 f) : sProp 𝕄) := by
  simp only [scM0_0, owns_whole]
  exact Ring.slots3_split (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- What the launch gives is the ring before its first step. -/
theorem ring0_0_in (c : Dev nD) :
    iprop((∃ d, owns (c : Thread nD τ) scM0_0 fullShare d) ∗ (semVal ((c : Thread nD τ), SemLoc.dma 10) 0 ∗ semVal ((c : Thread nD τ), SemLoc.dma 11) 0 ∗ semVal ((c : Thread nD τ), SemLoc.dma 12) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- After its last step the ring gives it back. -/
theorem ring0_0_out (c : Dev nD) :
    ringAt0_0 c (V m c main_arg0) 32
      ⊢ iprop((∃ d, owns (c : Thread nD τ) scM0_0 fullShare d) ∗ (semVal ((c : Thread nD τ), SemLoc.dma 10) 0 ∗ semVal ((c : Thread nD τ), SemLoc.dma 11) 0 ∗ semVal ((c : Thread nD τ), SemLoc.dma 12) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

/-! ### Ring 0's steps, and the body's operands at a point as the ring's slots, blocks and semaphores -/

section Canon0_0
omit [FloatOps F]
/-- At the first point the ring takes its first step. -/
theorem rstep0_0_A : ∀ t : Fin grid0.N, cond0_0 (grid0.coords t) → cond0_1 (grid0.coords t) → t.val = 0 ∧ (t.val + 1) = 1 := by decide +kernel
/-- At the middle points a block is still to be sent for. -/
theorem rstep0_0_B : ∀ t : Fin grid0.N, ¬cond0_0 (grid0.coords t) → cond0_1 (grid0.coords t) → 1 ≤ t.val ∧ t.val + 2 < 32 ∧ (t.val + 1) = t.val + 1 := by decide +kernel
/-- At the last points none is. -/
theorem rstep0_0_C : ∀ t : Fin grid0.N, ¬cond0_0 (grid0.coords t) → ¬cond0_1 (grid0.coords t) → 1 ≤ t.val ∧ 32 ≤ t.val + 2 ∧ t.val < 32 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) :
    (scM0_0.slice (Rect.unit (s := S3x1024x1024) ![0, 0, 0] S1x1024x1024.size inb_S3x1024x1024_S1x1024x1024_0_0_0) (fun _ => rfl)).squeeze S1024x1024 squeezes_S1x1024x1024_S1024x1024 = rslot0_0 (Ring.sl 3 t.val) :=
  congrArg (fun M : Memref sig .tc .vmem S1x1024x1024 .f32 => M.squeeze S1024x1024 squeezes_S1x1024x1024_S1024x1024) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0, 0] : Fin 2 → Nat) = ![0, (Ring.sl 3 t.val).val] := by decide +kernel
@[sl_canon] theorem canon0_0_2 (t : Fin grid0.N) (h0 : cond0_0 (grid0.coords t)) (h1 : cond0_1 (grid0.coords t)) :
    (cc0_scratch2.slice (Rect.unit (s := S2x3) ![0, 0] S1x1.size inb_S2x3_S1x1_0_0)).squeeze S_ squeezes_S1x1_S_ = cellA0_0 (Ring.sl 3 t.val) :=
  congrArg (fun A : DmaSems sig S1x1 => A.squeeze S_ squeezes_S1x1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0, 0] : Fin 3 → Nat) = ![((Ring.bk 32 t.val).val / 16), 1024 * ((Ring.bk 32 t.val).val % 16), 0] := by decide +kernel
@[sl_canon] theorem canon0_0_3 (t : Fin grid0.N) (h0 : cond0_0 (grid0.coords t)) (h1 : cond0_1 (grid0.coords t)) :
    (hbM0_0.slice (Rect.unit (s := S2x16384x1024) ![0, 0, 0] S1x1024x1024.size inb_S2x16384x1024_S1x1024x1024_0_0_0) (fun _ => rfl)).squeeze S1024x1024 squeezes_S1x1024x1024_S1024x1024 = srcB0_0 (Ring.bk 32 t.val) :=
  congrArg (fun M : Memref sig .tc .hbm S1x1024x1024 .f32 => M.squeeze S1024x1024 squeezes_S1x1024x1024_S1024x1024) (Memref.slice_unit_congr _ (coff0_0_3 t h0 h1) _ _ (fun _ => rfl) (fun _ => rfl))
set_option synthInstance.maxSize 4096 in
theorem coff0_0_4 : ∀ t : Fin grid0.N, cond0_0 (grid0.coords t) → cond0_1 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) :
    (scM0_0.slice (Rect.unit (s := S3x1024x1024) ![1, 0, 0] S1x1024x1024.size inb_S3x1024x1024_S1x1024x1024_1_0_0) (fun _ => rfl)).squeeze S1024x1024 squeezes_S1x1024x1024_S1024x1024 = rslot0_0 (Ring.sl 3 (t.val + 1)) :=
  congrArg (fun M : Memref sig .tc .vmem S1x1024x1024 .f32 => M.squeeze S1024x1024 squeezes_S1x1024x1024_S1024x1024) (Memref.slice_unit_congr _ (coff0_0_4 t h0 h1) _ _ (fun _ => rfl) (fun _ => rfl))
set_option synthInstance.maxSize 4096 in
theorem coff0_0_5 : ∀ t : Fin grid0.N, cond0_0 (grid0.coords t) → cond0_1 (grid0.coords t) → (![0, 1] : Fin 2 → Nat) = ![0, (Ring.sl 3 (t.val + 1)).val] := by decide +kernel
@[sl_canon] theorem canon0_0_5 (t : Fin grid0.N) (h0 : cond0_0 (grid0.coords t)) (h1 : cond0_1 (grid0.coords t)) :
    (cc0_scratch2.slice (Rect.unit (s := S2x3) ![0, 1] S1x1.size inb_S2x3_S1x1_0_1)).squeeze S_ squeezes_S1x1_S_ = cellA0_0 (Ring.sl 3 (t.val + 1)) :=
  congrArg (fun A : DmaSems sig S1x1 => A.squeeze S_ squeezes_S1x1_S_) (SemArray.slice_unit_congr _ (coff0_0_5 t h0 h1) _ _)
set_option synthInstance.maxSize 4096 in
theorem coff0_0_6 : ∀ t : Fin grid0.N, cond0_0 (grid0.coords t) → cond0_1 (grid0.coords t) → (![0, 1024, 0] : Fin 3 → Nat) = ![((Ring.bk 32 (t.val + 1)).val / 16), 1024 * ((Ring.bk 32 (t.val + 1)).val % 16), 0] := by decide +kernel
@[sl_canon] theorem canon0_0_6 (t : Fin grid0.N) (h0 : cond0_0 (grid0.coords t)) (h1 : cond0_1 (grid0.coords t)) :
    (hbM0_0.slice (Rect.unit (s := S2x16384x1024) ![0, 1024, 0] S1x1024x1024.size inb_S2x16384x1024_S1x1024x1024_0_1024_0) (fun _ => rfl)).squeeze S1024x1024 squeezes_S1x1024x1024_S1024x1024 = srcB0_0 (Ring.bk 32 (t.val + 1)) :=
  congrArg (fun M : Memref sig .tc .hbm S1x1024x1024 .f32 => M.squeeze S1024x1024 squeezes_S1x1024x1024_S1024x1024) (Memref.slice_unit_congr _ (coff0_0_6 t h0 h1) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_0.slice (Rect.unit (s := S3x1024x1024) (k0_off2 (grid0.coords t)) S1x1024x1024.size (k0_off2_inb (grid0.coords t) h1)) (fun _ => rfl)).squeeze S1024x1024 squeezes_S1x1024x1024_S1024x1024 = rslot0_0 (Ring.sl 3 (t.val + 2)) :=
  congrArg (fun M : Memref sig .tc .vmem S1x1024x1024 .f32 => M.squeeze S1024x1024 squeezes_S1x1024x1024_S1024x1024) (Memref.slice_unit_congr _ (coff0_0_7 t ) _ _ (fun _ => rfl) (fun _ => rfl))
set_option synthInstance.maxSize 4096 in
theorem coff0_0_8 : ∀ t : Fin grid0.N, k0_off1 (grid0.coords t) = ![0, (Ring.sl 3 (t.val + 2)).val] := by decide +kernel
@[sl_canon] theorem canon0_0_8 (t : Fin grid0.N) (h1 : cond0_1 (grid0.coords t)) :
    (cc0_scratch2.slice (Rect.unit (s := S2x3) (k0_off1 (grid0.coords t)) S1x1.size (k0_off1_inb (grid0.coords t) h1))).squeeze S_ squeezes_S1x1_S_ = cellA0_0 (Ring.sl 3 (t.val + 2)) :=
  congrArg (fun A : DmaSems sig S1x1 => A.squeeze S_ squeezes_S1x1_S_) (SemArray.slice_unit_congr _ (coff0_0_8 t ) _ _)
set_option synthInstance.maxSize 4096 in
theorem coff0_0_9 : ∀ t : Fin grid0.N, cond0_0 (grid0.coords t) → cond0_1 (grid0.coords t) → k0_off3 (grid0.coords t) = ![((Ring.bk 32 (t.val + 2)).val / 16), 1024 * ((Ring.bk 32 (t.val + 2)).val % 16), 0] := by decide +kernel
@[sl_canon] theorem canon0_0_9 (t : Fin grid0.N) (h0 : cond0_0 (grid0.coords t)) (h1 : cond0_1 (grid0.coords t)) :
    (hbM0_0.slice (Rect.unit (s := S2x16384x1024) (k0_off3 (grid0.coords t)) S1x1024x1024.size (k0_off3_inb (grid0.coords t) h1)) (fun _ => rfl)).squeeze S1024x1024 squeezes_S1x1024x1024_S1024x1024 = srcB0_0 (Ring.bk 32 (t.val + 2)) :=
  congrArg (fun M : Memref sig .tc .hbm S1x1024x1024 .f32 => M.squeeze S1024x1024 squeezes_S1x1024x1024_S1024x1024) (Memref.slice_unit_congr _ (coff0_0_9 t h0 h1) _ _ (fun _ => rfl) (fun _ => rfl))
set_option synthInstance.maxSize 4096 in
theorem coff0_0_10 : ∀ t : Fin grid0.N, k0_off8 (grid0.coords t) = ![(Ring.sl 3 t.val).val, 0, 0] := by decide +kernel
@[sl_canon] theorem canon0_0_10 (t : Fin grid0.N) :
    (scM0_0.slice (Rect.unit (s := S3x1024x1024) (k0_off8 (grid0.coords t)) S1x1024x1024.size (k0_off8_inb (grid0.coords t))) (fun _ => rfl)).squeeze S1024x1024 squeezes_S1x1024x1024_S1024x1024 = rslot0_0 (Ring.sl 3 t.val) :=
  congrArg (fun M : Memref sig .tc .vmem S1x1024x1024 .f32 => M.squeeze S1024x1024 squeezes_S1x1024x1024_S1024x1024) (Memref.slice_unit_congr _ (coff0_0_10 t ) _ _ (fun _ => rfl) (fun _ => rfl))
set_option synthInstance.maxSize 4096 in
theorem coff0_0_11 : ∀ t : Fin grid0.N, k0_off7 (grid0.coords t) = ![0, (Ring.sl 3 t.val).val] := by decide +kernel
@[sl_canon] theorem canon0_0_11 (t : Fin grid0.N) :
    (cc0_scratch2.slice (Rect.unit (s := S2x3) (k0_off7 (grid0.coords t)) S1x1.size (k0_off7_inb (grid0.coords t)))).squeeze S_ squeezes_S1x1_S_ = cellA0_0 (Ring.sl 3 t.val) :=
  congrArg (fun A : DmaSems sig S1x1 => A.squeeze S_ squeezes_S1x1_S_) (SemArray.slice_unit_congr _ (coff0_0_11 t ) _ _)
set_option synthInstance.maxSize 4096 in
theorem coff0_0_12 : ∀ t : Fin grid0.N, ¬cond0_0 (grid0.coords t) → cond0_1 (grid0.coords t) → k0_off3 (grid0.coords t) = ![((Ring.bk 32 (t.val + 2)).val / 16), 1024 * ((Ring.bk 32 (t.val + 2)).val % 16), 0] := by decide +kernel
@[sl_canon] theorem canon0_0_12 (t : Fin grid0.N) (h0 : ¬cond0_0 (grid0.coords t)) (h1 : cond0_1 (grid0.coords t)) :
    (hbM0_0.slice (Rect.unit (s := S2x16384x1024) (k0_off3 (grid0.coords t)) S1x1024x1024.size (k0_off3_inb (grid0.coords t) h1)) (fun _ => rfl)).squeeze S1024x1024 squeezes_S1x1024x1024_S1024x1024 = srcB0_0 (Ring.bk 32 (t.val + 2)) :=
  congrArg (fun M : Memref sig .tc .hbm S1x1024x1024 .f32 => M.squeeze S1024x1024 squeezes_S1x1024x1024_S1024x1024) (Memref.slice_unit_congr _ (coff0_0_12 t h0 h1) _ _ (fun _ => rfl) (fun _ => rfl))
set_option synthInstance.maxSize 4096 in
theorem coff0_0_13 : ∀ t : Fin grid0.N, k0_off13 (grid0.coords t) = ![(Ring.sl 3 t.val).val, 0, 0] := by decide +kernel
/-- The load at point `t` is from the slot whose block the point waited for. -/
instance (priority := high) closedOff0_0_13 (t : Fin grid0.N) : ClosedOff (k0_off13 (grid0.coords t)) := ⟨![(Ring.sl 3 t.val).val, 0, 0], coff0_0_13 t⟩
end Canon0_0

/-! ## Ring 1: `main_arg1` streamed through three slots, two blocks ahead, in 32 steps -/

theorem inb_slot0_1 (s : Fin 3) : ∀ a, (![s.val, 0, 0, 0] : Fin 4 → Nat) a + S1x4x1024x128.size a ≤ S3x4x1024x128.size a := by
  have := s.isLt; intro a; fin_cases a <;> simp <;> omega
theorem inb_src0_1 (b : Fin 32) : ∀ a, (![(b.val / 16), (b.val % 16), 0, 0, 0] : Fin 5 → Nat) a + S1x1x4x1024x128.size a ≤ S2x16x4x1024x128.size a := by
  have := b.isLt; intro a; fin_cases a <;> simp <;> omega
theorem inb_cell0_1 (s : Fin 3) : ∀ a, (![1, s.val] : Fin 2 → Nat) a + S1x1.size a ≤ S2x3.size a := by
  have := s.isLt; intro a; fin_cases a <;> simp <;> omega
/-- Slot `s` of the ring. -/
def rslot0_1 (s : Fin 3) : Memref sig .tc .vmem S4x1024x128 .f32 :=
  (scM0_1.slice (Rect.unit (s := S3x4x1024x128) ![s.val, 0, 0, 0] S1x4x1024x128.size (inb_slot0_1 s)) (fun _ => rfl)).squeeze S4x1024x128 squeezes_S1x4x1024x128_S4x1024x128
/-- Block `b` of the operand, the one that step `b` waits for. -/
def srcB0_1 (b : Fin 32) : Memref sig .tc .hbm S4x1024x128 .f32 :=
  (hbM0_1.slice (Rect.unit (s := S2x16x4x1024x128) ![(b.val / 16), (b.val % 16), 0, 0, 0] S1x1x4x1024x128.size (inb_src0_1 b)) (fun _ => rfl)).squeeze S4x1024x128 squeezes_S1x1x4x1024x128_S4x1024x128
/-- Slot `s`'s semaphore, and its number. -/
def cellA0_1 (s : Fin 3) : DmaSems sig S_ := (cc0_scratch2.slice (Rect.unit (s := S2x3) ![1, s.val] S1x1.size (inb_cell0_1 s))).squeeze S_ squeezes_S1x1_S_
abbrev cellR0_1 (s : Fin 3) : SemLoc sig := SemLoc.dma (cellA0_1 s).sem
theorem cellR0_1_0 : cellR0_1 0 = SemLoc.dma 13 := by decide
theorem cellR0_1_1 : cellR0_1 1 = SemLoc.dma 14 := by decide
theorem cellR0_1_2 : cellR0_1 2 = SemLoc.dma 15 := by decide

section Ring0_1
variable (c : Dev nD) (W : HbBuf0 (F := F) c hbM0_1)
/-- The operand is lent by shares, one for each slot, so that copies in flight may read the same elements. -/
abbrev qs0_1 (s : Fin 3) : PosShare TreeShare := if s.val = 0 then fullShare.left else if s.val = 1 then fullShare.right.left else fullShare.right.right
/-- A slot held at `f`; its semaphore at zero; block `b`'s elements in the slot's share of the operand, the rest of that share,
    and the share whole; the slot once block `b` has landed in it; and block `b` in flight into the slot. -/
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 32) : sProp 𝕄 := (srcB0_1 b).view.loc (c : Thread nD τ) ↦[(srcB0_1 b).view.set]{qs0_1 s} W
/-- The rest of a slot's share beside block `b`. -/
def restP0_1 (s : Fin 3) (b : Fin 32) : sProp 𝕄 := ((c : Thread nD τ).loc main_arg1) ↦[Finset.univ \ (srcB0_1 b).view.set]{qs0_1 s} W
abbrev wholeP0_1 (s : Fin 3) : sProp 𝕄 := ((c : Thread nD τ).loc main_arg1) ↦[Finset.univ]{qs0_1 s} W
abbrev landed0_1 (s : Fin 3) (b : Fin 32) (f : HbBuf0 (F := F) c (rslot0_1 s)) : HbBuf0 (F := F) c (rslot0_1 s) :=
  (rslot0_1 s).view.writes (Elt F) f [⟨Rect.whole S4x1024x128, ReadAs.same.apply ((srcB0_1 b).view.read (Elt F) W)⟩]
abbrev flightP0_1 (s : Fin 3) (b : Fin 32) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- A slot not in flight has its share of the operand whole; one in flight, the rest of it. -/
abbrev slotW0_1 (s : Fin 3) (f : HbBuf0 (F := F) c (rslot0_1 s)) : sProp 𝕄 := iprop(slotP0_1 c s f ∗ wholeP0_1 c W s)
abbrev flightW0_1 (s : Fin 3) (b : Fin 32) (f : HbBuf0 (F := F) c (rslot0_1 s)) : sProp 𝕄 := iprop(flightP0_1 c W s b f ∗ restP0_1 c W s b)
abbrev noHome0_1 (b : Fin 32) : sProp 𝕄 := iprop(emp)
/-- The ring before its step `k`: every slot free before the first; from then on blocks `k` and `k + 1` in flight, while they
    exist, and the third slot free. -/
def ringAt0_1 (k : ℕ) : sProp 𝕄 :=
  if k = 0 then Ring.At₀ (cellP0_1 c) (slotW0_1 c W) noHome0_1
  else Ring.At 2 (cellP0_1 c) (slotW0_1 c W) noHome0_1 (flightW0_1 c W) k
omit [FloatOps F] in
theorem cellP0_1_0 : cellP0_1 (F := F) c 0 = semVal ((c : Thread nD τ), SemLoc.dma 13) 0 := congrArg (fun x => (semVal ((c : Thread nD τ), x) 0 : sProp 𝕄)) cellR0_1_0
omit [FloatOps F] in
theorem cellP0_1_1 : cellP0_1 (F := F) c 1 = semVal ((c : Thread nD τ), SemLoc.dma 14) 0 := congrArg (fun x => (semVal ((c : Thread nD τ), x) 0 : sProp 𝕄)) cellR0_1_1
omit [FloatOps F] in
theorem cellP0_1_2 : cellP0_1 (F := F) c 2 = semVal ((c : Thread nD τ), SemLoc.dma 15) 0 := congrArg (fun x => (semVal ((c : Thread nD τ), x) 0 : sProp 𝕄)) cellR0_1_2
end Ring0_1

/-! ### The slots are disjoint and cover the scratch buffer -/

abbrev slotSet0_1 (s : Fin 3) : Finset S3x4x1024x128.Idx := (Rect.unit (s := S3x4x1024x128) ![s.val, 0, 0, 0] S1x4x1024x128.size (inb_slot0_1 s)).set
theorem slotSet0_1_eq (s : Fin 3) : (rslot0_1 s).view.set = slotSet0_1 s := by
  simp only [rslot0_1, Memref.view_squeeze, View.set_reshape]; exact View.set_slice_whole _ _
theorem slots0_1_disjoint (s s' : Fin 3) (h : s ≠ s') : Disjoint (slotSet0_1 s) (slotSet0_1 s') :=
  Ring.lead_disjoint (s := S3x4x1024x128) (0 : Fin 4) 1 (fun s : Fin 3 => (![s.val, 0, 0, 0] : Fin 4 → Nat)) S1x4x1024x128.size inb_slot0_1 (fun s => by simp) rfl s s' h
theorem slots0_1_cover : Finset.univ.biUnion slotSet0_1 = Finset.univ :=
  Ring.lead_cover (s := S3x4x1024x128) (0 : Fin 4) 1 (fun s : Fin 3 => (![s.val, 0, 0, 0] : Fin 4 → Nat)) S1x4x1024x128.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 3) (f) : slotP0_1 (F := F) c s f = (((c : Thread nD τ).loc cc0_scratch1) ↦[slotSet0_1 s]{fullShare} f : sProp 𝕄) := by
  unfold slotP0_1; rw [slotSet0_1_eq]; rfl
/-- A slot's share of the operand, whole, is block `b`'s elements and the rest. -/
theorem src0_1_split (s : Fin 3) (b : Fin 32) : wholeP0_1 (F := F) c W s ⊣⊢ iprop(srcP0_1 c W s b ∗ restP0_1 c W s b) := by
  unfold restP0_1; exact pointsTo_split_subset (Finset.subset_univ _)
/-- The operand whole is its three shares. -/
theorem whole0_1_split : (hbPt0 c hbM0_1 W : sProp 𝕄) ⊣⊢ iprop(wholeP0_1 c W 0 ∗ wholeP0_1 c W 1 ∗ wholeP0_1 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- The scratch buffer whole, at any contents, is its slots. -/
theorem slots0_1_in : iprop(∃ d, owns (c : Thread nD τ) scM0_1 fullShare d) ⊢ (iprop((∃ f, slotP0_1 (F := F) c 0 f) ∗ (∃ f, slotP0_1 (F := F) c 1 f) ∗ ∃ f, slotP0_1 (F := F) c 2 f) : sProp 𝕄) := by
  simp only [scM0_1, owns_whole]
  exact Ring.slots3_split (U := Pipeline.UD sig nD τ) (ℓ := (c : Thread nD τ).loc cc0_scratch1) (q := fullShare) slotSet0_1 slots0_1_disjoint slots0_1_cover
    (slotP0_1 c 0) (slotP0_1 c 1) (slotP0_1 c 2) (slotP0_1_eq c 0) (slotP0_1_eq c 1) (slotP0_1_eq c 2)
set_option maxHeartbeats 1000000 in
theorem slots0_1_out : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_1 slots0_1_disjoint slots0_1_cover
    (slotP0_1 c 0) (slotP0_1 c 1) (slotP0_1 c 2) (slotP0_1_eq c 0) (slotP0_1_eq c 1) (slotP0_1_eq c 2)
end InOut0_1

/-- What the launch gives is the ring before its first step. -/
theorem ring0_1_in (c : Dev nD) :
    iprop((∃ d, owns (c : Thread nD τ) scM0_1 fullShare d) ∗ (semVal ((c : Thread nD τ), SemLoc.dma 13) 0 ∗ semVal ((c : Thread nD τ), SemLoc.dma 14) 0 ∗ semVal ((c : Thread nD τ), SemLoc.dma 15) 0) ∗ hbPt0 c hbM0_1 (V m c main_arg1))
      ⊢ ringAt0_1 c (V m c main_arg1) 0 := by
  unfold ringAt0_1; rw [if_pos rfl]; unfold Ring.At₀
  rw [Ring.bigSep_fin3]
  simp only [Ring.free, cellP0_1_0, cellP0_1_1, cellP0_1_2]
  iintro ⟨HS, Hc, HW⟩
  iapply Ring.with_homes₀
  icases Hc with ⟨H0, H1, H2⟩
  ihave HS' := (slots0_1_in (F := F) c) $$ HS
  icases HS' with ⟨⟨%d0, HS0⟩, ⟨%d1, HS1⟩, ⟨%d2, HS2⟩⟩
  ihave HW' := (whole0_1_split (F := F) c (V m c main_arg1)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- After its last step the ring gives it back. -/
theorem ring0_1_out (c : Dev nD) :
    ringAt0_1 c (V m c main_arg1) 32
      ⊢ iprop((∃ d, owns (c : Thread nD τ) scM0_1 fullShare d) ∗ (semVal ((c : Thread nD τ), SemLoc.dma 13) 0 ∗ semVal ((c : Thread nD τ), SemLoc.dma 14) 0 ∗ semVal ((c : Thread nD τ), SemLoc.dma 15) 0) ∗ hbPt0 c hbM0_1 (V m c main_arg1)) := by
  unfold ringAt0_1; rw [if_neg (by decide)]
  iintro H
  ihave H' := (Ring.free3_of_At_last _ _ _ _) $$ H
  simp only [Ring.free, cellP0_1_0, cellP0_1_1, cellP0_1_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_1_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_1_split (F := F) c (V m c main_arg1)).2; isplitl [HW0]; · iexact HW0
    isplitl [HW1]; · iexact HW1
    iexact HW2

/-! ### Ring 1's steps, and the body's operands at a point as the ring's slots, blocks and semaphores -/

section Canon0_1
omit [FloatOps F]
/-- At the first point the ring takes its first step. -/
theorem rstep0_1_A : ∀ t : Fin grid0.N, cond0_0 (grid0.coords t) → cond0_1 (grid0.coords t) → t.val = 0 ∧ (t.val + 1) = 1 := by decide +kernel
/-- At the middle points a block is still to be sent for. -/
theorem rstep0_1_B : ∀ t : Fin grid0.N, ¬cond0_0 (grid0.coords t) → cond0_1 (grid0.coords t) → 1 ≤ t.val ∧ t.val + 2 < 32 ∧ (t.val + 1) = t.val + 1 := by decide +kernel
/-- At the last points none is. -/
theorem rstep0_1_C : ∀ t : Fin grid0.N, ¬cond0_0 (grid0.coords t) → ¬cond0_1 (grid0.coords t) → 1 ≤ t.val ∧ 32 ≤ t.val + 2 ∧ t.val < 32 ∧ (t.val + 1) = t.val + 1 := by decide +kernel
set_option synthInstance.maxSize 4096 in
theorem coff0_1_1 : ∀ t : Fin grid0.N, cond0_0 (grid0.coords t) → cond0_1 (grid0.coords t) → (![0, 0, 0, 0] : Fin 4 → Nat) = ![(Ring.sl 3 t.val).val, 0, 0, 0] := by decide +kernel
@[sl_canon] theorem canon0_1_1 (t : Fin grid0.N) (h0 : cond0_0 (grid0.coords t)) (h1 : cond0_1 (grid0.coords t)) :
    (scM0_1.slice (Rect.unit (s := S3x4x1024x128) ![0, 0, 0, 0] S1x4x1024x128.size inb_S3x4x1024x128_S1x4x1024x128_0_0_0_0) (fun _ => rfl)).squeeze S4x1024x128 squeezes_S1x4x1024x128_S4x1024x128 = rslot0_1 (Ring.sl 3 t.val) :=
  congrArg (fun M : Memref sig .tc .vmem S1x4x1024x128 .f32 => M.squeeze S4x1024x128 squeezes_S1x4x1024x128_S4x1024x128) (Memref.slice_unit_congr _ (coff0_1_1 t h0 h1) _ _ (fun _ => rfl) (fun _ => rfl))
set_option synthInstance.maxSize 4096 in
theorem coff0_1_2 : ∀ t : Fin grid0.N, cond0_0 (grid0.coords t) → cond0_1 (grid0.coords t) → (![1, 0] : Fin 2 → Nat) = ![1, (Ring.sl 3 t.val).val] := by decide +kernel
@[sl_canon] theorem canon0_1_2 (t : Fin grid0.N) (h0 : cond0_0 (grid0.coords t)) (h1 : cond0_1 (grid0.coords t)) :
    (cc0_scratch2.slice (Rect.unit (s := S2x3) ![1, 0] S1x1.size inb_S2x3_S1x1_1_0)).squeeze S_ squeezes_S1x1_S_ = cellA0_1 (Ring.sl 3 t.val) :=
  congrArg (fun A : DmaSems sig S1x1 => A.squeeze S_ squeezes_S1x1_S_) (SemArray.slice_unit_congr _ (coff0_1_2 t h0 h1) _ _)
set_option synthInstance.maxSize 4096 in
theorem coff0_1_3 : ∀ t : Fin grid0.N, cond0_0 (grid0.coords t) → cond0_1 (grid0.coords t) → (![0, 0, 0, 0, 0] : Fin 5 → Nat) = ![((Ring.bk 32 t.val).val / 16), ((Ring.bk 32 t.val).val % 16), 0, 0, 0] := by decide +kernel
@[sl_canon] theorem canon0_1_3 (t : Fin grid0.N) (h0 : cond0_0 (grid0.coords t)) (h1 : cond0_1 (grid0.coords t)) :
    (hbM0_1.slice (Rect.unit (s := S2x16x4x1024x128) ![0, 0, 0, 0, 0] S1x1x4x1024x128.size inb_S2x16x4x1024x128_S1x1x4x1024x128_0_0_0_0_0) (fun _ => rfl)).squeeze S4x1024x128 squeezes_S1x1x4x1024x128_S4x1024x128 = srcB0_1 (Ring.bk 32 t.val) :=
  congrArg (fun M : Memref sig .tc .hbm S1x1x4x1024x128 .f32 => M.squeeze S4x1024x128 squeezes_S1x1x4x1024x128_S4x1024x128) (Memref.slice_unit_congr _ (coff0_1_3 t h0 h1) _ _ (fun _ => rfl) (fun _ => rfl))
set_option synthInstance.maxSize 4096 in
theorem coff0_1_4 : ∀ t : Fin grid0.N, cond0_0 (grid0.coords t) → cond0_1 (grid0.coords t) → (![1, 0, 0, 0] : Fin 4 → Nat) = ![(Ring.sl 3 (t.val + 1)).val, 0, 0, 0] := by decide +kernel
@[sl_canon] theorem canon0_1_4 (t : Fin grid0.N) (h0 : cond0_0 (grid0.coords t)) (h1 : cond0_1 (grid0.coords t)) :
    (scM0_1.slice (Rect.unit (s := S3x4x1024x128) ![1, 0, 0, 0] S1x4x1024x128.size inb_S3x4x1024x128_S1x4x1024x128_1_0_0_0) (fun _ => rfl)).squeeze S4x1024x128 squeezes_S1x4x1024x128_S4x1024x128 = rslot0_1 (Ring.sl 3 (t.val + 1)) :=
  congrArg (fun M : Memref sig .tc .vmem S1x4x1024x128 .f32 => M.squeeze S4x1024x128 squeezes_S1x4x1024x128_S4x1024x128) (Memref.slice_unit_congr _ (coff0_1_4 t h0 h1) _ _ (fun _ => rfl) (fun _ => rfl))
set_option synthInstance.maxSize 4096 in
theorem coff0_1_5 : ∀ t : Fin grid0.N, cond0_0 (grid0.coords t) → cond0_1 (grid0.coords t) → (![1, 1] : Fin 2 → Nat) = ![1, (Ring.sl 3 (t.val + 1)).val] := by decide +kernel
@[sl_canon] theorem canon0_1_5 (t : Fin grid0.N) (h0 : cond0_0 (grid0.coords t)) (h1 : cond0_1 (grid0.coords t)) :
    (cc0_scratch2.slice (Rect.unit (s := S2x3) ![1, 1] S1x1.size inb_S2x3_S1x1_1_1)).squeeze S_ squeezes_S1x1_S_ = cellA0_1 (Ring.sl 3 (t.val + 1)) :=
  congrArg (fun A : DmaSems sig S1x1 => A.squeeze S_ squeezes_S1x1_S_) (SemArray.slice_unit_congr _ (coff0_1_5 t h0 h1) _ _)
set_option synthInstance.maxSize 4096 in
theorem coff0_1_6 : ∀ t : Fin grid0.N, cond0_0 (grid0.coords t) → cond0_1 (grid0.coords t) → (![0, 1, 0, 0, 0] : Fin 5 → Nat) = ![((Ring.bk 32 (t.val + 1)).val / 16), ((Ring.bk 32 (t.val + 1)).val % 16), 0, 0, 0] := by decide +kernel
@[sl_canon] theorem canon0_1_6 (t : Fin grid0.N) (h0 : cond0_0 (grid0.coords t)) (h1 : cond0_1 (grid0.coords t)) :
    (hbM0_1.slice (Rect.unit (s := S2x16x4x1024x128) ![0, 1, 0, 0, 0] S1x1x4x1024x128.size inb_S2x16x4x1024x128_S1x1x4x1024x128_0_1_0_0_0) (fun _ => rfl)).squeeze S4x1024x128 squeezes_S1x1x4x1024x128_S4x1024x128 = srcB0_1 (Ring.bk 32 (t.val + 1)) :=
  congrArg (fun M : Memref sig .tc .hbm S1x1x4x1024x128 .f32 => M.squeeze S4x1024x128 squeezes_S1x1x4x1024x128_S4x1024x128) (Memref.slice_unit_congr _ (coff0_1_6 t h0 h1) _ _ (fun _ => rfl) (fun _ => rfl))
set_option synthInstance.maxSize 4096 in
theorem coff0_1_7 : ∀ t : Fin grid0.N, k0_off5 (grid0.coords t) = ![(Ring.sl 3 (t.val + 2)).val, 0, 0, 0] := by decide +kernel
@[sl_canon] theorem canon0_1_7 (t : Fin grid0.N) (h1 : cond0_1 (grid0.coords t)) :
    (scM0_1.slice (Rect.unit (s := S3x4x1024x128) (k0_off5 (grid0.coords t)) S1x4x1024x128.size (k0_off5_inb (grid0.coords t) h1)) (fun _ => rfl)).squeeze S4x1024x128 squeezes_S1x4x1024x128_S4x1024x128 = rslot0_1 (Ring.sl 3 (t.val + 2)) :=
  congrArg (fun M : Memref sig .tc .vmem S1x4x1024x128 .f32 => M.squeeze S4x1024x128 squeezes_S1x4x1024x128_S4x1024x128) (Memref.slice_unit_congr _ (coff0_1_7 t ) _ _ (fun _ => rfl) (fun _ => rfl))
set_option synthInstance.maxSize 4096 in
theorem coff0_1_8 : ∀ t : Fin grid0.N, k0_off4 (grid0.coords t) = ![1, (Ring.sl 3 (t.val + 2)).val] := by decide +kernel
@[sl_canon] theorem canon0_1_8 (t : Fin grid0.N) (h1 : cond0_1 (grid0.coords t)) :
    (cc0_scratch2.slice (Rect.unit (s := S2x3) (k0_off4 (grid0.coords t)) S1x1.size (k0_off4_inb (grid0.coords t) h1))).squeeze S_ squeezes_S1x1_S_ = cellA0_1 (Ring.sl 3 (t.val + 2)) :=
  congrArg (fun A : DmaSems sig S1x1 => A.squeeze S_ squeezes_S1x1_S_) (SemArray.slice_unit_congr _ (coff0_1_8 t ) _ _)
set_option synthInstance.maxSize 4096 in
theorem coff0_1_9 : ∀ t : Fin grid0.N, cond0_0 (grid0.coords t) → cond0_1 (grid0.coords t) → k0_off6 (grid0.coords t) = ![((Ring.bk 32 (t.val + 2)).val / 16), ((Ring.bk 32 (t.val + 2)).val % 16), 0, 0, 0] := by decide +kernel
@[sl_canon] theorem canon0_1_9 (t : Fin grid0.N) (h0 : cond0_0 (grid0.coords t)) (h1 : cond0_1 (grid0.coords t)) :
    (hbM0_1.slice (Rect.unit (s := S2x16x4x1024x128) (k0_off6 (grid0.coords t)) S1x1x4x1024x128.size (k0_off6_inb (grid0.coords t) h1)) (fun _ => rfl)).squeeze S4x1024x128 squeezes_S1x1x4x1024x128_S4x1024x128 = srcB0_1 (Ring.bk 32 (t.val + 2)) :=
  congrArg (fun M : Memref sig .tc .hbm S1x1x4x1024x128 .f32 => M.squeeze S4x1024x128 squeezes_S1x1x4x1024x128_S4x1024x128) (Memref.slice_unit_congr _ (coff0_1_9 t h0 h1) _ _ (fun _ => rfl) (fun _ => rfl))
set_option synthInstance.maxSize 4096 in
theorem coff0_1_10 : ∀ t : Fin grid0.N, k0_off11 (grid0.coords t) = ![(Ring.sl 3 t.val).val, 0, 0, 0] := by decide +kernel
@[sl_canon] theorem canon0_1_10 (t : Fin grid0.N) :
    (scM0_1.slice (Rect.unit (s := S3x4x1024x128) (k0_off11 (grid0.coords t)) S1x4x1024x128.size (k0_off11_inb (grid0.coords t))) (fun _ => rfl)).squeeze S4x1024x128 squeezes_S1x4x1024x128_S4x1024x128 = rslot0_1 (Ring.sl 3 t.val) :=
  congrArg (fun M : Memref sig .tc .vmem S1x4x1024x128 .f32 => M.squeeze S4x1024x128 squeezes_S1x4x1024x128_S4x1024x128) (Memref.slice_unit_congr _ (coff0_1_10 t ) _ _ (fun _ => rfl) (fun _ => rfl))
set_option synthInstance.maxSize 4096 in
theorem coff0_1_11 : ∀ t : Fin grid0.N, k0_off10 (grid0.coords t) = ![1, (Ring.sl 3 t.val).val] := by decide +kernel
@[sl_canon] theorem canon0_1_11 (t : Fin grid0.N) :
    (cc0_scratch2.slice (Rect.unit (s := S2x3) (k0_off10 (grid0.coords t)) S1x1.size (k0_off10_inb (grid0.coords t)))).squeeze S_ squeezes_S1x1_S_ = cellA0_1 (Ring.sl 3 t.val) :=
  congrArg (fun A : DmaSems sig S1x1 => A.squeeze S_ squeezes_S1x1_S_) (SemArray.slice_unit_congr _ (coff0_1_11 t ) _ _)
set_option synthInstance.maxSize 4096 in
theorem coff0_1_12 : ∀ t : Fin grid0.N, ¬cond0_0 (grid0.coords t) → cond0_1 (grid0.coords t) → k0_off6 (grid0.coords t) = ![((Ring.bk 32 (t.val + 2)).val / 16), ((Ring.bk 32 (t.val + 2)).val % 16), 0, 0, 0] := by decide +kernel
@[sl_canon] theorem canon0_1_12 (t : Fin grid0.N) (h0 : ¬cond0_0 (grid0.coords t)) (h1 : cond0_1 (grid0.coords t)) :
    (hbM0_1.slice (Rect.unit (s := S2x16x4x1024x128) (k0_off6 (grid0.coords t)) S1x1x4x1024x128.size (k0_off6_inb (grid0.coords t) h1)) (fun _ => rfl)).squeeze S4x1024x128 squeezes_S1x1x4x1024x128_S4x1024x128 = srcB0_1 (Ring.bk 32 (t.val + 2)) :=
  congrArg (fun M : Memref sig .tc .hbm S1x1x4x1024x128 .f32 => M.squeeze S4x1024x128 squeezes_S1x1x4x1024x128_S4x1024x128) (Memref.slice_unit_congr _ (coff0_1_12 t h0 h1) _ _ (fun _ => rfl) (fun _ => rfl))
end Canon0_1

end Cert.Kernel2Ideal.Hand

end
-- ==== Proof.OutPass.lean ====
/-
What one pass of the output projection's body computes from its blocks, over any float values, and what its loads from the
two rings' slots read once a block has landed there.
-/
module

public import proofs.«01_k».proof.Proof.OutRings
public import Idealize.ShloMosaic.Lib.Pipeline.Value
public import Idealize.ShloMosaic.Lib.VecWindow

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open Cert.Kernel2Ideal.Gen

variable {F : FTy → Type} [FloatOps F]

/-- What loads of the Hyena block read, rectangle by rectangle. -/
abbrev BlockLoads (F : FTy → Type) := (r : LoadRect S4x1024x128) → r.shape.Idx → Elt F .f32

/-- The loads of the block's own contents. -/
abbrev blockLoads (y : Vec F S4x1024x128 .f32) : BlockLoads F := fun r i => y (r.idx i)

theorem inb_every8 (cb : Fin 4) (j : Fin 8) : ∀ a : Fin 3, S1x128x128.size a = 0 ∨
    (![cb.val, j.val, 0] : Fin 3 → ℕ) a + (![1, 8, 1] : Fin 3 → ℕ) a * (S1x128x128.size a - 1) < S4x1024x128.size a := by
  revert cb j; decide

/-- Every eighth row of plane `cb` from row `j`. -/
def every8 (cb : Fin 4) (j : Fin 8) : LoadRect S4x1024x128 := ⟨![cb.val, j.val, 0], S1x128x128.size, ![1, 8, 1], inb_every8 cb j⟩

/-- The residual sum, from what the body loads. -/
def mix (ly : BlockLoads F) (lx : Vec F S1x1024x1024 .f32) (yp : Vec F S1x1024x512 .bf16) (w : Vec F S1024x1024 .bf16)
    (gate : Vec F S1x1x1024 .f32) (b : Vec F S1x1024 .f32) : FVec F S1024x1024 .f32 :=
  k0_pay17 (k0_pay2 (ly (every8 0 0)) (ly (every8 1 0)) (ly (every8 2 0)) (ly (every8 3 0)))
    (k0_pay5 (k0_pay3 (ly (every8 0 1))) (k0_pay4 (ly (every8 1 1))) (ly (every8 2 1)) (ly (every8 3 1)))
    (k0_pay6 (ly (every8 0 2)) (ly (every8 1 2)) (ly (every8 2 2)) (ly (every8 3 2)))
    (k0_pay7 (ly (every8 0 3)) (ly (every8 1 3)) (ly (every8 2 3)) (ly (every8 3 3)))
    (k0_pay10 (k0_pay8 (ly (every8 0 4))) (k0_pay9 (ly (every8 1 4))) (ly (every8 2 4)) (ly (every8 3 4)))
    (k0_pay14 (k0_pay11 (ly (every8 0 5))) (k0_pay12 (ly (every8 1 5))) (k0_pay13 (ly (every8 2 5))) (ly (every8 3 5)))
    (k0_pay15 (ly (every8 0 6)) (ly (every8 1 6)) (ly (every8 2 6)) (ly (every8 3 6)))
    (k0_pay16 (ly (every8 0 7))) (ly (every8 1 7)) (ly (every8 2 7)) (ly (every8 3 7)) yp w lx gate b

/-- Rows `128 j …` and columns `128 cb …` of the Hyena branch's output: every eighth row of a plane. -/
def blockPiece (ly : BlockLoads F) (cb : Fin 4) (j : Fin 8) : FVec F S128x128 .f32 :=
  shapeCast S128x128 (show Vec F S1x128x128 .f32 from ly (every8 cb j)) shapeCasts_S1x128x128_S128x128

/-- Rows `128 j …` of it. -/
def blockRows (ly : BlockLoads F) (j : Fin 8) : FVec F S128x512 .f32 :=
  concatenate S128x512 1 [⟨S128x128, blockPiece ly 0 j⟩, ⟨S128x128, blockPiece ly 1 j⟩, ⟨S128x128, blockPiece ly 2 j⟩, ⟨S128x128, blockPiece ly 3 j⟩]
    concatenates_S128x128_S128x128_S128x128_S128x128_S128x512_d1

/-- The Hyena branch's output, rows in time order. -/
def gathered (ly : BlockLoads F) : FVec F S1024x512 .f32 :=
  concatenate S1024x512 0 [⟨S128x512, blockRows ly 0⟩, ⟨S128x512, blockRows ly 1⟩, ⟨S128x512, blockRows ly 2⟩, ⟨S128x512, blockRows ly 3⟩,
    ⟨S128x512, blockRows ly 4⟩, ⟨S128x512, blockRows ly 5⟩, ⟨S128x512, blockRows ly 6⟩, ⟨S128x512, blockRows ly 7⟩]
    concatenates_S128x512_S128x512_S128x512_S128x512_S128x512_S128x512_S128x512_S128x512_S1024x512_d0

/-- The two branches' outputs side by side. -/
def joined (ly : BlockLoads F) (yp : Vec F S1x1024x512 .bf16) : FVec F S1024x1024 .bf16 :=
  concatenate S1024x1024 1 [⟨S1024x512, truncf .bf16 (gathered ly) bitsLt_bf16_f32⟩,
    ⟨S1024x512, (shapeCast S1024x512 yp shapeCasts_S1x1024x512_S1024x512 : FVec F S1024x512 .bf16)⟩] concatenates_S1024x512_S1024x512_S1024x1024_d1

/-- The residual sum from the blocks. -/
def summed (ly : BlockLoads F) (x : FVec F S1024x1024 .f32) (yp : Vec F S1x1024x512 .bf16) (w : Vec F S1024x1024 .bf16)
    (gate : Vec F S1x1x1024 .f32) (b : Vec F S1x1024 .f32) : FVec F S1024x1024 .f32 :=
  addf (mulf (broadcast S1024x1024 (Scalar.ofBits .f32 0x3F9837F0#32)) x)
    (mulf (broadcastTo S1024x1024 (shapeCast S1x1024 gate shapeCasts_S1x1x1024_S1x1024) broadcasts_S1x1024_S1024x1024)
      (addf (matmul dot_S1024x1024_S1024x1024_S1024x1024_1_0_0_1_n_n none (joined ly yp) (shapeCast S1024x1024 w shapeCasts_S1024x1024_S1024x1024)
          (constant S1024x1024 .f32 0x00000000#32))
        (broadcastTo S1024x1024 (shapeCast S1x1024 b shapeCasts_S1x1024_S1x1024) broadcasts_S1x1024_S1024x1024)))

theorem mix_eq (ly : BlockLoads F) (lx : Vec F S1x1024x1024 .f32) (yp : Vec F S1x1024x512 .bf16) (w : Vec F S1024x1024 .bf16)
    (gate : Vec F S1x1x1024 .f32) (b : Vec F S1x1024 .f32) :
    mix ly lx yp w gate b = summed ly (shapeCast S1024x1024 lx shapeCasts_S1x1024x1024_S1024x1024) yp w gate b := rfl

/-- The modulation's third row, the gate. -/
abbrev gateRow (md : Vec F S1x3x1024 .f32) : Vec F S1x1x1024 .f32 := fun i =>
  md ((Rect.unit (s := S1x3x1024) ![0, 2, 0] S1x1x1024.size inb_S1x3x1024_S1x1x1024_0_2_0).toLoadRect.idx i)

/-- The output block of a pass, from its blocks. -/
def passOut (y : Vec F S4x1024x128 .f32) (x : FVec F S1024x1024 .f32) (yp : Vec F S1x1024x512 .bf16) (md : Vec F S1x3x1024 .f32)
    (w : Vec F S1024x1024 .bf16) (b g bt : Vec F S1x1024 .f32) : Vec F S1x1024x1024 .f32 :=
  k0_pay1 (summed (blockLoads y) x yp w (gateRow md) b) g bt

/-! ## What the slots hold -/

/-- The block of `x` that point `t` waits for. -/
abbrev blockX (c : Dev nD) (t : Fin cfg0.N) (W : HbBuf0 (F := F) c hbM0_0) : FVec F S1024x1024 .f32 :=
  View.read (Elt F) (srcB0_0 (Ring.bk 32 t.val)).view W
/-- The block of the Hyena branch's output that point `t` waits for. -/
abbrev blockY (c : Dev nD) (t : Fin cfg0.N) (W : HbBuf0 (F := F) c hbM0_1) : Vec F S4x1024x128 .f32 :=
  View.read (Elt F) (srcB0_1 (Ring.bk 32 t.val)).view W

/-- A pass's loads from the first ring's slot. -/
abbrev slotX (c : Dev nD) (t : Fin cfg0.N) (W : HbBuf0 (F := F) c hbM0_0) : Vec F S1x1024x1024 .f32 :=
  View.readAt (Elt F) scM0_0.view (Rect.unit (s := S3x1024x1024) (k0_off13 (grid0.coords t)) S1x1024x1024.size (k0_off13_inb (grid0.coords t))).toLoadRect
    ((rslot0_0 (Ring.sl 3 t.val)).view.writes (Elt F) (rslot0_0 (Ring.sl 3 t.val)).view.junk
      [⟨Rect.whole S1024x1024, ReadAs.same.apply (blockX c t W)⟩])
/-- A pass's loads from the second ring's slot. -/
abbrev slotY (c : Dev nD) (t : Fin cfg0.N) (W : HbBuf0 (F := F) c hbM0_1) : BlockLoads F := fun r =>
  (rslot0_1 (Ring.sl 3 t.val)).view.readCov [⟨Rect.whole S4x1024x128, ReadAs.same.apply (blockY c t W)⟩] r

theorem readCov_landed {sp : Space} {s : Shape} {e : EltTy} (v : View sig .tc sp s e) (x : s.Idx → Elt F e) :
    (fun r : LoadRect s => v.readCov [⟨Rect.whole s, x⟩] r) = fun r i => x (r.idx i) :=
  funext fun r => funext fun i => congrFun (View.read_writes_whole v v.junk x) (r.idx i)

theorem slotY_eq (c : Dev nD) (t : Fin cfg0.N) (W : HbBuf0 (F := F) c hbM0_1) : slotY c t W = blockLoads (blockY c t W) :=
  readCov_landed (rslot0_1 (Ring.sl 3 t.val)).view (blockY c t W)

theorem slot_read (s : Fin 3) (f : (rslot0_0 s).view.ty.Contents (Elt F)) :
    (rslot0_0 s).view.read (Elt F) f = shapeCast S1024x1024
      (View.readAt (Elt F) scM0_0.view (Rect.unit (s := S3x1024x1024) ![s.val, 0, 0] S1x1024x1024.size (inb_slot0_0 s)).toLoadRect f)
      shapeCasts_S1x1024x1024_S1024x1024 :=
  Memref.read_squeeze_slice scM0_0 (Rect.unit (s := S3x1024x1024) ![s.val, 0, 0] S1x1024x1024.size (inb_slot0_0 s)) (fun _ => rfl)
    squeezes_S1x1024x1024_S1024x1024 shapeCasts_S1x1024x1024_S1024x1024 f

theorem landed_read {sp : Space} {s : Shape} {e : EltTy} (v : View sig .tc sp s e) (x : s.Idx → Elt F e) :
    v.read (Elt F) (v.writes (Elt F) v.junk [⟨Rect.whole s, x⟩]) = x :=
  View.read_writes_whole v v.junk x

theorem slotX_read (s : Fin 3) (g : (rslot0_0 s).view.ty.Contents (Elt F)) (x : FVec F S1024x1024 .f32)
    (hg : (rslot0_0 s).view.read (Elt F) g = x) {off : Fin 3 → ℕ} (h : off = ![s.val, 0, 0])
    (inb : ∀ a, off a + S1x1024x1024.size a ≤ S3x1024x1024.size a) :
    shapeCast S1024x1024 (View.readAt (Elt F) scM0_0.view (Rect.unit (s := S3x1024x1024) off S1x1024x1024.size inb).toLoadRect g)
      shapeCasts_S1x1024x1024_S1024x1024 = x := by
  subst h
  exact (slot_read s g).symm.trans hg

theorem slotX_eq (c : Dev nD) (t : Fin cfg0.N) (W : HbBuf0 (F := F) c hbM0_0) :
    shapeCast S1024x1024 (slotX c t W) shapeCasts_S1x1024x1024_S1024x1024 = blockX c t W :=
  slotX_read (Ring.sl 3 t.val) _ (blockX c t W) (landed_read (rslot0_0 (Ring.sl 3 t.val)).view (blockX c t W)) (coff0_0_13 t) _

/-- A pass's store, from its loads. -/
theorem pass_eq (c : Dev nD) (t : Fin cfg0.N) {arg4 : Memref sig .tc .vmem S1x1024x512 .bf16} (harg4 : arg4.IsWhole) {arg5 : Memref sig .tc .vmem S1x3x1024 .f32} (harg5 : arg5.IsWhole) {arg6 : Memref sig .tc .vmem S1024x1024 .bf16} (harg6 : arg6.IsWhole) {arg7 : Memref sig .tc .vmem S1x1024 .f32} (harg7 : arg7.IsWhole) {arg8 : Memref sig .tc .vmem S1x1024 .f32} (harg8 : arg8.IsWhole) {arg9 : Memref sig .tc .vmem S1x1024 .f32} (harg9 : arg9.IsWhole)
    (x0 : Vec F S1x1024x512 .bf16) (x1 : Vec F S1x3x1024 .f32) (x2 : Vec F S1024x1024 .bf16) (x3 : Vec F S1x1024 .f32) (x4 : Vec F S1x1024 .f32) (x5 : Vec F S1x1024 .f32) (fh0 : HbBuf0 (F := F) c hbM0_0) (fh1 : HbBuf0 (F := F) c hbM0_1) :
    k0_pay1 (mix (slotY c t fh1) (slotX c t fh0)
        (View.readAt (Elt F) arg4.view (Rect.unit ![0, 0, 0] S1x1024x512.size inb_S1x1024x512_S1x1024x512_0_0_0).toLoadRect (harg4.unread x0))
        (View.readAt (Elt F) arg6.view (Rect.unit ![0, 0] S1024x1024.size inb_S1024x1024_S1024x1024_0_0).toLoadRect (harg6.unread x2))
        (View.readAt (Elt F) arg5.view (Rect.unit (s := S1x3x1024) ![0, 2, 0] S1x1x1024.size inb_S1x3x1024_S1x1x1024_0_2_0).toLoadRect (harg5.unread x1))
        (View.readAt (Elt F) arg7.view (Rect.unit ![0, 0] S1x1024.size inb_S1x1024_S1x1024_0_0).toLoadRect (harg7.unread x3)))
      (View.readAt (Elt F) arg8.view (Rect.unit ![0, 0] S1x1024.size inb_S1x1024_S1x1024_0_0).toLoadRect (harg8.unread x4))
      (View.readAt (Elt F) arg9.view (Rect.unit ![0, 0] S1x1024.size inb_S1x1024_S1x1024_0_0).toLoadRect (harg9.unread x5))
      = passOut (blockY c t fh1) (blockX c t fh0) x0 x1 x2 x3 x4 x5 := by
  rw [mix_eq, slotY_eq, slotX_eq, View.readAt_full, View.readAt_full, View.readAt_full, View.readAt_full, View.readAt_full,
    harg4.read_unread, harg6.read_unread, harg7.read_unread, harg8.read_unread, harg9.read_unread]
  unfold passOut
  rw [show View.readAt (Elt F) arg5.view (Rect.unit (s := S1x3x1024) ![0, 2, 0] S1x1x1024.size inb_S1x3x1024_S1x1x1024_0_2_0).toLoadRect (harg5.unread x1) = gateRow x1 from
    funext fun i => congrFun (harg5.read_unread x1) _]

end Cert.Kernel2Ideal.Hand

end
-- ==== Proof.OutFirst.lean ====
/-
One pass of the output projection's body at the first point, where the first three blocks of each operand are sent for.
-/
module

public import proofs.«01_k».proof.Proof.OutPass

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1472000 in
/-- The body at the first point: both conditions hold. From the inputs' blocks and the two rings it
    leaves the inputs as they were and the output block as `passOut` of what it loaded. -/
theorem passFirst (c : Dev nD) (t : Fin cfg0.N) (arg4 : Memref sig .tc .vmem S1x1024x512 .bf16) (harg4 : arg4.IsWhole) (arg5 : Memref sig .tc .vmem S1x3x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (hc0 : cond0_0 (grid0.coords t)) (hc1 : cond0_1 (grid0.coords t))
    (x0 : Vec F S1x1024x512 .bf16) (x1 : Vec F S1x3x1024 .f32) (x2 : Vec F S1024x1024 .bf16) (x3 : Vec F S1x1024 .f32) (x4 : Vec F S1x1024 .f32) (x5 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 3 t.val) ∗ Ring.free (cellP0_1 c) (slotW0_1 c fh1) (Ring.sl 3 (t.val + 1)) ∗ Ring.free (cellP0_1 c) (slotW0_1 c fh1) (Ring.sl 3 (t.val + 2)) ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (passOut (blockY c t fh1) (blockX c t fh0) x0 x1 x2 x3 x4 x5) ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ Ring.inflight (flightW0_1 c fh1) (Ring.sl 3 (t.val + 1)) (Ring.bk 32 (t.val + 1)) ∗ Ring.inflight (flightW0_1 c fh1) (Ring.sl 3 (t.val + 2)) (Ring.bk 32 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_out_proj_deepnorm (grid0.coords t) (Memref.whole main_arg0) (Memref.isWhole_whole _) (Memref.whole main_arg1) (Memref.isWhole_whole _) arg4 harg4 arg5 harg5 arg6 harg6 arg7 harg7 arg8 harg8 arg9 harg9 arg10 harg10 scM0_0 (Memref.isWhole_whole _) scM0_1 (Memref.isWhole_whole _) cc0_scratch2) K := by
    intro W K
    haveI : Fact (cond0_0 (grid0.coords t)) := ⟨hc0⟩
    haveI : Fact (cond0_1 (grid0.coords t)) := ⟨hc1⟩
    simp only [cc0_out_proj_deepnorm_eq_skeleton]; unfold cc0_out_proj_deepnorm_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton]
    have hcanon0 := canon0_0_1 t hc0 hc1
    have hcanon1 := canon0_0_2 t hc0 hc1
    have hcanon2 := canon0_0_3 t hc0 hc1
    have hcanon3 := canon0_0_4 t hc0 hc1
    have hcanon4 := canon0_0_5 t hc0 hc1
    have hcanon5 := canon0_0_6 t hc0 hc1
    have hcanon6 := canon0_1_1 t hc0 hc1
    have hcanon7 := canon0_1_2 t hc0 hc1
    have hcanon8 := canon0_1_3 t hc0 hc1
    have hcanon9 := canon0_1_4 t hc0 hc1
    have hcanon10 := canon0_1_5 t hc0 hc1
    have hcanon11 := canon0_1_6 t hc0 hc1
    have hcanon12 := canon0_1_10 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, HW, Hk⟩
    ihave Hsp0_0_0 := (src0_0_split c fh0 (Ring.sl 3 t.val) (Ring.bk 32 t.val)).1 $$ Hw0_0_0
    icases Hsp0_0_0 with ⟨Hh0_0_0, Hr0_0_0⟩
    ihave Hsp0_0_1 := (src0_0_split c fh0 (Ring.sl 3 (t.val + 1)) (Ring.bk 32 (t.val + 1))).1 $$ Hw0_0_1
    icases Hsp0_0_1 with ⟨Hh0_0_1, Hr0_0_1⟩
    ihave Hsp0_0_2 := (src0_0_split c fh0 (Ring.sl 3 (t.val + 2)) (Ring.bk 32 (t.val + 2))).1 $$ Hw0_0_2
    icases Hsp0_0_2 with ⟨Hh0_0_2, Hr0_0_2⟩
    ihave Hsp0_1_0 := (src0_1_split c fh1 (Ring.sl 3 t.val) (Ring.bk 32 t.val)).1 $$ Hw0_1_0
    icases Hsp0_1_0 with ⟨Hh0_1_0, Hr0_1_0⟩
    ihave Hsp0_1_1 := (src0_1_split c fh1 (Ring.sl 3 (t.val + 1)) (Ring.bk 32 (t.val + 1))).1 $$ Hw0_1_1
    icases Hsp0_1_1 with ⟨Hh0_1_1, Hr0_1_1⟩
    ihave Hsp0_1_2 := (src0_1_split c fh1 (Ring.sl 3 (t.val + 2)) (Ring.bk 32 (t.val + 2))).1 $$ Hw0_1_2
    icases Hsp0_1_2 with ⟨Hh0_1_2, Hr0_1_2⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      exact (View.read_writes_full _ _ _ _ []).trans (pass_eq c t harg4 harg5 harg6 harg7 harg8 harg9 x0 x1 x2 x3 x4 x5 fh0 fh1)
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 32 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 3 t.val) (Ring.bk 32 t.val)).2; isplitl [Hh0_1_0]; · iexact Hh0_1_0
      iexact Hr0_1_0
    iexists _; iexact HW

end Cert.Kernel2Ideal.Hand

end
-- ==== Proof.OutMiddle.lean ====
/-
One pass of the output projection's body at a point in the middle: the block two ahead is sent for.
-/
module

public import proofs.«01_k».proof.Proof.OutPass

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1336000 in
/-- The body at the middle points: only the second condition holds. From the inputs' blocks and the two rings it
    leaves the inputs as they were and the output block as `passOut` of what it loaded. -/
theorem passMiddle (c : Dev nD) (t : Fin cfg0.N) (arg4 : Memref sig .tc .vmem S1x1024x512 .bf16) (harg4 : arg4.IsWhole) (arg5 : Memref sig .tc .vmem S1x3x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (hc0 : ¬cond0_0 (grid0.coords t)) (hc1 : cond0_1 (grid0.coords t))
    (x0 : Vec F S1x1024x512 .bf16) (x1 : Vec F S1x3x1024 .f32) (x2 : Vec F S1024x1024 .bf16) (x3 : Vec F S1x1024 .f32) (x4 : Vec F S1x1024 .f32) (x5 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ Ring.inflight (flightW0_0 c fh0) (Ring.sl 3 t.val) (Ring.bk 32 t.val) ∗ Ring.inflight (flightW0_0 c fh0) (Ring.sl 3 (t.val + 1)) (Ring.bk 32 (t.val + 1)) ∗ Ring.free (cellP0_0 c) (slotW0_0 c fh0) (Ring.sl 3 (t.val + 2)) ∗ Ring.inflight (flightW0_1 c fh1) (Ring.sl 3 t.val) (Ring.bk 32 t.val) ∗ Ring.inflight (flightW0_1 c fh1) (Ring.sl 3 (t.val + 1)) (Ring.bk 32 (t.val + 1)) ∗ Ring.free (cellP0_1 c) (slotW0_1 c fh1) (Ring.sl 3 (t.val + 2)) ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (passOut (blockY c t fh1) (blockX c t fh0) x0 x1 x2 x3 x4 x5) ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ Ring.inflight (flightW0_1 c fh1) (Ring.sl 3 (t.val + 1)) (Ring.bk 32 (t.val + 1)) ∗ Ring.inflight (flightW0_1 c fh1) (Ring.sl 3 (t.val + 2)) (Ring.bk 32 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_out_proj_deepnorm (grid0.coords t) (Memref.whole main_arg0) (Memref.isWhole_whole _) (Memref.whole main_arg1) (Memref.isWhole_whole _) arg4 harg4 arg5 harg5 arg6 harg6 arg7 harg7 arg8 harg8 arg9 harg9 arg10 harg10 scM0_0 (Memref.isWhole_whole _) scM0_1 (Memref.isWhole_whole _) cc0_scratch2) K := by
    intro W K
    haveI : Fact (¬cond0_0 (grid0.coords t)) := ⟨hc0⟩
    haveI : Fact (cond0_1 (grid0.coords t)) := ⟨hc1⟩
    simp only [cc0_out_proj_deepnorm_eq_skeleton]; unfold cc0_out_proj_deepnorm_skel
    simp only [k0_part4_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton]
    have hcanon0 := canon0_1_10 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
    ihave Hsp0_0_2 := (src0_0_split c fh0 (Ring.sl 3 (t.val + 2)) (Ring.bk 32 (t.val + 2))).1 $$ Hw0_0_2
    icases Hsp0_0_2 with ⟨Hh0_0_2, Hr0_0_2⟩
    ihave Hsp0_1_2 := (src0_1_split c fh1 (Ring.sl 3 (t.val + 2)) (Ring.bk 32 (t.val + 2))).1 $$ Hw0_1_2
    icases Hsp0_1_2 with ⟨Hh0_1_2, Hr0_1_2⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      exact (View.read_writes_full _ _ _ _ []).trans (pass_eq c t harg4 harg5 harg6 harg7 harg8 harg9 x0 x1 x2 x3 x4 x5 fh0 fh1)
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 32 t.val)).2; isplitl [Hf0_1_0_src]; · iexact Hf0_1_0_src
      iexact Hrf0_1_0
    iexists _; iexact HW

end Cert.Kernel2Ideal.Hand

end
-- ==== Proof.OutLast.lean ====
/-
One pass of the output projection's body at the last two points, where no block is sent for.
-/
module

public import proofs.«01_k».proof.Proof.OutPass

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the last points: neither condition holds. From the inputs' blocks and the two rings it
    leaves the inputs as they were and the output block as `passOut` of what it loaded. -/
theorem passLast (c : Dev nD) (t : Fin cfg0.N) (arg4 : Memref sig .tc .vmem S1x1024x512 .bf16) (harg4 : arg4.IsWhole) (arg5 : Memref sig .tc .vmem S1x3x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (hc0 : ¬cond0_0 (grid0.coords t)) (hc1 : ¬cond0_1 (grid0.coords t))
    (x0 : Vec F S1x1024x512 .bf16) (x1 : Vec F S1x3x1024 .f32) (x2 : Vec F S1024x1024 .bf16) (x3 : Vec F S1x1024 .f32) (x4 : Vec F S1x1024 .f32) (x5 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ Ring.inflight (flightW0_0 c fh0) (Ring.sl 3 t.val) (Ring.bk 32 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 3 t.val) (Ring.bk 32 t.val) ∗ Ring.slotAt 2 (cellP0_1 c) (slotW0_1 c fh1) (flightW0_1 c fh1) t.val 1 ∗ Ring.free (cellP0_1 c) (slotW0_1 c fh1) (Ring.sl 3 (t.val + 2)) ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (passOut (blockY c t fh1) (blockX c t fh0) x0 x1 x2 x3 x4 x5) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.slotAt 2 (cellP0_1 c) (slotW0_1 c fh1) (flightW0_1 c fh1) t.val 1 ∗ Ring.free (cellP0_1 c) (slotW0_1 c fh1) (Ring.sl 3 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_out_proj_deepnorm (grid0.coords t) (Memref.whole main_arg0) (Memref.isWhole_whole _) (Memref.whole main_arg1) (Memref.isWhole_whole _) arg4 harg4 arg5 harg5 arg6 harg6 arg7 harg7 arg8 harg8 arg9 harg9 arg10 harg10 scM0_0 (Memref.isWhole_whole _) scM0_1 (Memref.isWhole_whole _) cc0_scratch2) K := by
    intro W K
    haveI : Fact (¬cond0_0 (grid0.coords t)) := ⟨hc0⟩
    haveI : Fact (¬cond0_1 (grid0.coords t)) := ⟨hc1⟩
    simp only [cc0_out_proj_deepnorm_eq_skeleton]; unfold cc0_out_proj_deepnorm_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    have hcanon0 := canon0_1_10 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, HW, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      exact (View.read_writes_full _ _ _ _ []).trans (pass_eq c t harg4 harg5 harg6 harg7 harg8 harg9 x0 x1 x2 x3 x4 x5 fh0 fh1)
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 32 t.val)).2; isplitl [Hf0_1_0_src]; · iexact Hf0_1_0_src
      iexact Hrf0_1_0
    iexists _; iexact HW

end Cert.Kernel2Ideal.Hand

end
-- ==== Proof.OutRun.lean ====
/-
The output projection's run: the buffers hold, point by point, what the body is shown to leave, the rings pass on
from point to point, and the program ends with its arguments as they were and the output array as written.
-/
module

public import proofs.«01_k».proof.Proof.OutFirst
public import proofs.«01_k».proof.Proof.OutMiddle
public import proofs.«01_k».proof.Proof.OutLast
public import Idealize.ShloMosaic.Lib.Claim

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output block that point `t` leaves. -/
def outBlock (c : Dev nD) (t : Fin cfg0.N) : Vec F S1x1024x1024 .f32 :=
  passOut (blockY c t (V m c main_arg1)) (blockX c t (V m c main_arg0)) (iblk m c 0 t) (iblk m c 1 t) (iblk m c 2 t)
    (iblk m c 3 t) (iblk m c 4 t) (iblk m c 5 t)

/-- What is held between the points: the generator's register and the two rings. -/
def between (c : Dev nD) (k : ℕ) : sProp 𝕄 :=
  iprop((∃ r, prngReg c r) ∗ ringAt0_0 c (V m c main_arg0) k ∗ ringAt0_1 c (V m c main_arg1) k)

/-- The launch's data: each input's buffer holds its block, the output's what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := between m c t.val
  q _ := fullShare
  owed _ := 0

theorem A_eq (c : Dev nD) (w : Fin cfg0.W) : (dats m 0 c).A w = V m c (Pipeline.arrRef spec0 w) := by dsimp only [dats]

theorem between_castSucc (c : Dev nD) (t : Fin cfg0.N) : (dats m 0 c).Φ t.castSucc = between m c t.val := by
  dsimp only [dats]; simp only [Fin.coe_castSucc]
theorem between_succ (c : Dev nD) (t : Fin cfg0.N) : (dats m 0 c).Φ t.succ = between m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- What a point's body is given, the windows one by one. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it gives back. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at the first point. -/
theorem triple_first (c : Dev nD) (t : Fin cfg0.N) (h0 : cond0_0 (grid0.coords t)) (h1 : cond0_1 (grid0.coords t)) :
    given m c t ⊢ wp frame (wpE (defs₀ (F := F)) Variants.none c none) Set.univ (bodyAt0 t) (fun _ => returned m c t) := by
  unfold given returned bodyAt0
  simp only [before_0, before_1, before_2, before_3, before_4, before_5]
  rw [after_0, after_1, after_2, after_3, after_4, after_5, after_6, between_castSucc m c t, between_succ m c t]
  unfold Dat.owesAt Pipeline.owesWithin
  rw [show (dats m 0 c).owed t.castSucc = 0 from rfl, show (dats m 0 c).owed t.succ = 0 from rfl]
  unfold between ringAt0_0 ringAt0_1 outBlock
  have hN : t.val < 32 := lt_of_lt_of_eq t.isLt (show cfg0.N = 32 from N_0)
  obtain ⟨k0, -⟩ := rstep0_0_A t h0 h1
  obtain ⟨k1, -⟩ := rstep0_1_A t h0 h1
  rw [if_pos k0, if_neg (show ¬t.val + 1 = 0 by omega)]
  rw [Ring.At₀_eq3' _ _ _ t.val k0 (by decide : 3 ≤ 32), Ring.At3_one' _ _ _ _ t.val k0 (by decide : 3 ≤ 32)]
  rw [if_pos k1, if_neg (show ¬t.val + 1 = 0 by omega)]
  rw [Ring.At₀_eq3' _ _ _ t.val k1 (by decide : 3 ≤ 32), Ring.At3_one' _ _ _ _ t.val k1 (by decide : 3 ≤ 32)]
  iintro ⟨⟨Hg, ⟨-, Ha0, Ha1, Ha2⟩, ⟨-, Hb0, Hb1, Hb2⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((passFirst c t _ _ _ _ _ _ _ _ _ _ _ _ _ _ h0 h1 (iblk m c 0 t) (iblk m c 1 t) (iblk m c 2 t) (iblk m c 3 t) (iblk m c 4 t)
    (iblk m c 5 t) (V m c main_arg0) (V m c main_arg1)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, Ha0, Ha1, Ha2, Hb0, Hb1, Hb2, ⟨%W', HW⟩⟩
  isplitl [Hg Ha0 Ha1 Ha2 Hb0 Hb1 Hb2]
  · isplitl [Hg]; · iexact Hg
    isplitl [Ha0 Ha1 Ha2]
    · iapply (Ring.with_homes (Idealize.SL.BI.Entails.refl _))
      isplitl [Ha0]; · iexact Ha0
      isplitl [Ha1]; · iexact Ha1
      iexact Ha2
    iapply (Ring.with_homes (Idealize.SL.BI.Entails.refl _))
    isplitl [Hb0]; · iexact Hb0
    isplitl [Hb1]; · iexact Hb1
    iexact Hb2
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at the middle points. -/
theorem triple_middle (c : Dev nD) (t : Fin cfg0.N) (h0 : ¬cond0_0 (grid0.coords t)) (h1 : cond0_1 (grid0.coords t)) :
    given m c t ⊢ wp frame (wpE (defs₀ (F := F)) Variants.none c none) Set.univ (bodyAt0 t) (fun _ => returned m c t) := by
  unfold given returned bodyAt0
  simp only [before_0, before_1, before_2, before_3, before_4, before_5]
  rw [after_0, after_1, after_2, after_3, after_4, after_5, after_6, between_castSucc m c t, between_succ m c t]
  unfold Dat.owesAt Pipeline.owesWithin
  rw [show (dats m 0 c).owed t.castSucc = 0 from rfl, show (dats m 0 c).owed t.succ = 0 from rfl]
  unfold between ringAt0_0 ringAt0_1 outBlock
  have hN : t.val < 32 := lt_of_lt_of_eq t.isLt (show cfg0.N = 32 from N_0)
  have hne : ¬t.val = 0 := fun h => h0 ((hcond0_0 t).mpr (by omega))
  obtain ⟨-, k0, -⟩ := rstep0_0_B t h0 h1
  obtain ⟨-, k1, -⟩ := rstep0_1_B t h0 h1
  rw [if_neg hne, if_neg (show ¬t.val + 1 = 0 by omega)]
  rw [Ring.At3_here _ _ _ _ t.val k0, Ring.At3_next _ _ _ _ t.val k0, Ring.slotAt3_next0 _ _ _ t.val (by omega),
    Ring.slotAt3_next1 _ _ _ t.val k0]
  rw [if_neg hne, if_neg (show ¬t.val + 1 = 0 by omega)]
  rw [Ring.At3_here _ _ _ _ t.val k1, Ring.At3_next _ _ _ _ t.val k1, Ring.slotAt3_next0 _ _ _ t.val (by omega),
    Ring.slotAt3_next1 _ _ _ t.val k1]
  iintro ⟨⟨Hg, ⟨-, Ha0, Ha1, Ha2⟩, ⟨-, Hb0, Hb1, Hb2⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((passMiddle c t _ _ _ _ _ _ _ _ _ _ _ _ _ _ h0 h1 (iblk m c 0 t) (iblk m c 1 t) (iblk m c 2 t) (iblk m c 3 t) (iblk m c 4 t)
    (iblk m c 5 t) (V m c main_arg0) (V m c main_arg1)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, Ha0, Ha1, Ha2, Hb0, Hb1, Hb2, ⟨%W', HW⟩⟩
  isplitl [Hg Ha0 Ha1 Ha2 Hb0 Hb1 Hb2]
  · isplitl [Hg]; · iexact Hg
    isplitl [Ha0 Ha1 Ha2]
    · iapply (Ring.with_homes (Idealize.SL.BI.Entails.refl _))
      isplitl [Ha0]; · iexact Ha0
      isplitl [Ha1]; · iexact Ha1
      iexact Ha2
    iapply (Ring.with_homes (Idealize.SL.BI.Entails.refl _))
    isplitl [Hb0]; · iexact Hb0
    isplitl [Hb1]; · iexact Hb1
    iexact Hb2
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at the last points. -/
theorem triple_last (c : Dev nD) (t : Fin cfg0.N) (h0 : ¬cond0_0 (grid0.coords t)) (h1 : ¬cond0_1 (grid0.coords t)) :
    given m c t ⊢ wp frame (wpE (defs₀ (F := F)) Variants.none c none) Set.univ (bodyAt0 t) (fun _ => returned m c t) := by
  unfold given returned bodyAt0
  simp only [before_0, before_1, before_2, before_3, before_4, before_5]
  rw [after_0, after_1, after_2, after_3, after_4, after_5, after_6, between_castSucc m c t, between_succ m c t]
  unfold Dat.owesAt Pipeline.owesWithin
  rw [show (dats m 0 c).owed t.castSucc = 0 from rfl, show (dats m 0 c).owed t.succ = 0 from rfl]
  unfold between ringAt0_0 ringAt0_1 outBlock
  have hN : t.val < 32 := lt_of_lt_of_eq t.isLt (show cfg0.N = 32 from N_0)
  have hne : ¬t.val = 0 := fun h => h0 ((hcond0_0 t).mpr (by omega))
  obtain ⟨-, k0, l0, -⟩ := rstep0_0_C t h0 h1
  obtain ⟨-, k1, l1, -⟩ := rstep0_1_C t h0 h1
  rw [if_neg hne, if_neg (show ¬t.val + 1 = 0 by omega)]
  rw [Ring.At3_here_tail _ _ _ _ t.val l0, Ring.At3_next_tail _ _ _ _ t.val k0 l0, Ring.slotAt3_tail_role _ _ _ t.val]
  rw [if_neg hne, if_neg (show ¬t.val + 1 = 0 by omega)]
  rw [Ring.At3_here_tail _ _ _ _ t.val l1, Ring.At3_next_tail _ _ _ _ t.val k1 l1, Ring.slotAt3_tail_role _ _ _ t.val]
  iintro ⟨⟨Hg, ⟨-, Ha0, Ha1, Ha2⟩, ⟨-, Hb0, Hb1, Hb2⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((passLast c t _ _ _ _ _ _ _ _ _ _ _ _ _ _ h0 h1 (iblk m c 0 t) (iblk m c 1 t) (iblk m c 2 t) (iblk m c 3 t) (iblk m c 4 t)
    (iblk m c 5 t) (V m c main_arg0) (V m c main_arg1)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, Ha0, Ha1, Ha2, Hb0, Hb1, Hb2, ⟨%W', HW⟩⟩
  isplitl [Hg Ha0 Ha1 Ha2 Hb0 Hb1 Hb2]
  · isplitl [Hg]; · iexact Hg
    isplitl [Ha0 Ha1 Ha2]
    · iapply (Ring.with_homes (Idealize.SL.BI.Entails.refl _))
      isplitl [Ha0]; · iexact Ha0
      isplitl [Ha1]; · iexact Ha1
      iexact Ha2
    iapply (Ring.with_homes (Idealize.SL.BI.Entails.refl _))
    isplitl [Hb0]; · iexact Hb0
    isplitl [Hb1]; · iexact Hb1
    iexact Hb2
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem body_triple (c : Dev nD) (t : Fin cfg0.N) :
    given m c t ⊢ wp frame (wpE (defs₀ (F := F)) Variants.none c none) Set.univ (bodyAt0 t) (fun _ => returned m c t) := by
  by_cases h0 : cond0_0 (grid0.coords t)
  · refine triple_first m c t h0 ((hcond0_1 t).mpr ?_)
    have := (hcond0_0 t).mp h0
    have hN : t.val < 32 := lt_of_lt_of_eq t.isLt (show cfg0.N = 32 from N_0)
    omega
  · by_cases h1 : cond0_1 (grid0.coords t)
    · exact triple_middle m c t h0 h1
    · exact triple_last m c t h0 h1

/-! ## The launch -/

theorem defs₀_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (body_triple m c t) rfl .rfl fun _ => .rfl

theorem begins (c : Dev nD) : Pipeline.ΦD osem0 spec0 H0 (V m) c ⊢ (dats m 0 c).Φ 0 := by
  rw [PhiD0_eq, show (dats m 0 c).Φ 0 = between m c 0 from rfl]
  unfold between
  iintro ⟨⟨HR0_0, HR0_1⟩, Hg, ⟨Hq0, Hq1, Hq2, Hq3, Hq4, Hq5⟩, ⟨Hh0, Hh1⟩⟩
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  iapply (ring0_1_in (F := F) m c)
  isplitl [HR0_1]; · iexact HR0_1
  isplitl [Hq3 Hq4 Hq5]
  · isplitl [Hq3]; · iexact Hq3
    isplitl [Hq4]; · iexact Hq4
    iexact Hq5
  iexact Hh1
theorem ends (c : Dev nD) : (dats m 0 c).Φ (Fin.last cfg0.N) ⊢ Pipeline.ΦD osem0 spec0 H0 (V m) c := by
  rw [PhiD0_eq, show (dats m 0 c).Φ (Fin.last cfg0.N) = between m c grid0.N from rfl]
  unfold between
  rw [show grid0.N = 32 by rw [N_0]]
  iintro ⟨Hg, HR0_0, HR0_1⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  isplitl [HR0_0 HR0_1]
  · isplitl [HR0_0]; · iexact HR0_0
    iexact HR0_1
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

set_option backward.isDefEq.respectTransparency.types false in
theorem runs : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m) (hin := begins m) (hout := ends m)

/-- The frame: the arguments end as they began. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 0).trans (((dats m 0 c).arrAt_in 0 rfl _).trans ((A_eq m c 0).trans (V_main_arg2 m c))),
      ((h.1 c).1 1).trans (((dats m 0 c).arrAt_in 1 rfl _).trans ((A_eq m c 1).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (runs m ρ)

end Cert.Kernel2Ideal.Hand

end
-- ==== Proof.OutSpec.lean ====
/-
The output projection's result as a function of its eight argument arrays, in exact arithmetic.
-/
module

public import proofs.«01_k».proof.Kernel2Ideal
public import Idealize.ShloMosaic.PureOps.Ideal
public import Idealize.ShloMosaic.Lib.ValueIdxCore

@[expose] public section

noncomputable section

namespace Cert.OutSpec

open Idealize.ShloMosaic Idealize.ShloMosaic.ValueIdx Cert.Kernel2Ideal

/-- The mean of 1024 values. -/
def mean (f : Fin 1024 → EReal) : EReal := Ideal.div (∑ k : Fin 1024, f k) (Ideal.ofBits .f32 0x44800000#32)

/-- Their variance. -/
def spread (f : Fin 1024 → EReal) : EReal :=
  Ideal.div (∑ k : Fin 1024, (f k - mean f) * (f k - mean f)) (Ideal.ofBits .f32 0x44800000#32)

/-- The values with mean zero and variance one. -/
def normed (f : Fin 1024 → EReal) (n : Fin 1024) : EReal :=
  (f n - mean f) * Ideal.rsqrt (spread f + Ideal.ofBits .f32 0x3727C5AC#32)

variable (X : FVec Ideal S2x16384x1024 .f32) (Y : FVec Ideal S2x16x4x1024x128 .f32) (P : FVec Ideal S2x16384x512 .bf16)
  (M : FVec Ideal S2x3x1024 .f32) (W : FVec Ideal S1024x1024 .f32) (B G T : FVec Ideal S1024 .f32)

/-- The Hyena branch's output at token `t`: its blocks hold every eighth token of a 1024-token tile together. -/
def branch (b : Fin 2) (t : Fin 16384) (k : Fin 512) : EReal :=
  Y (ix5 b ⟨t.val / 1024, by omega⟩ ⟨k.val / 128, by omega⟩ ⟨8 * (t.val % 128) + t.val % 1024 / 128, by omega⟩ ⟨k.val % 128, by omega⟩)

/-- Both branches' outputs side by side. -/
def both (b : Fin 2) (t : Fin 16384) (k : Fin 1024) : EReal :=
  if h : k.val < 512 then branch Y b t ⟨k.val, h⟩ else P (ix3 b t ⟨k.val - 512, by omega⟩)

/-- The residual sum. -/
def residual (b : Fin 2) (t : Fin 16384) (n : Fin 1024) : EReal :=
  Ideal.ofBits .f32 0x3F9837F0#32 * X (ix3 b t n)
    + M (ix3 b 2 n) * ((∑ k : Fin 1024, both Y P b t k * W (ix2 k n)) + B (ix1 n))

/-- The layer's output. -/
def layer (b : Fin 2) (t : Fin 16384) (n : Fin 1024) : EReal :=
  normed (residual X Y P M W B b t) n * G (ix1 n) + T (ix1 n)

/-- The layer's output as an array. -/
def out : FVec Ideal S2x16384x1024 .f32 := fun i =>
  layer X Y P M W B G T ⟨(i 0).val, (i 0).isLt⟩ ⟨(i 1).val, (i 1).isLt⟩ ⟨(i 2).val, (i 2).isLt⟩

end Cert.OutSpec

end
-- ==== Proof.OutRows.lean ====
/-
One pass of the output projection in exact arithmetic, entry by entry, as a function of its blocks.
-/
module

public import proofs.«01_k».proof.Proof.OutPass
public import proofs.«01_k».proof.Proof.OutSpec
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384

noncomputable section

namespace Cert.Kernel2Ideal.Hand

open Idealize.ShloMosaic Idealize.ShloMosaic.TcCoe
open Idealize.ShloMosaic.ValueIdx
open Cert.Kernel2Ideal.Gen

/-! ## The normalisation -/

/-- A row's sum, kept as a column. -/
theorem rowSum_apply (v : FVec Ideal S1024x1024 .f32) (r : Fin 1024) :
    shapeCast S1024x1 (multiReduction .add [1] S1024 v 0x00000000#32 reduces_S1024x1024_S1024 (.inl rfl) rfl) shapeCasts_S1024_S1024x1 (ix2 r 0)
      = ∑ k : Fin 1024, v (ix2 r k) := by
  refine (shapeCast_a_a1_apply _ _ _ _).trans ((Ideal.multiReduction_add_single v _ _ _ _ (ix1 r)).trans (Finset.sum_congr rfl fun k _ => ?_))
  refine congrArg v (funext fun a => Fin.ext ?_)
  match a with
  | ⟨0, _⟩ => rfl
  | ⟨1, _⟩ => rfl

/-- A column spread over the rows' entries. -/
theorem column_apply (v : FVec Ideal S1024x1 .f32) (r n : Fin 1024) :
    broadcastTo S1024x1024 v broadcasts_S1024x1_S1024x1024 (ix2 r n) = v (ix2 r 0) :=
  broadcastTo_apply _ _ (ix2 r n) (ix2 r 0) (fun a => by
    match a with
    | ⟨0, _⟩ => rfl
    | ⟨1, _⟩ => rfl)

/-- A row spread over the rows. -/
theorem row_apply (v : Vec Ideal S1x1024 .f32) (r n : Fin 1024) :
    broadcastTo S1024x1024 (shapeCast S1x1024 v shapeCasts_S1x1024_S1x1024) broadcasts_S1x1024_S1024x1024 (ix2 r n) = v (ix2 0 n) :=
  (broadcastTo_1b_ab_apply _ _ r n).trans (shapeCast_apply _ _ _ _ rfl)

/-- The rows' means. -/
abbrev means (v : FVec Ideal S1024x1024 .f32) : FVec Ideal S1024x1 .f32 :=
  divf (shapeCast S1024x1 (multiReduction .add [1] S1024 v 0x00000000#32 reduces_S1024x1024_S1024 (.inl rfl) rfl) shapeCasts_S1024_S1024x1)
    (broadcast S1024x1 (Scalar.ofBits .f32 0x44800000#32))

/-- The entries less their rows' means. -/
abbrev centred (v : FVec Ideal S1024x1024 .f32) : FVec Ideal S1024x1024 .f32 :=
  subf v (broadcastTo S1024x1024 (means v) broadcasts_S1024x1_S1024x1024)

theorem means_apply (v : FVec Ideal S1024x1024 .f32) (r : Fin 1024) : means v (ix2 r 0) = Cert.OutSpec.mean (fun k => v (ix2 r k)) :=
  congrArg (fun z => Ideal.div z (Ideal.ofBits .f32 0x44800000#32)) (rowSum_apply v r)

theorem centred_apply (v : FVec Ideal S1024x1024 .f32) (r n : Fin 1024) :
    centred v (ix2 r n) = v (ix2 r n) - Cert.OutSpec.mean (fun k => v (ix2 r k)) :=
  congrArg (fun z : EReal => v (ix2 r n) - z) ((column_apply _ r n).trans (means_apply v r))

theorem spread_apply (v : FVec Ideal S1024x1024 .f32) (r : Fin 1024) :
    means (mulf (centred v) (centred v)) (ix2 r 0) = Cert.OutSpec.spread (fun k => v (ix2 r k)) :=
  (means_apply _ r).trans (congrArg (fun z => Ideal.div z (Ideal.ofBits .f32 0x44800000#32))
    (Finset.sum_congr rfl fun k _ => congrArg₂ (fun a b : EReal => a * b) (centred_apply v r k) (centred_apply v r k)))

/-- The body's last value is the rows normalised, scaled and shifted. -/
theorem pay1_form (v : FVec Ideal S1024x1024 .f32) (g bt : Vec Ideal S1x1024 .f32) :
    k0_pay1 v g bt = shapeCast S1x1024x1024
      (addf (mulf (mulf (centred v) (broadcastTo S1024x1024
          (rsqrt (addf (means (mulf (centred v) (centred v))) (broadcast S1024x1 (Scalar.ofBits .f32 0x3727C5AC#32)))) broadcasts_S1024x1_S1024x1024))
        (broadcastTo S1024x1024 (shapeCast S1x1024 g shapeCasts_S1x1024_S1x1024) broadcasts_S1x1024_S1024x1024))
        (broadcastTo S1024x1024 (shapeCast S1x1024 bt shapeCasts_S1x1024_S1x1024) broadcasts_S1x1024_S1024x1024))
      shapeCasts_S1024x1024_S1x1024x1024 := rfl

theorem pay1_apply (v : FVec Ideal S1024x1024 .f32) (g bt : Vec Ideal S1x1024 .f32) (r n : Fin 1024) :
    k0_pay1 v g bt (ix3 0 r n) = Cert.OutSpec.normed (fun k => v (ix2 r k)) n * g (ix2 0 n) + bt (ix2 0 n) := by
  rw [pay1_form]
  refine (shapeCast_ab_1ab_apply _ _ _ _ _).trans ?_
  refine congrArg₂ (fun a b : EReal => a + b) (congrArg₂ (fun a b : EReal => a * b)
    (congrArg₂ (fun a b : EReal => a * b) (centred_apply v r n) ?_) (row_apply g r n)) (row_apply bt r n)
  refine (column_apply _ r n).trans (congrArg Ideal.rsqrt (congrArg₂ (fun a b : EReal => a + b) (spread_apply v r) rfl))

/-! ## The Hyena branch's rows in time order -/

theorem blockPiece_apply (y : Vec Ideal S4x1024x128 .f32) (cb : Fin 4) (j : Fin 8) (p l : Fin 128) :
    blockPiece (blockLoads y) cb j (ix2 p l) = y (ix3 cb ⟨8 * p.val + j.val, by omega⟩ l) := by
  unfold blockPiece
  refine (shapeCast_1ab_ab_apply _ _ p l).trans ?_
  show y ((every8 cb j).idx (ix3 0 p l)) = _
  refine congrArg y (funext fun a => Fin.ext ?_)
  match a with
  | ⟨0, _⟩ => show cb.val + 1 * 0 = cb.val; omega
  | ⟨1, _⟩ => show j.val + 8 * p.val = 8 * p.val + j.val; omega
  | ⟨2, _⟩ => show 0 + 1 * l.val = l.val; omega

theorem blockRows_apply (y : Vec Ideal S4x1024x128 .f32) (cb : Fin 4) (j : Fin 8) (p l : Fin 128) :
    blockRows (blockLoads y) j (ix2 p ⟨128 * cb.val + l.val, by omega⟩) = y (ix3 cb ⟨8 * p.val + j.val, by omega⟩ l) := by
  unfold blockRows
  refine (concatenate_apply_piece (t := S128x512) 1 [⟨S128x128, blockPiece (blockLoads y) 0 j⟩, ⟨S128x128, blockPiece (blockLoads y) 1 j⟩,
    ⟨S128x128, blockPiece (blockLoads y) 2 j⟩, ⟨S128x128, blockPiece (blockLoads y) 3 j⟩] _ _ cb.val cb.isLt S128x128
    (blockPiece (blockLoads y) cb j) ?_ rfl (128 * cb.val) ?_ (ix2 p l) (fun b hb => ?_) rfl).trans (blockPiece_apply y cb j p l)
  · fin_cases cb <;> rfl
  · fin_cases cb <;> rfl
  · match b with
    | ⟨0, _⟩ => rfl
    | ⟨1, _⟩ => exact absurd rfl hb

theorem gathered_piece (y : Vec Ideal S4x1024x128 .f32) (j : Fin 8) (p : Fin 128) (k : Fin 512) :
    gathered (blockLoads y) (ix2 ⟨128 * j.val + p.val, by omega⟩ k) = blockRows (blockLoads y) j (ix2 p k) := by
  unfold gathered
  refine concatenate_apply_piece (t := S1024x512) 0 [⟨S128x512, blockRows (blockLoads y) 0⟩, ⟨S128x512, blockRows (blockLoads y) 1⟩,
    ⟨S128x512, blockRows (blockLoads y) 2⟩, ⟨S128x512, blockRows (blockLoads y) 3⟩, ⟨S128x512, blockRows (blockLoads y) 4⟩,
    ⟨S128x512, blockRows (blockLoads y) 5⟩, ⟨S128x512, blockRows (blockLoads y) 6⟩, ⟨S128x512, blockRows (blockLoads y) 7⟩] _ _
    j.val j.isLt S128x512 (blockRows (blockLoads y) j) ?_ rfl (128 * j.val) ?_ (ix2 p k) (fun b hb => ?_) rfl
  · fin_cases j <;> rfl
  · fin_cases j <;> rfl
  · match b with
    | ⟨0, _⟩ => exact absurd rfl hb
    | ⟨1, _⟩ => rfl

theorem gathered_apply (y : Vec Ideal S4x1024x128 .f32) (r : Fin 1024) (k : Fin 512) :
    gathered (blockLoads y) (ix2 r k)
      = y (ix3 ⟨k.val / 128, by omega⟩ ⟨8 * (r.val % 128) + r.val / 128, by omega⟩ ⟨k.val % 128, by omega⟩) := by
  have er : r = ⟨128 * (⟨r.val / 128, by omega⟩ : Fin 8).val + (⟨r.val % 128, by omega⟩ : Fin 128).val,
      by show 128 * (r.val / 128) + r.val % 128 < 1024; omega⟩ := Fin.ext (by show r.val = 128 * (r.val / 128) + r.val % 128; omega)
  have ek : k = ⟨128 * (⟨k.val / 128, by omega⟩ : Fin 4).val + (⟨k.val % 128, by omega⟩ : Fin 128).val,
      by show 128 * (k.val / 128) + k.val % 128 < 512; omega⟩ := Fin.ext (by show k.val = 128 * (k.val / 128) + k.val % 128; omega)
  refine (congrArg (fun z => gathered (blockLoads y) (ix2 z k)) er).trans ((gathered_piece y _ _ k).trans ?_)
  exact (congrArg (fun z => blockRows (blockLoads y) _ (ix2 _ z)) ek).trans (blockRows_apply y _ _ _ _)

theorem joined_apply (y : Vec Ideal S4x1024x128 .f32) (yp : Vec Ideal S1x1024x512 .bf16) (r k : Fin 1024) :
    joined (blockLoads y) yp (ix2 r k) = if h : k.val < 512 then gathered (blockLoads y) (ix2 r ⟨k.val, h⟩)
      else yp (ix3 0 r ⟨k.val - 512, by omega⟩) := by
  unfold joined
  have off : ∀ (q : Fin 512) (a : Fin 2), a ≠ 1 → (ix2 r q a).val = (ix2 r k a).val := by
    intro q a ha
    match a with
    | ⟨0, _⟩ => rfl
    | ⟨1, _⟩ => exact absurd rfl ha
  split
  case isTrue h =>
    refine (concatenate_apply_piece (t := S1024x1024) 1 [⟨S1024x512, (truncf .bf16 (gathered (blockLoads y)) bitsLt_bf16_f32 : FVec Ideal S1024x512 .bf16)⟩,
        ⟨S1024x512, (shapeCast S1024x512 yp shapeCasts_S1x1024x512_S1024x512 : FVec Ideal S1024x512 .bf16)⟩] concatenates_S1024x512_S1024x512_S1024x1024_d1 (ix2 r k) 0 (by decide : 0 < 2) S1024x512
      (truncf .bf16 (gathered (blockLoads y)) bitsLt_bf16_f32 : FVec Ideal S1024x512 .bf16) rfl rfl 0 rfl (ix2 r ⟨k.val, h⟩) (fun a ha => off _ a ha) ?_).trans rfl
    show 0 + k.val = k.val; omega
  case isFalse h =>
    refine (concatenate_apply_piece (t := S1024x1024) 1 [⟨S1024x512, (truncf .bf16 (gathered (blockLoads y)) bitsLt_bf16_f32 : FVec Ideal S1024x512 .bf16)⟩,
        ⟨S1024x512, (shapeCast S1024x512 yp shapeCasts_S1x1024x512_S1024x512 : FVec Ideal S1024x512 .bf16)⟩] concatenates_S1024x512_S1024x512_S1024x1024_d1 (ix2 r k) 1 (by decide : 1 < 2) S1024x512
      (shapeCast S1024x512 yp shapeCasts_S1x1024x512_S1024x512 : FVec Ideal S1024x512 .bf16) rfl rfl 512 rfl (ix2 r ⟨k.val - 512, by omega⟩)
      (fun a ha => off _ a ha) ?_).trans (shapeCast_1ab_ab_apply _ _ _ _)
    show 512 + (k.val - 512) = k.val; omega

/-! ## The residual sum -/

theorem summed_apply (y : Vec Ideal S4x1024x128 .f32) (x : FVec Ideal S1024x1024 .f32) (yp : Vec Ideal S1x1024x512 .bf16)
    (md : Vec Ideal S1x3x1024 .f32) (w : Vec Ideal S1024x1024 .bf16) (b : Vec Ideal S1x1024 .f32) (r n : Fin 1024) :
    summed (blockLoads y) x yp w (gateRow md) b (ix2 r n)
      = Ideal.ofBits .f32 0x3F9837F0#32 * x (ix2 r n)
        + md (ix3 0 2 n) * ((∑ k : Fin 1024, joined (blockLoads y) yp (ix2 r k) * w (ix2 k n)) + b (ix2 0 n)) := by
  unfold summed
  have h := Ideal.matmul_plain_apply (φ₂ := .bf16) none (joined (blockLoads y) yp) (shapeCast S1024x1024 w shapeCasts_S1024x1024_S1024x1024)
    (constant S1024x1024 .f32 0x00000000#32) r n
  rw [show (constant (F := Ideal) S1024x1024 .f32 0x00000000#32) (ix2 r n) = 0 from Ideal.ofBits_zero_f32, zero_add] at h
  refine congrArg₂ (fun a b : EReal => a + b) rfl (congrArg₂ (fun a b : EReal => a * b) ?_ (congrArg₂ (fun a b : EReal => a + b) (h.trans ?_) (row_apply b r n)))
  · refine (broadcastTo_1b_ab_apply _ _ r n).trans ((shapeCast_1ab_ab_apply _ _ _ _).trans ?_)
    refine congrArg md (funext fun a => Fin.ext ?_)
    match a with
    | ⟨0, _⟩ => rfl
    | ⟨1, _⟩ => rfl
    | ⟨2, _⟩ => show 0 + 1 * n.val = n.val; omega
  · exact Finset.sum_congr rfl fun k _ => congrArg (fun z : EReal => joined (blockLoads y) yp (ix2 r k) * z) (shapeCast_apply _ _ _ _ rfl)

theorem passOut_apply (y : Vec Ideal S4x1024x128 .f32) (x : FVec Ideal S1024x1024 .f32) (yp : Vec Ideal S1x1024x512 .bf16)
    (md : Vec Ideal S1x3x1024 .f32) (w : Vec Ideal S1024x1024 .bf16) (b g bt : Vec Ideal S1x1024 .f32) (r n : Fin 1024) :
    passOut y x yp md w b g bt (ix3 0 r n)
      = Cert.OutSpec.normed (fun n => Ideal.ofBits .f32 0x3F9837F0#32 * x (ix2 r n)
          + md (ix3 0 2 n) * ((∑ k : Fin 1024, joined (blockLoads y) yp (ix2 r k) * w (ix2 k n)) + b (ix2 0 n))) n * g (ix2 0 n) + bt (ix2 0 n) := by
  unfold passOut
  refine (pay1_apply _ g bt r n).trans (congrArg (fun f => Cert.OutSpec.normed f n * g (ix2 0 n) + bt (ix2 0 n)) (funext fun k => ?_))
  exact summed_apply y x yp md w b r k

end Cert.Kernel2Ideal.Hand

end
-- ==== Proof.OutResults.lean ====
/-
The output projection's result after the kernel's run is the layer's output of its arguments.
-/
module

public import proofs.«01_k».proof.Proof.OutRun
public import proofs.«01_k».proof.Proof.OutRows
public import Idealize.ShloMosaic.Lib.ValueIdxRank6
public import Idealize.ShloMosaic.Lib.Pipeline.ValueKit.Geometry

@[expose] public section

set_option maxRecDepth 16384

noncomputable section

namespace Cert.Kernel2Ideal.Hand

open Idealize.ShloMosaic Idealize.ShloMosaic.TcCoe Idealize.ShloMosaic.StableHlo Idealize.SL.Sem
open Idealize.ShloMosaic.ValueIdx
open Cert.Kernel2Ideal.Gen

variable (m : (ℓ : Loc nD τ sig) → Buf (Elt Ideal) ℓ) (ρ : Dev nD → PrngReg)

/-- The layer's input. -/
abbrev outX (c : Dev nD) : FVec Ideal S2x16384x1024 .f32 := m ((c.tc : Thread nD τ).loc main_arg0)
/-- The Hyena branch's output, in blocks. -/
abbrev outY (c : Dev nD) : FVec Ideal S2x16x4x1024x128 .f32 := m ((c.tc : Thread nD τ).loc main_arg1)
/-- The pooling mixer's output. -/
abbrev outP (c : Dev nD) : FVec Ideal S2x16384x512 .bf16 := m ((c.tc : Thread nD τ).loc main_arg2)
/-- The modulation. -/
abbrev outM (c : Dev nD) : FVec Ideal S2x3x1024 .f32 := m ((c.tc : Thread nD τ).loc main_arg3)
/-- The projection's weights. -/
abbrev outW (c : Dev nD) : FVec Ideal S1024x1024 .f32 := m ((c.tc : Thread nD τ).loc main_arg4)
/-- Its bias. -/
abbrev outB (c : Dev nD) : FVec Ideal S1024 .f32 := m ((c.tc : Thread nD τ).loc main_arg5)
/-- The normalisation's scale. -/
abbrev outG (c : Dev nD) : FVec Ideal S1024 .f32 := m ((c.tc : Thread nD τ).loc main_arg6)
/-- Its shift. -/
abbrev outT (c : Dev nD) : FVec Ideal S1024 .f32 := m ((c.tc : Thread nD τ).loc main_arg7)

/-! ## What the host writes before the call -/

theorem V_weights (c : Dev nD) : (V m c main_v0 : Vec Ideal S1024x1024 .bf16)
    = (truncf .bf16 (outW m c) bitsLt_bf16_f32 : FVec Ideal S1024x1024 .bf16) := by
  unfold V hostOps0; after_results_simp; try rfl

theorem V_bias (c : Dev nD) : (V m c main_v1 : Vec Ideal S1x1024 .f32) = shapeCast S1x1024 (outB m c) shapeCasts_S1024_S1x1024 := by
  unfold V hostOps0; after_results_simp; try rfl

theorem V_scale (c : Dev nD) : (V m c main_v2 : Vec Ideal S1x1024 .f32) = shapeCast S1x1024 (outG m c) shapeCasts_S1024_S1x1024 := by
  unfold V hostOps0; after_results_simp; try rfl

theorem V_shift (c : Dev nD) : (V m c main_v3 : Vec Ideal S1x1024 .f32) = shapeCast S1x1024 (outT m c) shapeCasts_S1024_S1x1024 := by
  unfold V hostOps0; after_results_simp; try rfl

/-! ## The blocks -/

theorem idx_0 : ∀ t : Fin grid0.N, win0_0.index t 0 = t.val / 16 ∧ win0_0.index t 1 = t.val % 16 ∧ win0_0.index t 2 = 0 := by
  decide +kernel
theorem idx_1 : ∀ t : Fin grid0.N, win0_1.index t 0 = t.val / 16 ∧ win0_1.index t 1 = 0 ∧ win0_1.index t 2 = 0 := by
  decide +kernel
theorem idx_2 : ∀ (t : Fin grid0.N) a, win0_2.index t a = 0 := by decide +kernel
theorem idx_3 : ∀ (t : Fin grid0.N) a, win0_3.index t a = 0 := by decide +kernel
theorem idx_4 : ∀ (t : Fin grid0.N) a, win0_4.index t a = 0 := by decide +kernel
theorem idx_5 : ∀ (t : Fin grid0.N) a, win0_5.index t a = 0 := by decide +kernel
theorem idx_6 : ∀ t : Fin grid0.N, win0_6.index t 0 = t.val / 16 ∧ win0_6.index t 1 = t.val % 16 ∧ win0_6.index t 2 = 0 := by
  decide +kernel

theorem point_lt (t : Fin cfg0.N) : t.val < 32 := t.isLt

/-- The batch of point `t`. -/
abbrev batch (t : Fin cfg0.N) : Fin 2 := ⟨t.val / 16, by have := point_lt t; omega⟩
/-- The token of row `r` of point `t`. -/
abbrev token (t : Fin cfg0.N) (r : Fin 1024) : Fin 16384 := ⟨1024 * (t.val % 16) + r.val, by omega⟩

theorem pooled_block (c : Dev nD) (t : Fin cfg0.N) (r : Fin 1024) (k : Fin 512) :
    (iblk m c 0 t : Vec Ideal S1x1024x512 .bf16) (ix3 0 r k) = outP m c (ix3 (batch t) (token t r) k) := by
  show _ = m ((c.tc : Thread nD τ).loc main_arg2) _
  rw [← V_main_arg2 m c]
  show V m c main_arg2 (((cfg0.win 0).blk t).view.emb (ix3 0 r k)) = _
  refine congrArg (V m c main_arg2) (funext fun a => Fin.ext ?_)
  obtain ⟨e0, e1, e2⟩ := idx_0 t
  match a with
  | ⟨0, _⟩ => show win0_0.index t 0 * 1 + 1 * 0 = t.val / 16; omega
  | ⟨1, _⟩ => show win0_0.index t 1 * 1024 + 1 * r.val = 1024 * (t.val % 16) + r.val; omega
  | ⟨2, _⟩ => show win0_0.index t 2 * 512 + 1 * k.val = k.val; omega

theorem modulation_block (c : Dev nD) (t : Fin cfg0.N) (j : Fin 3) (k : Fin 1024) :
    (iblk m c 1 t : Vec Ideal S1x3x1024 .f32) (ix3 0 j k) = outM m c (ix3 (batch t) j k) := by
  show _ = m ((c.tc : Thread nD τ).loc main_arg3) _
  rw [← V_main_arg3 m c]
  show V m c main_arg3 (((cfg0.win 1).blk t).view.emb (ix3 0 j k)) = _
  refine congrArg (V m c main_arg3) (funext fun a => Fin.ext ?_)
  obtain ⟨e0, e1, e2⟩ := idx_1 t
  match a with
  | ⟨0, _⟩ => show win0_1.index t 0 * 1 + 1 * 0 = t.val / 16; omega
  | ⟨1, _⟩ => show win0_1.index t 1 * 3 + 1 * j.val = j.val; omega
  | ⟨2, _⟩ => show win0_1.index t 2 * 1024 + 1 * k.val = k.val; omega

theorem weights_block (c : Dev nD) (t : Fin cfg0.N) (k n : Fin 1024) :
    (iblk m c 2 t : Vec Ideal S1024x1024 .bf16) (ix2 k n) = outW m c (ix2 k n) := by
  refine Eq.trans ?_ (congrFun (V_weights m c) (ix2 k n))
  show V m c main_v0 (((cfg0.win 2).blk t).view.emb (ix2 k n)) = _
  refine congrArg (V m c main_v0) (funext fun a => Fin.ext ?_)
  match a with
  | ⟨0, _⟩ => show win0_2.index t 0 * 1024 + 1 * k.val = k.val; rw [idx_2 t 0]; omega
  | ⟨1, _⟩ => show win0_2.index t 1 * 1024 + 1 * n.val = n.val; rw [idx_2 t 1]; omega

/-- A vector reshaped to one row, read in the row. -/
theorem line_apply (v : FVec Ideal S1024 .f32) (n : Fin 1024) : shapeCast S1x1024 v shapeCasts_S1024_S1x1024 (ix2 0 n) = v (ix1 n) :=
  shapeCast_apply v shapeCasts_S1024_S1x1024 (ix2 0 n) (ix1 n) (by
    rw [Shape.rowMajor_val_one, Shape.rowMajor_val_two]
    show n.val = 0 * 1024 + n.val; omega)

theorem bias_block (c : Dev nD) (t : Fin cfg0.N) (n : Fin 1024) : (iblk m c 3 t : Vec Ideal S1x1024 .f32) (ix2 0 n) = outB m c (ix1 n) := by
  refine Eq.trans ?_ ((congrFun (V_bias m c) (ix2 0 n)).trans (line_apply _ n))
  show V m c main_v1 (((cfg0.win 3).blk t).view.emb (ix2 0 n)) = _
  refine congrArg (V m c main_v1) (funext fun a => Fin.ext ?_)
  match a with
  | ⟨0, _⟩ => show win0_3.index t 0 * 1 + 1 * 0 = 0; rw [idx_3 t 0]
  | ⟨1, _⟩ => show win0_3.index t 1 * 1024 + 1 * n.val = n.val; rw [idx_3 t 1]; omega

theorem scale_block (c : Dev nD) (t : Fin cfg0.N) (n : Fin 1024) : (iblk m c 4 t : Vec Ideal S1x1024 .f32) (ix2 0 n) = outG m c (ix1 n) := by
  refine Eq.trans ?_ ((congrFun (V_scale m c) (ix2 0 n)).trans (line_apply _ n))
  show V m c main_v2 (((cfg0.win 4).blk t).view.emb (ix2 0 n)) = _
  refine congrArg (V m c main_v2) (funext fun a => Fin.ext ?_)
  match a with
  | ⟨0, _⟩ => show win0_4.index t 0 * 1 + 1 * 0 = 0; rw [idx_4 t 0]
  | ⟨1, _⟩ => show win0_4.index t 1 * 1024 + 1 * n.val = n.val; rw [idx_4 t 1]; omega

theorem shift_block (c : Dev nD) (t : Fin cfg0.N) (n : Fin 1024) : (iblk m c 5 t : Vec Ideal S1x1024 .f32) (ix2 0 n) = outT m c (ix1 n) := by
  refine Eq.trans ?_ ((congrFun (V_shift m c) (ix2 0 n)).trans (line_apply _ n))
  show V m c main_v3 (((cfg0.win 5).blk t).view.emb (ix2 0 n)) = _
  refine congrArg (V m c main_v3) (funext fun a => Fin.ext ?_)
  match a with
  | ⟨0, _⟩ => show win0_5.index t 0 * 1 + 1 * 0 = 0; rw [idx_5 t 0]
  | ⟨1, _⟩ => show win0_5.index t 1 * 1024 + 1 * n.val = n.val; rw [idx_5 t 1]; omega

/-! ## The blocks copied by hand -/

theorem point_eq (t : Fin cfg0.N) : (Ring.bk 32 t.val).val = t.val := Nat.mod_eq_of_lt (point_lt t)

theorem x_at (p : Fin 32) (f : FVec Ideal S2x16384x1024 .f32) (r n : Fin 1024) :
    View.read (Elt Ideal) (srcB0_0 p).view f (ix2 r n) = f (ix3 ⟨p.val / 16, by omega⟩ ⟨1024 * (p.val % 16) + r.val, by omega⟩ n) := by
  refine (congrFun (Memref.read_squeeze_slice (Val := Elt Ideal) hbM0_0
    (Rect.unit (s := S2x16384x1024) ![p.val / 16, 1024 * (p.val % 16), 0] S1x1024x1024.size (inb_src0_0 p)) (fun _ => rfl)
    squeezes_S1x1024x1024_S1024x1024 shapeCasts_S1x1024x1024_S1024x1024 f) (ix2 r n)).trans ?_
  refine (shapeCast_1ab_ab_apply _ _ r n).trans ?_
  refine congrArg f (funext fun a => Fin.ext ?_)
  match a with
  | ⟨0, _⟩ => show p.val / 16 + 1 * 0 = p.val / 16; omega
  | ⟨1, _⟩ => show 1024 * (p.val % 16) + 1 * r.val = 1024 * (p.val % 16) + r.val; omega
  | ⟨2, _⟩ => show 0 + 1 * n.val = n.val; omega

theorem y_casts : S1x1x4x1024x128.ShapeCasts S4x1024x128 := by decide

theorem y_at (p : Fin 32) (f : FVec Ideal S2x16x4x1024x128 .f32) (g : Fin 4) (r : Fin 1024) (l : Fin 128) :
    View.read (Elt Ideal) (srcB0_1 p).view f (ix3 g r l) = f (ix5 ⟨p.val / 16, by omega⟩ ⟨p.val % 16, by omega⟩ g r l) := by
  refine (congrFun (Memref.read_squeeze_slice (Val := Elt Ideal) hbM0_1
    (Rect.unit (s := S2x16x4x1024x128) ![p.val / 16, p.val % 16, 0, 0, 0] S1x1x4x1024x128.size (inb_src0_1 p)) (fun _ => rfl)
    squeezes_S1x1x4x1024x128_S4x1024x128 y_casts f) (ix3 g r l)).trans ?_
  refine (shapeCast_apply _ y_casts (ix3 g r l) (ix5 0 0 g r l) ?_).trans ?_
  · rw [Shape.rowMajor_val_five, Shape.rowMajor_val_three]
    show (((0 * 1 + 0) * 4 + g.val) * 1024 + r.val) * 128 + l.val = (g.val * 1024 + r.val) * 128 + l.val
    omega
  refine congrArg f (funext fun a => Fin.ext ?_)
  match a with
  | ⟨0, _⟩ => show p.val / 16 + 1 * 0 = p.val / 16; omega
  | ⟨1, _⟩ => show p.val % 16 + 1 * 0 = p.val % 16; omega
  | ⟨2, _⟩ => show 0 + 1 * g.val = g.val; omega
  | ⟨3, _⟩ => show 0 + 1 * r.val = r.val; omega
  | ⟨4, _⟩ => show 0 + 1 * l.val = l.val; omega

theorem x_block (c : Dev nD) (t : Fin cfg0.N) (r n : Fin 1024) :
    blockX c t (V m c main_arg0) (ix2 r n) = outX m c (ix3 (batch t) (token t r) n) := by
  rw [V_main_arg0 m c]
  refine (x_at (Ring.bk 32 t.val) (outX m c) r n).trans (congrArg (outX m c) (funext fun a => Fin.ext ?_))
  have e := point_eq t
  match a with
  | ⟨0, _⟩ => show (Ring.bk 32 t.val).val / 16 = t.val / 16; rw [e]
  | ⟨1, _⟩ => show 1024 * ((Ring.bk 32 t.val).val % 16) + r.val = 1024 * (t.val % 16) + r.val; rw [e]
  | ⟨2, _⟩ => rfl

theorem y_block (c : Dev nD) (t : Fin cfg0.N) (g : Fin 4) (r : Fin 1024) (l : Fin 128) :
    blockY c t (V m c main_arg1) (ix3 g r l) = outY m c (ix5 (batch t) ⟨t.val % 16, by omega⟩ g r l) := by
  rw [V_main_arg1 m c]
  refine (y_at (Ring.bk 32 t.val) (outY m c) g r l).trans (congrArg (outY m c) (funext fun a => Fin.ext ?_))
  have e := point_eq t
  match a with
  | ⟨0, _⟩ => show (Ring.bk 32 t.val).val / 16 = t.val / 16; rw [e]
  | ⟨1, _⟩ => show (Ring.bk 32 t.val).val % 16 = t.val % 16; rw [e]
  | ⟨2, _⟩ => rfl
  | ⟨3, _⟩ => rfl
  | ⟨4, _⟩ => rfl

/-! ## The output block -/

theorem branch_block (c : Dev nD) (t : Fin cfg0.N) (r : Fin 1024) (k : Fin 512) :
    gathered (blockLoads (blockY c t (V m c main_arg1))) (ix2 r k) = Cert.OutSpec.branch (outY m c) (batch t) (token t r) k := by
  refine (gathered_apply _ r k).trans ((y_block m c t _ _ _).trans ?_)
  unfold Cert.OutSpec.branch
  refine congrArg (outY m c) (funext fun a => Fin.ext ?_)
  match a with
  | ⟨0, _⟩ => rfl
  | ⟨1, _⟩ => show t.val % 16 = (1024 * (t.val % 16) + r.val) / 1024; omega
  | ⟨2, _⟩ => rfl
  | ⟨3, _⟩ =>
    show 8 * (r.val % 128) + r.val / 128 = 8 * ((1024 * (t.val % 16) + r.val) % 128) + (1024 * (t.val % 16) + r.val) % 1024 / 128
    omega
  | ⟨4, _⟩ => rfl

theorem both_block (c : Dev nD) (t : Fin cfg0.N) (r k : Fin 1024) :
    joined (blockLoads (blockY c t (V m c main_arg1))) (iblk m c 0 t) (ix2 r k)
      = Cert.OutSpec.both (outY m c) (outP m c) (batch t) (token t r) k := by
  refine (joined_apply _ _ r k).trans ?_
  unfold Cert.OutSpec.both
  split
  · exact branch_block m c t r _
  · exact pooled_block m c t r _

theorem outBlock_apply (c : Dev nD) (t : Fin cfg0.N) (r n : Fin 1024) :
    outBlock m c t (ix3 0 r n)
      = Cert.OutSpec.layer (outX m c) (outY m c) (outP m c) (outM m c) (outW m c) (outB m c) (outG m c) (outT m c) (batch t) (token t r) n := by
  unfold outBlock
  refine (passOut_apply _ _ _ _ _ _ _ _ r n).trans ?_
  unfold Cert.OutSpec.layer
  refine congrArg₂ (fun a b : EReal => a + b) (congrArg₂ (fun a b : EReal => a * b)
    (congrArg (fun f => Cert.OutSpec.normed f n) (funext fun k => ?_)) (scale_block m c t n)) (shift_block m c t n)
  unfold Cert.OutSpec.residual
  refine congrArg₂ (fun a b : EReal => a + b) (congrArg (fun z : EReal => _ * z) (x_block m c t r k))
    (congrArg₂ (fun a b : EReal => a * b) (modulation_block m c t 2 k) (congrArg₂ (fun a b : EReal => a + b)
      (Finset.sum_congr rfl fun j _ => congrArg₂ (fun a b : EReal => a * b) (both_block m c t r j) (weights_block m c t j k)) (bias_block m c t k)))

/-! ## The result -/

/-- The result's value. -/
abbrev valOut (c : Dev nD) : FVec Ideal S2x16384x1024 .f32 :=
  Cert.OutSpec.out (outX m c) (outY m c) (outP m c) (outM m c) (outW m c) (outB m c) (outG m c) (outT m c)

theorem final_6 (c : Dev nD) : (dats m 0 c).arrAt 6 cfg0.N = valOut m c := by
  refine (dats m 0 c).arrAt_eq_of_covers 6 (valOut m c) (by decide +kernel) fun t _ y => ?_
  rw [after_6]
  obtain ⟨e0, e1, e2⟩ := idx_6 t
  have key : ∀ (w : S1x1024x1024.Idx) (z : S2x16384x1024.Idx), (z 0).val = t.val / 16 * 1 + 1 * (w 0).val →
      (z 1).val = t.val % 16 * 1024 + 1 * (w 1).val → (z 2).val = 0 * 1024 + 1 * (w 2).val → outBlock m c t w = valOut m c z := by
    intro w z h0 h1 h2
    have w0 := (w 0).isLt
    change _ < 1 at w0
    have ew : w = ix3 0 (w 1) (w 2) := funext fun a => by
      match a with
      | ⟨0, _⟩ => exact Fin.ext (by show (w 0).val = 0; omega)
      | ⟨1, _⟩ => rfl
      | ⟨2, _⟩ => rfl
    rw [ew]
    refine (outBlock_apply m c t (w 1) (w 2)).trans ?_
    show _ = Cert.OutSpec.layer (outX m c) (outY m c) (outP m c) (outM m c) (outW m c) (outB m c) (outG m c) (outT m c)
      ⟨(z 0).val, (z 0).isLt⟩ ⟨(z 1).val, (z 1).isLt⟩ ⟨(z 2).val, (z 2).isLt⟩
    have f0 : (batch t) = ⟨(z 0).val, (z 0).isLt⟩ := Fin.ext (by show t.val / 16 = (z 0).val; omega)
    have f1 : (token t (w 1)) = ⟨(z 1).val, (z 1).isLt⟩ := Fin.ext (by show 1024 * (t.val % 16) + (w 1).val = (z 1).val; omega)
    have f2 : (w 2 : Fin 1024) = ⟨(z 2).val, (z 2).isLt⟩ := Fin.ext (by show (w 2).val = (z 2).val; omega)
    rw [f0, f1, f2]; rfl
  refine key _ _ ?_ ?_ ?_
  · show win0_6.index t 0 * 1 + 1 * (y 0).val = _; rw [e0]
  · show win0_6.index t 1 * 1024 + 1 * (y 1).val = _; rw [e1]
  · show win0_6.index t 2 * 1024 + 1 * (y 2).val = _; rw [e2]

/-- The run: the result is the layer's output of the arguments. -/
theorem run_results : θ_run defs (onTc (τ := τ) (main (F := Ideal))) ⟨m, fun _ => 0, ρ⟩ (fun r => ∀ c : Dev nD,
    r.2.mem ((c.tc : Thread nD τ).loc main_v4) = valOut m c) :=
  (θ_run defs _ _).mono (fun _ h c => ((h.1 c).1 6).trans (final_6 m c)) (runs m ρ)

end Cert.Kernel2Ideal.Hand

end
-- ==== Proof.OutReference.lean ====
/-
The output projection's reference computes the layer's output of its arguments.
-/
module

public import proofs.«01_k».proof.Proof.Gen.Reference2Ideal.Run
public import proofs.«01_k».proof.Proof.Gen.Reference2Ideal.Read
public import proofs.«01_k».proof.Proof.OutSpec
public import Idealize.ShloMosaic.Lib.ValueIdxRank6
public import Idealize.ShloMosaic.Lib.IdealHost

@[expose] public section

noncomputable section

namespace Cert.Reference2Ideal.Hand

open Idealize.ShloMosaic Idealize.ShloMosaic.ValueIdx
open Cert.Reference2Ideal.Read Cert.Reference2Ideal.Gen

/-- A vector read at an index with the given coordinate. -/
theorem entry1 {α : Type} {a : ℕ} (x : (⟨1, ![a]⟩ : Shape).Idx → α) (i : (⟨1, ![a]⟩ : Shape).Idx) (p : Fin a)
    (h : (i 0).val = p.val) : x i = x (ix1 p) :=
  congrArg x (funext fun d => Fin.ext (by match d with | ⟨0, _⟩ => exact h))

/-- A matrix read at an index with the given coordinates. -/
theorem entry2 {α : Type} {a b : ℕ} (x : (⟨2, ![a, b]⟩ : Shape).Idx → α) (i : (⟨2, ![a, b]⟩ : Shape).Idx) (p : Fin a) (q : Fin b)
    (h : (i 0).val = p.val) (h' : (i 1).val = q.val) : x i = x (ix2 p q) :=
  congrArg x (funext fun d => Fin.ext (by match d with | ⟨0, _⟩ => exact h | ⟨1, _⟩ => exact h'))

/-- A rank-three array read at an index with the given coordinates. -/
theorem entry3 {α : Type} {a b c : ℕ} (x : (⟨3, ![a, b, c]⟩ : Shape).Idx → α) (i : (⟨3, ![a, b, c]⟩ : Shape).Idx)
    (p : Fin a) (q : Fin b) (r : Fin c) (h : (i 0).val = p.val) (h' : (i 1).val = q.val) (h'' : (i 2).val = r.val) : x i = x (ix3 p q r) :=
  congrArg x (funext fun d => Fin.ext (by match d with | ⟨0, _⟩ => exact h | ⟨1, _⟩ => exact h' | ⟨2, _⟩ => exact h''))

variable (x0 : FVec Ideal S2x16384x1024 .f32) (x1 : FVec Ideal S2x16x4x1024x128 .f32) (x2 : FVec Ideal S2x16384x512 .bf16)
  (x3 : FVec Ideal S2x3x1024 .f32) (x4 : FVec Ideal S1024x1024 .f32) (x5 x6 x7 : FVec Ideal S1024 .f32)

/-! ## The branches side by side -/

theorem branch_apply (b : Fin 2) (t : Fin 16384) (k : Fin 512) :
    val_main_v4 (F := Ideal) x1 (ix3 b t k) = Cert.OutSpec.branch x1 b t k := by
  let i : Fin 16 := ⟨t.val / 1024, by omega⟩
  let q : Fin 8 := ⟨t.val % 1024 / 128, by omega⟩
  let p : Fin 128 := ⟨t.val % 128, by omega⟩
  let g : Fin 4 := ⟨k.val / 128, by omega⟩
  let l : Fin 128 := ⟨k.val % 128, by omega⟩
  unfold val_main_v4 val_main_v3 val_main_v2
  refine (shapeCast_apply _ shapeCasts_S2x16x8x128x4x128_S2x16384x512 (ix3 b t k) (ix6 b i q p g l) ?_).trans
    ((transpose_apply [0, 1, 4, 3, 2, 5] _ transposes_S2x16x4x128x8x128_S2x16x8x128x4x128_0_1_4_3_2_5 (ix6 b i q p g l) (ix6 b i g p q l) ?_).trans
    (shapeCast_apply x1 shapeCasts_S2x16x4x1024x128_S2x16x4x128x8x128 (ix6 b i g p q l)
      (ix5 b i g ⟨8 * (t.val % 128) + t.val % 1024 / 128, by omega⟩ l) ?_))
  · rw [Shape.rowMajor_val_six, Shape.rowMajor_val_three]
    show ((((b.val * 16 + t.val / 1024) * 8 + t.val % 1024 / 128) * 128 + t.val % 128) * 4 + k.val / 128) * 128 + k.val % 128
      = (b.val * 16384 + t.val) * 512 + k.val
    omega
  · intro a
    match a with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_five]
    show (((b.val * 16 + t.val / 1024) * 4 + k.val / 128) * 1024 + (8 * (t.val % 128) + t.val % 1024 / 128)) * 128 + k.val % 128
      = ((((b.val * 16 + t.val / 1024) * 4 + k.val / 128) * 128 + t.val % 128) * 8 + t.val % 1024 / 128) * 128 + k.val % 128
    omega

theorem both_apply (b : Fin 2) (t : Fin 16384) (k : Fin 1024) :
    val_main_v6 (F := Ideal) x1 x2 (ix3 b t k) = Cert.OutSpec.both x1 x2 b t k := by
  unfold val_main_v6 Cert.OutSpec.both
  have off : ∀ (q : Fin 512) (a : Fin 3), a ≠ 2 → (ix3 b t q a).val = (ix3 b t k a).val := by
    intro q a ha
    match a with
    | ⟨0, _⟩ => rfl
    | ⟨1, _⟩ => rfl
    | ⟨2, _⟩ => exact absurd rfl ha
  split
  case isTrue h =>
    refine (concatenate_apply_piece (t := S2x16384x1024) 2 [⟨S2x16384x512, val_main_v4 (F := Ideal) x1⟩, ⟨S2x16384x512, val_main_v5 (F := Ideal) x2⟩]
      concatenates_S2x16384x512_S2x16384x512_S2x16384x1024_d2 (ix3 b t k) 0 (by decide : 0 < 2) S2x16384x512 (val_main_v4 (F := Ideal) x1)
      rfl rfl 0 rfl (ix3 b t ⟨k.val, h⟩) (fun a ha => off _ a ha) ?_).trans (branch_apply x1 b t _)
    show 0 + k.val = k.val; omega
  case isFalse h =>
    refine (concatenate_apply_piece (t := S2x16384x1024) 2 [⟨S2x16384x512, val_main_v4 (F := Ideal) x1⟩, ⟨S2x16384x512, val_main_v5 (F := Ideal) x2⟩]
      concatenates_S2x16384x512_S2x16384x512_S2x16384x1024_d2 (ix3 b t k) 1 (by decide : 1 < 2) S2x16384x512 (val_main_v5 (F := Ideal) x2)
      rfl rfl 512 rfl (ix3 b t ⟨k.val - 512, by omega⟩) (fun a ha => off _ a ha) ?_).trans (val_main_v5_apply (F := Ideal) x2 _)
    show 512 + (k.val - 512) = k.val; omega

/-! ## The residual sum -/

theorem residual_apply (b : Fin 2) (t : Fin 16384) (n : Fin 1024) :
    val_main_v16 (F := Ideal) x0 x1 x2 x3 x4 x5 (ix3 b t n) = Cert.OutSpec.residual x0 x1 x2 x3 x4 x5 b t n := by
  rw [val_main_v16_apply, val_main_v15_apply, val_main_v14_apply, val_main_cst_apply, val_main_v13_apply, val_main_v12_apply, val_main_v7_apply,
    val_main_v1_apply, val_main_v0_apply, val_main_v11_apply, val_main_v8_apply, val_main_v10_apply, val_main_v9_apply]
  unfold Cert.OutSpec.residual
  refine congrArg₂ (fun a b : EReal => a + b) rfl (congrArg₂ (fun a b : EReal => a * b) ?_ (congrArg₂ (fun a b : EReal => a + b)
    (Finset.sum_congr rfl fun k _ => congrArg₂ (fun a b : EReal => a * b) ?_ ?_) ?_))
  · refine entry3 x3 _ b 2 n ?_ rfl ?_
    · show (b.val * 1024 + n.val) / 1024 = b.val; omega
    · show (b.val * 1024 + n.val) % 1024 = n.val; omega
  · exact (entry3 (val_main_v6 (F := Ideal) x1 x2) _ b t k rfl rfl rfl).trans (both_apply x1 x2 b t k)
  · exact entry2 x4 _ k n rfl rfl
  · exact entry1 x5 _ n rfl

/-! ## The normalisation -/

theorem mean_apply (i : S2x16384x1.Idx) (b : Fin 2) (t : Fin 16384) (h0 : (i 0).val = b.val) (h1 : (i 1).val = t.val) :
    val_main_v20 (F := Ideal) x0 x1 x2 x3 x4 x5 i = Cert.OutSpec.mean (Cert.OutSpec.residual x0 x1 x2 x3 x4 x5 b t) := by
  rw [val_main_v20_apply, val_main_v18_apply, val_main_v17_apply, val_main_cst_0_apply, val_main_v19_apply, val_main_cst_1_apply]
  unfold Cert.OutSpec.mean
  refine congrArg₂ Ideal.div ?_ rfl
  refine (congrArg (fun z : EReal => z + _) Ideal.ofBits_zero_f32).trans ((zero_add _).trans (Finset.sum_congr rfl fun k _ => ?_))
  exact (entry3 (val_main_v16 (F := Ideal) x0 x1 x2 x3 x4 x5) _ b t k h0 h1 rfl).trans (residual_apply x0 x1 x2 x3 x4 x5 b t k)

theorem square_apply (b : Fin 2) (t : Fin 16384) (k : Fin 1024) :
    val_main_v23 (F := Ideal) x0 x1 x2 x3 x4 x5 (ix3 b t k)
      = (Cert.OutSpec.residual x0 x1 x2 x3 x4 x5 b t k - Cert.OutSpec.mean (Cert.OutSpec.residual x0 x1 x2 x3 x4 x5 b t))
        * (Cert.OutSpec.residual x0 x1 x2 x3 x4 x5 b t k - Cert.OutSpec.mean (Cert.OutSpec.residual x0 x1 x2 x3 x4 x5 b t)) := by
  rw [val_main_v23_apply, val_main_v22_apply, val_main_v21_apply, residual_apply, mean_apply x0 x1 x2 x3 x4 x5 _ b t rfl rfl]
  rfl

theorem scale_apply (i : S2x16384x1.Idx) (b : Fin 2) (t : Fin 16384) (h0 : (i 0).val = b.val) (h1 : (i 1).val = t.val) :
    val_main_v32 (F := Ideal) x0 x1 x2 x3 x4 x5 i
      = Ideal.rsqrt (Cert.OutSpec.spread (Cert.OutSpec.residual x0 x1 x2 x3 x4 x5 b t) + Ideal.ofBits .f32 0x3727C5AC#32) := by
  rw [val_main_v32_apply, val_main_v31_apply, val_main_v27_apply, val_main_v25_apply, val_main_v24_apply, val_main_cst_2_apply,
    val_main_v26_apply, val_main_cst_3_apply, val_main_v30_apply, val_main_cst_4_apply]
  unfold Cert.OutSpec.spread
  refine congrArg Ideal.rsqrt (congrArg₂ (fun a b : EReal => a + b) (congrArg₂ Ideal.div ?_ rfl) rfl)
  refine (congrArg (fun z : EReal => z + _) Ideal.ofBits_zero_f32).trans ((zero_add _).trans (Finset.sum_congr rfl fun k _ => ?_))
  exact (entry3 (val_main_v23 (F := Ideal) x0 x1 x2 x3 x4 x5) _ b t k h0 h1 rfl).trans (square_apply x0 x1 x2 x3 x4 x5 b t k)

theorem layer_apply (b : Fin 2) (t : Fin 16384) (n : Fin 1024) :
    val_main_v40 (F := Ideal) x0 x1 x2 x3 x4 x5 x6 x7 (ix3 b t n) = Cert.OutSpec.layer x0 x1 x2 x3 x4 x5 x6 x7 b t n := by
  rw [val_main_v40_apply, val_main_v37_apply, val_main_v34_apply, val_main_v29_apply, val_main_v28_apply, residual_apply,
    mean_apply x0 x1 x2 x3 x4 x5 _ b t rfl rfl, val_main_v33_apply, scale_apply x0 x1 x2 x3 x4 x5 _ b t rfl rfl,
    val_main_v36_apply, val_main_v35_apply, val_main_v39_apply, val_main_v38_apply]
  unfold Cert.OutSpec.layer Cert.OutSpec.normed
  exact congrArg₂ (fun a b : EReal => a + b) (congrArg₂ (fun a b : EReal => a * b) rfl (entry1 x6 _ n rfl)) (entry1 x7 _ n rfl)

theorem out_eq : val_main_v40 (F := Ideal) x0 x1 x2 x3 x4 x5 x6 x7 = Cert.OutSpec.out x0 x1 x2 x3 x4 x5 x6 x7 :=
  funext fun i => (entry3 (val_main_v40 (F := Ideal) x0 x1 x2 x3 x4 x5 x6 x7) i ⟨(i 0).val, (i 0).isLt⟩ ⟨(i 1).val, (i 1).isLt⟩ ⟨(i 2).val, (i 2).isLt⟩
    rfl rfl rfl).trans (layer_apply x0 x1 x2 x3 x4 x5 x6 x7 _ _ _)

end Cert.Reference2Ideal.Hand

end
-- ==== Proof.OutAgree.lean ====
/-
The output projection: the frames, and the kernel's result and the reference's are equal.
-/
module

public import proofs.«01_k».proof.Defs
public import proofs.«01_k».proof.Proof.OutResults
public import proofs.«01_k».proof.Proof.OutReference
public import proofs.«01_k».proof.Proof.Gen.Kernel2
public import proofs.«01_k».proof.Proof.Gen.Kernel2Ideal
public import proofs.«01_k».proof.Proof.Gen.Reference2Ideal
public import Idealize.ShloMosaic.Lib.Quiescent

@[expose] public section

noncomputable section

namespace Cert.Proof

open Idealize.ShloMosaic Idealize.SL.Sem

section
variable {F : FTy → Type} [FloatOps F]

set_option maxHeartbeats 4000000 in
/-- The output projection's two prints have one kernel body. -/
theorem out_bodies_eq : Cert.Kernel2.defs₀ (F := F) = Cert.Kernel2Ideal.defs₀ := by
  unfold Cert.Kernel2.defs₀ Cert.Kernel2Ideal.defs₀
  refine congrArg Defs.onTc (funext fun l => funext fun a => ?_)
  match l, a with
  | 0, (t, s) => rfl

theorem out_defs_eq : Cert.Kernel2.defs (F := F) = Cert.Kernel2Ideal.defs :=
  congrArg (Pipeline.defs Cert.Kernel2Ideal.pcfgs) out_bodies_eq

/-- They are one program around it. -/
theorem out_main_eq : Cert.Kernel2.main (F := F) = Cert.Kernel2Ideal.main := rfl

end

theorem frame_out_kernel : Cert.quiescent_Kernel2 := fun m ρ _ => by
  rw [out_defs_eq, out_main_eq]
  exact Cert.Kernel2Ideal.Hand.run_main (F := Bits) m ρ

theorem frame_out_ideal : Cert.quiescent_Kernel2Ideal := fun m ρ _ => Cert.Kernel2Ideal.Hand.run_main m ρ

theorem frame_out_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem agree_out : Cert.algebraic_Kernel2Ideal_Reference2Ideal := by
  intro m ρ m' ρ' _ he
  refine ⟨Cert.Kernel2Ideal.Hand.valOut m, ?_, ?_⟩
  · refine (θ_run Cert.Kernel2Ideal.defs _ _).mono (fun r h c => ?_) (Idealize.ShloMosaic.θ_run_and
      (Cert.Kernel2Ideal.Hand.run_results m ρ) (Cert.Kernel2Ideal.Hand.run_main m ρ))
    exact ⟨h.1 c, h.2.1 c⟩
  · refine (θ_run Cert.Reference2Ideal.defs _ _).mono (fun r k c => ?_) (Cert.Reference2Ideal.Value.run m' ρ')
    obtain ⟨h0, h1, h2, h3, h4, h5, h6, h7⟩ := he c
    refine ⟨(k c).1.trans ((Cert.Reference2Ideal.Read.val_main_v40_eq m' c).trans
      ((Cert.Reference2Ideal.Hand.out_eq _ _ _ _ _ _ _ _).trans ?_)), (k c).2⟩
    show Cert.OutSpec.out _ _ _ _ _ _ _ _ = Cert.OutSpec.out _ _ _ _ _ _ _ _
    unfold Cert.Kernel2Ideal.Hand.outX Cert.Kernel2Ideal.Hand.outY Cert.Kernel2Ideal.Hand.outP Cert.Kernel2Ideal.Hand.outM
      Cert.Kernel2Ideal.Hand.outW Cert.Kernel2Ideal.Hand.outB Cert.Kernel2Ideal.Hand.outG Cert.Kernel2Ideal.Hand.outT
    rw [← h0, ← h1, ← h2, ← h3, ← h4, ← h5, ← h6, ← h7]

end Cert.Proof

end
-- ==== Proof.lean ====
/-
The proof of everything claimed of the two kernels.
-/
module

public import proofs.«01_k».proof.Proof.Frames
public import proofs.«01_k».proof.Proof.Agree
public import proofs.«01_k».proof.Proof.OutAgree
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Gen.facts,
  frame_kernel, frame_ideal, frame_ideal_finite, frame_reference, frame_reference_finite,
  frame_out_kernel, frame_out_ideal, frame_out_reference, trivial, agree, trivial, agree_out⟩

end Cert.Proof

end
